-- ==== Defs.lean ====
def Pre_Kernel [hPre_routes_in_range : Cert.Pre_routes_in_range.Facts] (m : (ℓ : Loc Cert.Kernel.nD Cert.Kernel.τ Cert.Kernel.sig) → Buf (Elt Bits) ℓ) : Prop :=
  ∀ c : Dev Cert.Kernel.nD,
    (Cert.Pre_routes_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_routes_in_range : Cert.Pre_routes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_routes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_routes_in_range : Cert.Pre_routes_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routes_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteIdeal_finite [hPre_finite : Cert.Pre_finite.Facts] (m : (ℓ : Loc Cert.RouteIdeal.nD Cert.RouteIdeal.τ Cert.RouteIdeal.sig) → Buf (Elt Ideal) ℓ) : Prop :=
  ∀ c : Dev Cert.RouteIdeal.nD,
    (Cert.Pre_finite.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2))) = (fun _ => 1#1)

def Pre_RouteReferenceIdeal (m : (ℓ : Loc Cert.RouteReferenceIdeal.nD Cert.RouteReferenceIdeal.τ Cert.RouteReferenceIdeal.sig) → Buf (Elt Ideal) ℓ) : Prop :=
  True

def Pre_RouteReferenceIdeal_finite [hPre_finite : Cert.Pre_finite.Facts] (m : (ℓ : Loc Cert.RouteReferenceIdeal.nD Cert.RouteReferenceIdeal.τ Cert.RouteReferenceIdeal.sig) → Buf (Elt Ideal) ℓ) : Prop :=
  ∀ c : Dev Cert.RouteReferenceIdeal.nD,
    (Cert.Pre_finite.fn (F := Ideal) (m ((c.tc : Thread Cert.RouteReferenceIdeal.nD Cert.RouteReferenceIdeal.τ).loc Cert.RouteReferenceIdeal.main_arg0)) (m ((c.tc : Thread Cert.RouteReferenceIdeal.nD Cert.RouteReferenceIdeal.τ).loc Cert.RouteReferenceIdeal.main_arg1)) (m ((c.tc : Thread Cert.RouteReferenceIdeal.nD Cert.RouteReferenceIdeal.τ).loc Cert.RouteReferenceIdeal.main_arg2))) = (fun _ => 1#1)

def quiescent_Kernel [hKernel : Cert.Kernel.Facts] [hPre_routes_in_range : Cert.Pre_routes_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_routes_in_range : Cert.Pre_routes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] [hPre_routes_in_range : Cert.Pre_routes_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ r.2.sem = fun _ => 0)

def quiescent_RouteIdeal_pre_finite [hRouteIdeal : Cert.RouteIdeal.Facts] [hPre_finite : Cert.Pre_finite.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal_finite m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ r.2.sem = fun _ => 0)

def quiescent_RouteReferenceIdeal [hRouteReferenceIdeal : Cert.RouteReferenceIdeal.Facts] : Prop :=
  ∀ (m : (ℓ : Loc Cert.RouteReferenceIdeal.nD Cert.RouteReferenceIdeal.τ Cert.RouteReferenceIdeal.sig) → Buf (Elt Ideal) ℓ) (g : Dev Cert.RouteReferenceIdeal.nD → PrngReg), Pre_RouteReferenceIdeal m →
    θ_run (Cert.RouteReferenceIdeal.defs (F := Ideal)) (onTc (τ := Cert.RouteReferenceIdeal.τ) (Cert.RouteReferenceIdeal.main (F := Ideal))) ⟨m, fun _ => 0, g⟩ (fun r => (∀ c : Dev Cert.RouteReferenceIdeal.nD,
      r.2.mem ((c.tc : Thread Cert.RouteReferenceIdeal.nD Cert.RouteReferenceIdeal.τ).loc Cert.RouteReferenceIdeal.main_arg0) = m ((c.tc : Thread Cert.RouteReferenceIdeal.nD Cert.RouteReferenceIdeal.τ).loc Cert.RouteReferenceIdeal.main_arg0)
      ∧ r.2.mem ((c.tc : Thread Cert.RouteReferenceIdeal.nD Cert.RouteReferenceIdeal.τ).loc Cert.RouteReferenceIdeal.main_arg1) = m ((c.tc : Thread Cert.RouteReferenceIdeal.nD Cert.RouteReferenceIdeal.τ).loc Cert.RouteReferenceIdeal.main_arg1)
      ∧ r.2.mem ((c.tc : Thread Cert.RouteReferenceIdeal.nD Cert.RouteReferenceIdeal.τ).loc Cert.RouteReferenceIdeal.main_arg2) = m ((c.tc : Thread Cert.RouteReferenceIdeal.nD Cert.RouteReferenceIdeal.τ).loc Cert.RouteReferenceIdeal.main_arg2))
      ∧ r.2.sem = fun _ => 0)

def quiescent_RouteReferenceIdeal_pre_finite [hRouteReferenceIdeal : Cert.RouteReferenceIdeal.Facts] [hPre_finite : Cert.Pre_finite.Facts] : Prop :=
  ∀ (m : (ℓ : Loc Cert.RouteReferenceIdeal.nD Cert.RouteReferenceIdeal.τ Cert.RouteReferenceIdeal.sig) → Buf (Elt Ideal) ℓ) (g : Dev Cert.RouteReferenceIdeal.nD → PrngReg), Pre_RouteReferenceIdeal_finite m →
    θ_run (Cert.RouteReferenceIdeal.defs (F := Ideal)) (onTc (τ := Cert.RouteReferenceIdeal.τ) (Cert.RouteReferenceIdeal.main (F := Ideal))) ⟨m, fun _ => 0, g⟩ (fun r => (∀ c : Dev Cert.RouteReferenceIdeal.nD,
      r.2.mem ((c.tc : Thread Cert.RouteReferenceIdeal.nD Cert.RouteReferenceIdeal.τ).loc Cert.RouteReferenceIdeal.main_arg0) = m ((c.tc : Thread Cert.RouteReferenceIdeal.nD Cert.RouteReferenceIdeal.τ).loc Cert.RouteReferenceIdeal.main_arg0)
      ∧ r.2.mem ((c.tc : Thread Cert.RouteReferenceIdeal.nD Cert.RouteReferenceIdeal.τ).loc Cert.RouteReferenceIdeal.main_arg1) = m ((c.tc : Thread Cert.RouteReferenceIdeal.nD Cert.RouteReferenceIdeal.τ).loc Cert.RouteReferenceIdeal.main_arg1)
      ∧ r.2.mem ((c.tc : Thread Cert.RouteReferenceIdeal.nD Cert.RouteReferenceIdeal.τ).loc Cert.RouteReferenceIdeal.main_arg2) = m ((c.tc : Thread Cert.RouteReferenceIdeal.nD Cert.RouteReferenceIdeal.τ).loc Cert.RouteReferenceIdeal.main_arg2))
      ∧ r.2.sem = fun _ => 0)

def preserves_Kernel_KernelIdeal : Prop :=
  IdealRules.named_const.Statement Cert.KernelIdeal.κ "scale" .f32 0x3DD105EC#32 (((Real.sqrt 96)⁻¹ : ℝ) : EReal)

def algebraic_KernelIdeal_ReferenceIdeal [hKernelIdeal : Cert.KernelIdeal.Facts] [hReferenceIdeal : Cert.ReferenceIdeal.Facts] [hPre_routes_in_range : Cert.Pre_routes_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v245) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Route_RouteIdeal : Prop :=
  IdealRules.named_const.Statement Cert.RouteIdeal.κ "mask" .f32 0xF149F2CA#32 ⊥

def algebraic_RouteIdeal_RouteReferenceIdeal_pre_finite [hRouteIdeal : Cert.RouteIdeal.Facts] [hRouteReferenceIdeal : Cert.RouteReferenceIdeal.Facts] [hPre_finite : Cert.Pre_finite.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteReferenceIdeal.nD Cert.RouteReferenceIdeal.τ Cert.RouteReferenceIdeal.sig) → Buf (Elt Ideal) ℓ) (g' : Dev Cert.RouteReferenceIdeal.nD → PrngReg), Pre_RouteIdeal_finite m →
    (∀ c : Dev Cert.RouteIdeal.nD,
      m' ((c.tc : Thread Cert.RouteReferenceIdeal.nD Cert.RouteReferenceIdeal.τ).loc Cert.RouteReferenceIdeal.main_arg0) = m ((c.tc : Thread Cert.RouteIdeal.nD Cert.RouteIdeal.τ).loc Cert.RouteIdeal.main_arg0)
      ∧ m' ((c.tc : Thread Cert.RouteReferenceIdeal.nD Cert.RouteReferenceIdeal.τ).loc Cert.RouteReferenceIdeal.main_arg1) = m ((c.tc : Thread Cert.RouteIdeal.nD Cert.RouteIdeal.τ).loc Cert.RouteIdeal.main_arg1)
      ∧ m' ((c.tc : Thread Cert.RouteReferenceIdeal.nD Cert.RouteReferenceIdeal.τ).loc Cert.RouteReferenceIdeal.main_arg2) = m ((c.tc : Thread Cert.RouteIdeal.nD Cert.RouteIdeal.τ).loc Cert.RouteIdeal.main_arg2)) →
    ∃ (v0 : (c : Dev Cert.RouteIdeal.nD) → Buf (Elt Ideal) ((c.tc : Thread Cert.RouteIdeal.nD Cert.RouteIdeal.τ).loc Cert.RouteIdeal.main_v5)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v5) = v0 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ θ_run (Cert.RouteReferenceIdeal.defs (F := Ideal)) (onTc (τ := Cert.RouteReferenceIdeal.τ) (Cert.RouteReferenceIdeal.main (F := Ideal))) ⟨m', fun _ => 0, g'⟩ (fun r => ∀ c : Dev Cert.RouteReferenceIdeal.nD,
          r.2.mem ((c.tc : Thread Cert.RouteReferenceIdeal.nD Cert.RouteReferenceIdeal.τ).loc Cert.RouteReferenceIdeal.main_v18) = v0 c
          ∧ r.2.mem ((c.tc : Thread Cert.RouteReferenceIdeal.nD Cert.RouteReferenceIdeal.τ).loc Cert.RouteReferenceIdeal.main_arg0) = m' ((c.tc : Thread Cert.RouteReferenceIdeal.nD Cert.RouteReferenceIdeal.τ).loc Cert.RouteReferenceIdeal.main_arg0)
          ∧ r.2.mem ((c.tc : Thread Cert.RouteReferenceIdeal.nD Cert.RouteReferenceIdeal.τ).loc Cert.RouteReferenceIdeal.main_arg1) = m' ((c.tc : Thread Cert.RouteReferenceIdeal.nD Cert.RouteReferenceIdeal.τ).loc Cert.RouteReferenceIdeal.main_arg1)
          ∧ r.2.mem ((c.tc : Thread Cert.RouteReferenceIdeal.nD Cert.RouteReferenceIdeal.τ).loc Cert.RouteReferenceIdeal.main_arg2) = m' ((c.tc : Thread Cert.RouteReferenceIdeal.nD Cert.RouteReferenceIdeal.τ).loc Cert.RouteReferenceIdeal.main_arg2))

def Claim : Prop :=
  ∃ (hKernel : Cert.Kernel.Facts) (hKernelIdeal : Cert.KernelIdeal.Facts) (hReferenceIdeal : Cert.ReferenceIdeal.Facts) (hRoute : Cert.Route.Facts) (hRouteIdeal : Cert.RouteIdeal.Facts) (hRouteReferenceIdeal : Cert.RouteReferenceIdeal.Facts) (hPre_routes_in_range : Cert.Pre_routes_in_range.Facts) (hPre_finite : Cert.Pre_finite.Facts),
    quiescent_Kernel (hKernel := hKernel) (hPre_routes_in_range := hPre_routes_in_range)
    ∧ quiescent_KernelIdeal (hKernelIdeal := hKernelIdeal) (hPre_routes_in_range := hPre_routes_in_range)
    ∧ quiescent_ReferenceIdeal (hReferenceIdeal := hReferenceIdeal) (hPre_routes_in_range := hPre_routes_in_range)
    ∧ quiescent_Route (hRoute := hRoute)
    ∧ quiescent_RouteIdeal (hRouteIdeal := hRouteIdeal)
    ∧ quiescent_RouteIdeal_pre_finite (hRouteIdeal := hRouteIdeal) (hPre_finite := hPre_finite)
    ∧ quiescent_RouteReferenceIdeal (hRouteReferenceIdeal := hRouteReferenceIdeal)
    ∧ quiescent_RouteReferenceIdeal_pre_finite (hRouteReferenceIdeal := hRouteReferenceIdeal) (hPre_finite := hPre_finite)
    ∧ preserves_Kernel_KernelIdeal
    ∧ algebraic_KernelIdeal_ReferenceIdeal (hKernelIdeal := hKernelIdeal) (hReferenceIdeal := hReferenceIdeal) (hPre_routes_in_range := hPre_routes_in_range)
    ∧ preserves_Route_RouteIdeal
    ∧ algebraic_RouteIdeal_RouteReferenceIdeal_pre_finite (hRouteIdeal := hRouteIdeal) (hRouteReferenceIdeal := hRouteReferenceIdeal) (hPre_finite := hPre_finite)
-- ==== Pre_finite.lean ====
abbrev S16x1024x768 : Shape := ⟨3, ![16, 1024, 768]⟩
abbrev S768x2304 : Shape := ⟨2, ![768, 2304]⟩
abbrev S2304 : Shape := ⟨1, ![2304]⟩
abbrev S_ : Shape := ⟨0, ![]⟩

class Facts : Prop where
  bcast_S_S16x1024x768 : S_.BroadcastsInDim S16x1024x768 (![] : Fin 0 → Fin S16x1024x768.rank)
  reducesTo_S16x1024x768_S_d0_1_2 : S16x1024x768.ReducesTo [0, 1, 2] S_
  h_S_ : 0 < S_.numel
  bcast_S_S768x2304 : S_.BroadcastsInDim S768x2304 (![] : Fin 0 → Fin S768x2304.rank)
  reducesTo_S768x2304_S_d0_1 : S768x2304.ReducesTo [0, 1] S_
  bcast_S_S2304 : S_.BroadcastsInDim S2304 (![] : Fin 0 → Fin S2304.rank)
  reducesTo_S2304_S_d0 : S2304.ReducesTo [0] S_

variable [Facts]

def fn {F : FTy → Type} [FloatOps F] (main_arg0 : FVec F S16x1024x768 .f32) (main_arg1 : FVec F S768x2304 .f32) (main_arg2 : FVec F S2304 .f32) : IVec S_ 1 :=
  let main_v0 : FVec F S16x1024x768 .f32 := Host.absf main_arg0
  let main_cst : FVec F S_ .f32 := constant S_ .f32 0x7F800000#32
  let main_v1 : FVec F S16x1024x768 .f32 := broadcastInDim S16x1024x768 ![] bcast_S_S16x1024x768 main_cst
  let main_v2 : IVec S16x1024x768 1 := cmpf .olt main_v0 main_v1
  let main_c : IVec S_ 1 := constantI S_ 1 1#1
  let main_v3 : IVec S_ 1 := (fun x v => Host.reduce IntOp.andi x v reducesTo_S16x1024x768_S_d0_1_2 h_S_) main_v2 main_c
  let main_v4 : FVec F S768x2304 .f32 := Host.absf main_arg1
  let main_cst_0 : FVec F S_ .f32 := constant S_ .f32 0x7F800000#32
  let main_v5 : FVec F S768x2304 .f32 := broadcastInDim S768x2304 ![] bcast_S_S768x2304 main_cst_0
  let main_v6 : IVec S768x2304 1 := cmpf .olt main_v4 main_v5
  let main_c_1 : IVec S_ 1 := constantI S_ 1 1#1
  let main_v7 : IVec S_ 1 := (fun x v => Host.reduce IntOp.andi x v reducesTo_S768x2304_S_d0_1 h_S_) main_v6 main_c_1
  let main_v8 : IVec S_ 1 := andi main_v3 main_v7
  let main_v9 : FVec F S2304 .f32 := Host.absf main_arg2
  let main_cst_2 : FVec F S_ .f32 := constant S_ .f32 0x7F800000#32
  let main_v10 : FVec F S2304 .f32 := broadcastInDim S2304 ![] bcast_S_S2304 main_cst_2
  let main_v11 : IVec S2304 1 := cmpf .olt main_v9 main_v10
  let main_c_3 : IVec S_ 1 := constantI S_ 1 1#1
  let main_v12 : IVec S_ 1 := (fun x v => Host.reduce IntOp.andi x v reducesTo_S2304_S_d0 h_S_) main_v11 main_c_3
  let main_v13 : IVec S_ 1 := andi main_v8 main_v12
  main_v13
-- ==== Pre_routes_in_range.lean ====
abbrev S16x8x16 : Shape := ⟨3, ![16, 8, 16]⟩
abbrev S16x1024x768 : Shape := ⟨3, ![16, 1024, 768]⟩
abbrev S768x2304 : Shape := ⟨2, ![768, 2304]⟩
abbrev S2304 : Shape := ⟨1, ![2304]⟩
abbrev S768x768 : Shape := ⟨2, ![768, 768]⟩
abbrev S768 : Shape := ⟨1, ![768]⟩
abbrev S768x1x5x5 : Shape := ⟨4, ![768, 1, 5, 5]⟩
abbrev S16x4x16 : Shape := ⟨3, ![16, 4, 16]⟩
abbrev S_ : Shape := ⟨0, ![]⟩

class Facts : Prop where
  slices_S16x8x16_S16x4x16_0_0_0 : S16x8x16.Slices ![0, 0, 0] S16x4x16
  bcast_S_S16x4x16 : S_.BroadcastsInDim S16x4x16 (![] : Fin 0 → Fin S16x4x16.rank)

variable [Facts]

def fn {F : FTy → Type} [FloatOps F] (main_arg0 : IVec S16x8x16 32) (main_arg1 : FVec F S16x1024x768 .f32) (main_arg2 : FVec F S768x2304 .f32) (main_arg3 : FVec F S2304 .f32) (main_arg4 : FVec F S768x768 .f32) (main_arg5 : FVec F S768 .f32) (main_arg6 : FVec F S768x1x5x5 .f32) (main_arg7 : FVec F S768 .f32) : IVec S16x4x16 1 :=
  let main_v0 : IVec S16x4x16 32 := (extractStridedSlice S16x4x16 ![0, 0, 0] · slices_S16x8x16_S16x4x16_0_0_0) main_arg0
  let main_c : IVec S_ 32 := constantI S_ 32 0#32
  let main_v1 : IVec S16x4x16 32 := broadcastInDim S16x4x16 ![] bcast_S_S16x4x16 main_c
  let main_v2 : IVec S16x4x16 1 := cmpi .sge main_v0 main_v1
  let main_c_0 : IVec S_ 32 := constantI S_ 32 16#32
  let main_v3 : IVec S16x4x16 32 := broadcastInDim S16x4x16 ![] bcast_S_S16x4x16 main_c_0
  let main_v4 : IVec S16x4x16 1 := cmpi .slt main_v0 main_v3
  let main_v5 : IVec S16x4x16 1 := andi main_v2 main_v4
  main_v5
-- ==== Kernel.lean ====
abbrev S16x8x16 : Shape := ⟨3, ![16, 8, 16]⟩
abbrev S16x1024x768 : Shape := ⟨3, ![16, 1024, 768]⟩
abbrev S768x2304 : Shape := ⟨2, ![768, 2304]⟩
abbrev S2304 : Shape := ⟨1, ![2304]⟩
abbrev S768x768 : Shape := ⟨2, ![768, 768]⟩
abbrev S768 : Shape := ⟨1, ![768]⟩
abbrev S768x1x5x5 : Shape := ⟨4, ![768, 1, 5, 5]⟩
abbrev S768x24x96 : Shape := ⟨3, ![768, 24, 96]⟩
abbrev S_ : Shape := ⟨0, ![]⟩
abbrev S768x24x128 : Shape := ⟨3, ![768, 24, 128]⟩
abbrev S768x3072 : Shape := ⟨2, ![768, 3072]⟩
abbrev S24x96 : Shape := ⟨2, ![24, 96]⟩
abbrev S24x128 : Shape := ⟨2, ![24, 128]⟩
abbrev S3072 : Shape := ⟨1, ![3072]⟩
abbrev S1x3072 : Shape := ⟨2, ![1, 3072]⟩
abbrev S8x96x768 : Shape := ⟨3, ![8, 96, 768]⟩
abbrev S8x128x768 : Shape := ⟨3, ![8, 128, 768]⟩
abbrev S1024x768 : Shape := ⟨2, ![1024, 768]⟩
abbrev S768x25 : Shape := ⟨2, ![768, 25]⟩
abbrev S25x768 : Shape := ⟨2, ![25, 768]⟩
abbrev S25x8x96 : Shape := ⟨3, ![25, 8, 96]⟩
abbrev S25x8x128 : Shape := ⟨3, ![25, 8, 128]⟩
abbrev S25x1024 : Shape := ⟨2, ![25, 1024]⟩
abbrev S8x96 : Shape := ⟨2, ![8, 96]⟩
abbrev S8x128 : Shape := ⟨2, ![8, 128]⟩
abbrev S1024 : Shape := ⟨1, ![1024]⟩
abbrev S1x8x128 : Shape := ⟨3, ![1, 8, 128]⟩
abbrev S1x768 : Shape := ⟨2, ![1, 768]⟩
abbrev S1x1024x768 : Shape := ⟨3, ![1, 1024, 768]⟩
abbrev S4x8x4x8x1024 : Shape := ⟨5, ![4, 8, 4, 8, 1024]⟩
abbrev S1332x8x128 : Shape := ⟨3, ![1332, 8, 128]⟩
abbrev S768x1024 : Shape := ⟨2, ![768, 1024]⟩
abbrev S1024x1024 : Shape := ⟨2, ![1024, 1024]⟩
abbrev S1x1024 : Shape := ⟨2, ![1, 1024]⟩
abbrev S1024x8x128 : Shape := ⟨3, ![1024, 8, 128]⟩
abbrev S32x8x128 : Shape := ⟨3, ![32, 8, 128]⟩
abbrev S1152x8x128 : Shape := ⟨3, ![1152, 8, 128]⟩
abbrev S32x36x8x128 : Shape := ⟨4, ![32, 36, 8, 128]⟩
abbrev S32x32x8x128 : Shape := ⟨4, ![32, 32, 8, 128]⟩
abbrev S1x8x1x8x1024 : Shape := ⟨5, ![1, 8, 1, 8, 1024]⟩
abbrev S8x8x1024 : Shape := ⟨3, ![8, 8, 1024]⟩
abbrev S64x1024 : Shape := ⟨2, ![64, 1024]⟩
abbrev S1x1x1 : Shape := ⟨3, ![1, 1, 1]⟩
abbrev S256x1024 : Shape := ⟨2, ![256, 1024]⟩
abbrev S64x128 : Shape := ⟨2, ![64, 128]⟩
abbrev S256x128 : Shape := ⟨2, ![256, 128]⟩
abbrev S64x256 : Shape := ⟨2, ![64, 256]⟩
abbrev S64 : Shape := ⟨1, ![64]⟩
abbrev S64x1 : Shape := ⟨2, ![64, 1]⟩
abbrev S8x1024 : Shape := ⟨2, ![8, 1024]⟩

abbrev nBuf : Space → Nat
  | .hbm => 41
  | .vmem => 13
  | .smem => 1
  | _ => 0

abbrev bufTy : (tb : Table) → Fin (tcTables nBuf tb) → BufTy
  | .hbm, ⟨0, _⟩ => ⟨S16x1024x768, .f32⟩
  | .hbm, ⟨1, _⟩ => ⟨S768x2304, .f32⟩
  | .hbm, ⟨2, _⟩ => ⟨S2304, .f32⟩
  | .hbm, ⟨3, _⟩ => ⟨S768x768, .f32⟩
  | .hbm, ⟨4, _⟩ => ⟨S768, .f32⟩
  | .hbm, ⟨5, _⟩ => ⟨S768x1x5x5, .f32⟩
  | .hbm, ⟨6, _⟩ => ⟨S768, .f32⟩
  | .hbm, ⟨7, _⟩ => ⟨S768x24x96, .f32⟩
  | .hbm, ⟨8, _⟩ => ⟨S_, .i32⟩
  | .hbm, ⟨9, _⟩ => ⟨S_, .f32⟩
  | .hbm, ⟨10, _⟩ => ⟨S768x24x128, .f32⟩
  | .hbm, ⟨11, _⟩ => ⟨S768x3072, .f32⟩
  | .hbm, ⟨12, _⟩ => ⟨S768x3072, .bf16⟩
  | .hbm, ⟨13, _⟩ => ⟨S24x96, .f32⟩
  | .hbm, ⟨14, _⟩ => ⟨S_, .i32⟩
  | .hbm, ⟨15, _⟩ => ⟨S_, .f32⟩
  | .hbm, ⟨16, _⟩ => ⟨S24x128, .f32⟩
  | .hbm, ⟨17, _⟩ => ⟨S3072, .f32⟩
  | .hbm, ⟨18, _⟩ => ⟨S1x3072, .f32⟩
  | .hbm, ⟨19, _⟩ => ⟨S8x96x768, .f32⟩
  | .hbm, ⟨20, _⟩ => ⟨S_, .i32⟩
  | .hbm, ⟨21, _⟩ => ⟨S_, .f32⟩
  | .hbm, ⟨22, _⟩ => ⟨S8x128x768, .f32⟩
  | .hbm, ⟨23, _⟩ => ⟨S1024x768, .f32⟩
  | .hbm, ⟨24, _⟩ => ⟨S1024x768, .bf16⟩
  | .hbm, ⟨25, _⟩ => ⟨S768x25, .f32⟩
  | .hbm, ⟨26, _⟩ => ⟨S25x768, .f32⟩
  | .hbm, ⟨27, _⟩ => ⟨S25x8x96, .f32⟩
  | .hbm, ⟨28, _⟩ => ⟨S_, .i32⟩
  | .hbm, ⟨29, _⟩ => ⟨S_, .f32⟩
  | .hbm, ⟨30, _⟩ => ⟨S25x8x128, .f32⟩
  | .hbm, ⟨31, _⟩ => ⟨S25x1024, .f32⟩
  | .hbm, ⟨32, _⟩ => ⟨S25x8x128, .f32⟩
  | .hbm, ⟨33, _⟩ => ⟨S8x96, .f32⟩
  | .hbm, ⟨34, _⟩ => ⟨S_, .i32⟩
  | .hbm, ⟨35, _⟩ => ⟨S_, .f32⟩
  | .hbm, ⟨36, _⟩ => ⟨S8x128, .f32⟩
  | .hbm, ⟨37, _⟩ => ⟨S1024, .f32⟩
  | .hbm, ⟨38, _⟩ => ⟨S1x8x128, .f32⟩
  | .hbm, ⟨39, _⟩ => ⟨S1x768, .f32⟩
  | .hbm, ⟨40, _⟩ => ⟨S16x1024x768, .f32⟩
  | .local _ .vmem, ⟨0, _⟩ => ⟨S1x1024x768, .f32⟩
  | .local _ .vmem, ⟨1, _⟩ => ⟨S1x1024x768, .f32⟩
  | .local _ .vmem, ⟨2, _⟩ => ⟨S768x3072, .bf16⟩
  | .local _ .vmem, ⟨3, _⟩ => ⟨S1x3072, .f32⟩
  | .local _ .vmem, ⟨4, _⟩ => ⟨S25x8x128, .f32⟩
  | .local _ .vmem, ⟨5, _⟩ => ⟨S1x8x128, .f32⟩
  | .local _ .vmem, ⟨6, _⟩ => ⟨S1024x768, .bf16⟩
  | .local _ .vmem, ⟨7, _⟩ => ⟨S1x768, .f32⟩
  | .local _ .vmem, ⟨8, _⟩ => ⟨S1x1024x768, .f32⟩
  | .local _ .vmem, ⟨9, _⟩ => ⟨S1x1024x768, .f32⟩
  | .local _ .vmem, ⟨10, _⟩ => ⟨S4x8x4x8x1024, .bf16⟩
  | .local _ .vmem, ⟨11, _⟩ => ⟨S4x8x4x8x1024, .bf16⟩
  | .local _ .vmem, ⟨12, _⟩ => ⟨S1332x8x128, .bf16⟩
  | .local _ .smem, ⟨0, _⟩ => ⟨S16x8x16, .i32⟩
  | _, _ => ⟨S16x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_call2_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_call3_v0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_call4_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 3 → Nat :=
  let arg0 : BitVec 32 := BitVec.ofNat 32 (i 0).val
  let v383 : Index := Scalar.indexCast arg0
  let c0_150 : Index := 0#32
  let c0_151 : Index := 0#32
  ![v383.toNat, 0, 0]
def k0_off2 (v384 : BitVec 32) : Fin 5 → Nat :=
  let c0_i32 : BitVec 32 := 0#32
  let v386 : BitVec 1 := Scalar.cmpi .sgt v384 c0_i32
  let v387 : BitVec 32 := Scalar.extui v386
  let c0_i32_152 : BitVec 32 := 0#32
  let v388 : BitVec 1 := Scalar.cmpi .slt v384 c0_i32_152
  let v389 : BitVec 32 := Scalar.extui v388
  let v390 : BitVec 32 := Scalar.subi v387 v389
  let c4_i32 : BitVec 32 := 4#32
  let c0_i32_153 : BitVec 32 := 0#32
  let v391 : BitVec 1 := Scalar.cmpi .sgt c4_i32 c0_i32_153
  let v392 : BitVec 32 := Scalar.extui v391
  let c0_i32_154 : BitVec 32 := 0#32
  let v393 : BitVec 1 := Scalar.cmpi .slt c4_i32 c0_i32_154
  let v394 : BitVec 32 := Scalar.extui v393
  let v395 : BitVec 32 := Scalar.subi v392 v394
  let v396 : BitVec 1 := Scalar.cmpi .ne v390 v395
  let v397 : BitVec 32 := Scalar.remsi v384 c4_i32
  let c0_i32_155 : BitVec 32 := 0#32
  let v398 : BitVec 1 := Scalar.cmpi .ne v397 c0_i32_155
  let v399 : BitVec 1 := Scalar.andi v396 v398
  let v385 : BitVec 32 := Scalar.divsi v384 c4_i32
  let c1_i32 : BitVec 32 := 1#32
  let v400 : BitVec 32 := Scalar.subi v385 c1_i32
  let v401 : BitVec 32 := Scalar.select v399 v400 v385
  let v412 : Index := Scalar.indexCast v401
  let c0_162 : Index := 0#32
  let c4_i32_156 : BitVec 32 := 4#32
  let c0_i32_157 : BitVec 32 := 0#32
  let v402 : BitVec 1 := Scalar.cmpi .eq c4_i32_156 c0_i32_157
  let c1_i32_158 : BitVec 32 := 1#32
  let v403 : BitVec 32 := Scalar.select v402 c1_i32_158 c4_i32_156
  let v404 : BitVec 32 := Scalar.remsi v384 v403
  let c0_i32_160 : BitVec 32 := 0#32
  let v406 : BitVec 1 := Scalar.cmpi .slt v404 c0_i32_160
  let c0_i32_161 : BitVec 32 := 0#32
  let v407 : BitVec 1 := Scalar.cmpi .slt v403 c0_i32_161
  let v408 : BitVec 1 := Scalar.xori v406 v407
  let c0_i32_159 : BitVec 32 := 0#32
  let v405 : BitVec 1 := Scalar.cmpi .ne v404 c0_i32_159
  let v409 : BitVec 1 := Scalar.andi v408 v405
  let v410 : BitVec 32 := Scalar.addi v404 v403
  let v411 : BitVec 32 := Scalar.select v409 v410 v404
  let v413 : Index := Scalar.indexCast v411
  let c0_163 : Index := 0#32
  let c0_164 : Index := 0#32
  ![v412.toNat, 0, v413.toNat, 0, 0]

def k0_chk1 (v384 : BitVec 32) : Prop :=
  (∀ a, (k0_off2 v384) a + S1x8x1x8x1024.size a ≤ S4x8x4x8x1024.size a)
theorem k0_off2_inb : ∀ (v384 : BitVec 32) (k0_hw1 : k0_chk1 v384), ∀ a, (k0_off2 v384) a + S1x8x1x8x1024.size a ≤ S4x8x4x8x1024.size a := fun v384 k0_hw1 => k0_hw1

def k0_off3 (i : grid0.Coords) : Fin 3 → Nat :=
  let arg0 : BitVec 32 := BitVec.ofNat 32 (i 0).val
  let v422 : Index := Scalar.indexCast arg0
  let c1_168 : Index := 1#32
  let c0_169 : Index := 0#32
  ![v422.toNat, 1, 0]
def k0_off4 (v423 : BitVec 32) : Fin 5 → Nat :=
  let c0_i32_171 : BitVec 32 := 0#32
  let v425 : BitVec 1 := Scalar.cmpi .sgt v423 c0_i32_171
  let v426 : BitVec 32 := Scalar.extui v425
  let c0_i32_172 : BitVec 32 := 0#32
  let v427 : BitVec 1 := Scalar.cmpi .slt v423 c0_i32_172
  let v428 : BitVec 32 := Scalar.extui v427
  let v429 : BitVec 32 := Scalar.subi v426 v428
  let c4_i32_170 : BitVec 32 := 4#32
  let c0_i32_173 : BitVec 32 := 0#32
  let v430 : BitVec 1 := Scalar.cmpi .sgt c4_i32_170 c0_i32_173
  let v431 : BitVec 32 := Scalar.extui v430
  let c0_i32_174 : BitVec 32 := 0#32
  let v432 : BitVec 1 := Scalar.cmpi .slt c4_i32_170 c0_i32_174
  let v433 : BitVec 32 := Scalar.extui v432
  let v434 : BitVec 32 := Scalar.subi v431 v433
  let v435 : BitVec 1 := Scalar.cmpi .ne v429 v434
  let v436 : BitVec 32 := Scalar.remsi v423 c4_i32_170
  let c0_i32_175 : BitVec 32 := 0#32
  let v437 : BitVec 1 := Scalar.cmpi .ne v436 c0_i32_175
  let v438 : BitVec 1 := Scalar.andi v435 v437
  let v424 : BitVec 32 := Scalar.divsi v423 c4_i32_170
  let c1_i32_176 : BitVec 32 := 1#32
  let v439 : BitVec 32 := Scalar.subi v424 c1_i32_176
  let v440 : BitVec 32 := Scalar.select v438 v439 v424
  let v451 : Index := Scalar.indexCast v440
  let c0_183 : Index := 0#32
  let c4_i32_177 : BitVec 32 := 4#32
  let c0_i32_178 : BitVec 32 := 0#32
  let v441 : BitVec 1 := Scalar.cmpi .eq c4_i32_177 c0_i32_178
  let c1_i32_179 : BitVec 32 := 1#32
  let v442 : BitVec 32 := Scalar.select v441 c1_i32_179 c4_i32_177
  let v443 : BitVec 32 := Scalar.remsi v423 v442
  let c0_i32_181 : BitVec 32 := 0#32
  let v445 : BitVec 1 := Scalar.cmpi .slt v443 c0_i32_181
  let c0_i32_182 : BitVec 32 := 0#32
  let v446 : BitVec 1 := Scalar.cmpi .slt v442 c0_i32_182
  let v447 : BitVec 1 := Scalar.xori v445 v446
  let c0_i32_180 : BitVec 32 := 0#32
  let v444 : BitVec 1 := Scalar.cmpi .ne v443 c0_i32_180
  let v448 : BitVec 1 := Scalar.andi v447 v444
  let v449 : BitVec 32 := Scalar.addi v443 v442
  let v450 : BitVec 32 := Scalar.select v448 v449 v443
  let v452 : Index := Scalar.indexCast v450
  let c0_184 : Index := 0#32
  let c0_185 : Index := 0#32
  ![v451.toNat, 0, v452.toNat, 0, 0]

def k0_chk2 (v423 : BitVec 32) : Prop :=
  (∀ a, (k0_off4 v423) a + S1x8x1x8x1024.size a ≤ S4x8x4x8x1024.size a)
theorem k0_off4_inb : ∀ (v423 : BitVec 32) (k0_hw2 : k0_chk2 v423), ∀ a, (k0_off4 v423) a + S1x8x1x8x1024.size a ≤ S4x8x4x8x1024.size a := fun v423 k0_hw2 => k0_hw2

def k0_off5 (i : grid0.Coords) : Fin 3 → Nat :=
  let arg0 : BitVec 32 := BitVec.ofNat 32 (i 0).val
  let v461 : Index := Scalar.indexCast arg0
  let c2_189 : Index := 2#32
  let c0_190 : Index := 0#32
  ![v461.toNat, 2, 0]
def k0_off6 (v462 : BitVec 32) : Fin 5 → Nat :=
  let c0_i32_192 : BitVec 32 := 0#32
  let v464 : BitVec 1 := Scalar.cmpi .sgt v462 c0_i32_192
  let v465 : BitVec 32 := Scalar.extui v464
  let c0_i32_193 : BitVec 32 := 0#32
  let v466 : BitVec 1 := Scalar.cmpi .slt v462 c0_i32_193
  let v467 : BitVec 32 := Scalar.extui v466
  let v468 : BitVec 32 := Scalar.subi v465 v467
  let c4_i32_191 : BitVec 32 := 4#32
  let c0_i32_194 : BitVec 32 := 0#32
  let v469 : BitVec 1 := Scalar.cmpi .sgt c4_i32_191 c0_i32_194
  let v470 : BitVec 32 := Scalar.extui v469
  let c0_i32_195 : BitVec 32 := 0#32
  let v471 : BitVec 1 := Scalar.cmpi .slt c4_i32_191 c0_i32_195
  let v472 : BitVec 32 := Scalar.extui v471
  let v473 : BitVec 32 := Scalar.subi v470 v472
  let v474 : BitVec 1 := Scalar.cmpi .ne v468 v473
  let v475 : BitVec 32 := Scalar.remsi v462 c4_i32_191
  let c0_i32_196 : BitVec 32 := 0#32
  let v476 : BitVec 1 := Scalar.cmpi .ne v475 c0_i32_196
  let v477 : BitVec 1 := Scalar.andi v474 v476
  let v463 : BitVec 32 := Scalar.divsi v462 c4_i32_191
  let c1_i32_197 : BitVec 32 := 1#32
  let v478 : BitVec 32 := Scalar.subi v463 c1_i32_197
  let v479 : BitVec 32 := Scalar.select v477 v478 v463
  let v490 : Index := Scalar.indexCast v479
  let c0_204 : Index := 0#32
  let c4_i32_198 : BitVec 32 := 4#32
  let c0_i32_199 : BitVec 32 := 0#32
  let v480 : BitVec 1 := Scalar.cmpi .eq c4_i32_198 c0_i32_199
  let c1_i32_200 : BitVec 32 := 1#32
  let v481 : BitVec 32 := Scalar.select v480 c1_i32_200 c4_i32_198
  let v482 : BitVec 32 := Scalar.remsi v462 v481
  let c0_i32_202 : BitVec 32 := 0#32
  let v484 : BitVec 1 := Scalar.cmpi .slt v482 c0_i32_202
  let c0_i32_203 : BitVec 32 := 0#32
  let v485 : BitVec 1 := Scalar.cmpi .slt v481 c0_i32_203
  let v486 : BitVec 1 := Scalar.xori v484 v485
  let c0_i32_201 : BitVec 32 := 0#32
  let v483 : BitVec 1 := Scalar.cmpi .ne v482 c0_i32_201
  let v487 : BitVec 1 := Scalar.andi v486 v483
  let v488 : BitVec 32 := Scalar.addi v482 v481
  let v489 : BitVec 32 := Scalar.select v487 v488 v482
  let v491 : Index := Scalar.indexCast v489
  let c0_205 : Index := 0#32
  let c0_206 : Index := 0#32
  ![v490.toNat, 0, v491.toNat, 0, 0]

def k0_chk3 (v462 : BitVec 32) : Prop :=
  (∀ a, (k0_off6 v462) a + S1x8x1x8x1024.size a ≤ S4x8x4x8x1024.size a)
theorem k0_off6_inb : ∀ (v462 : BitVec 32) (k0_hw3 : k0_chk3 v462), ∀ a, (k0_off6 v462) a + S1x8x1x8x1024.size a ≤ S4x8x4x8x1024.size a := fun v462 k0_hw3 => k0_hw3

def k0_off7 (i : grid0.Coords) : Fin 3 → Nat :=
  let arg0 : BitVec 32 := BitVec.ofNat 32 (i 0).val
  let v500 : Index := Scalar.indexCast arg0
  let c3_210 : Index := 3#32
  let c0_211 : Index := 0#32
  ![v500.toNat, 3, 0]
def k0_off8 (v501 : BitVec 32) : Fin 5 → Nat :=
  let c0_i32_213 : BitVec 32 := 0#32
  let v503 : BitVec 1 := Scalar.cmpi .sgt v501 c0_i32_213
  let v504 : BitVec 32 := Scalar.extui v503
  let c0_i32_214 : BitVec 32 := 0#32
  let v505 : BitVec 1 := Scalar.cmpi .slt v501 c0_i32_214
  let v506 : BitVec 32 := Scalar.extui v505
  let v507 : BitVec 32 := Scalar.subi v504 v506
  let c4_i32_212 : BitVec 32 := 4#32
  let c0_i32_215 : BitVec 32 := 0#32
  let v508 : BitVec 1 := Scalar.cmpi .sgt c4_i32_212 c0_i32_215
  let v509 : BitVec 32 := Scalar.extui v508
  let c0_i32_216 : BitVec 32 := 0#32
  let v510 : BitVec 1 := Scalar.cmpi .slt c4_i32_212 c0_i32_216
  let v511 : BitVec 32 := Scalar.extui v510
  let v512 : BitVec 32 := Scalar.subi v509 v511
  let v513 : BitVec 1 := Scalar.cmpi .ne v507 v512
  let v514 : BitVec 32 := Scalar.remsi v501 c4_i32_212
  let c0_i32_217 : BitVec 32 := 0#32
  let v515 : BitVec 1 := Scalar.cmpi .ne v514 c0_i32_217
  let v516 : BitVec 1 := Scalar.andi v513 v515
  let v502 : BitVec 32 := Scalar.divsi v501 c4_i32_212
  let c1_i32_218 : BitVec 32 := 1#32
  let v517 : BitVec 32 := Scalar.subi v502 c1_i32_218
  let v518 : BitVec 32 := Scalar.select v516 v517 v502
  let v529 : Index := Scalar.indexCast v518
  let c0_225 : Index := 0#32
  let c4_i32_219 : BitVec 32 := 4#32
  let c0_i32_220 : BitVec 32 := 0#32
  let v519 : BitVec 1 := Scalar.cmpi .eq c4_i32_219 c0_i32_220
  let c1_i32_221 : BitVec 32 := 1#32
  let v520 : BitVec 32 := Scalar.select v519 c1_i32_221 c4_i32_219
  let v521 : BitVec 32 := Scalar.remsi v501 v520
  let c0_i32_223 : BitVec 32 := 0#32
  let v523 : BitVec 1 := Scalar.cmpi .slt v521 c0_i32_223
  let c0_i32_224 : BitVec 32 := 0#32
  let v524 : BitVec 1 := Scalar.cmpi .slt v520 c0_i32_224
  let v525 : BitVec 1 := Scalar.xori v523 v524
  let c0_i32_222 : BitVec 32 := 0#32
  let v522 : BitVec 1 := Scalar.cmpi .ne v521 c0_i32_222
  let v526 : BitVec 1 := Scalar.andi v525 v522
  let v527 : BitVec 32 := Scalar.addi v521 v520
  let v528 : BitVec 32 := Scalar.select v526 v527 v521
  let v530 : Index := Scalar.indexCast v528
  let c0_226 : Index := 0#32
  let c0_227 : Index := 0#32
  ![v529.toNat, 0, v530.toNat, 0, 0]

def k0_chk4 (v501 : BitVec 32) : Prop :=
  (∀ a, (k0_off8 v501) a + S1x8x1x8x1024.size a ≤ S4x8x4x8x1024.size a)
theorem k0_off8_inb : ∀ (v501 : BitVec 32) (k0_hw4 : k0_chk4 v501), ∀ a, (k0_off8 v501) a + S1x8x1x8x1024.size a ≤ S4x8x4x8x1024.size a := fun v501 k0_hw4 => k0_hw4

def k0_off9 (i : grid0.Coords) : Fin 3 → Nat :=
  let arg0 : BitVec 32 := BitVec.ofNat 32 (i 0).val
  let v544 : Index := Scalar.indexCast arg0
  let c0_231 : Index := 0#32
  let c1_232 : Index := 1#32
  ![v544.toNat, 0, 1]
def k0_off10 (v545 : BitVec 32) : Fin 5 → Nat :=
  let c0_i32_234 : BitVec 32 := 0#32
  let v547 : BitVec 1 := Scalar.cmpi .sgt v545 c0_i32_234
  let v548 : BitVec 32 := Scalar.extui v547
  let c0_i32_235 : BitVec 32 := 0#32
  let v549 : BitVec 1 := Scalar.cmpi .slt v545 c0_i32_235
  let v550 : BitVec 32 := Scalar.extui v549
  let v551 : BitVec 32 := Scalar.subi v548 v550
  let c4_i32_233 : BitVec 32 := 4#32
  let c0_i32_236 : BitVec 32 := 0#32
  let v552 : BitVec 1 := Scalar.cmpi .sgt c4_i32_233 c0_i32_236
  let v553 : BitVec 32 := Scalar.extui v552
  let c0_i32_237 : BitVec 32 := 0#32
  let v554 : BitVec 1 := Scalar.cmpi .slt c4_i32_233 c0_i32_237
  let v555 : BitVec 32 := Scalar.extui v554
  let v556 : BitVec 32 := Scalar.subi v553 v555
  let v557 : BitVec 1 := Scalar.cmpi .ne v551 v556
  let v558 : BitVec 32 := Scalar.remsi v545 c4_i32_233
  let c0_i32_238 : BitVec 32 := 0#32
  let v559 : BitVec 1 := Scalar.cmpi .ne v558 c0_i32_238
  let v560 : BitVec 1 := Scalar.andi v557 v559
  let v546 : BitVec 32 := Scalar.divsi v545 c4_i32_233
  let c1_i32_239 : BitVec 32 := 1#32
  let v561 : BitVec 32 := Scalar.subi v546 c1_i32_239
  let v562 : BitVec 32 := Scalar.select v560 v561 v546
  let v573 : Index := Scalar.indexCast v562
  let c0_246 : Index := 0#32
  let c4_i32_240 : BitVec 32 := 4#32
  let c0_i32_241 : BitVec 32 := 0#32
  let v563 : BitVec 1 := Scalar.cmpi .eq c4_i32_240 c0_i32_241
  let c1_i32_242 : BitVec 32 := 1#32
  let v564 : BitVec 32 := Scalar.select v563 c1_i32_242 c4_i32_240
  let v565 : BitVec 32 := Scalar.remsi v545 v564
  let c0_i32_244 : BitVec 32 := 0#32
  let v567 : BitVec 1 := Scalar.cmpi .slt v565 c0_i32_244
  let c0_i32_245 : BitVec 32 := 0#32
  let v568 : BitVec 1 := Scalar.cmpi .slt v564 c0_i32_245
  let v569 : BitVec 1 := Scalar.xori v567 v568
  let c0_i32_243 : BitVec 32 := 0#32
  let v566 : BitVec 1 := Scalar.cmpi .ne v565 c0_i32_243
  let v570 : BitVec 1 := Scalar.andi v569 v566
  let v571 : BitVec 32 := Scalar.addi v565 v564
  let v572 : BitVec 32 := Scalar.select v570 v571 v565
  let v574 : Index := Scalar.indexCast v572
  let c0_247 : Index := 0#32
  let c0_248 : Index := 0#32
  ![v573.toNat, 0, v574.toNat, 0, 0]

def k0_chk5 (v545 : BitVec 32) : Prop :=
  (∀ a, (k0_off10 v545) a + S1x8x1x8x1024.size a ≤ S4x8x4x8x1024.size a)
theorem k0_off10_inb : ∀ (v545 : BitVec 32) (k0_hw5 : k0_chk5 v545), ∀ a, (k0_off10 v545) a + S1x8x1x8x1024.size a ≤ S4x8x4x8x1024.size a := fun v545 k0_hw5 => k0_hw5

def k0_off11 (i : grid0.Coords) : Fin 3 → Nat :=
  let arg0 : BitVec 32 := BitVec.ofNat 32 (i 0).val
  let v583 : Index := Scalar.indexCast arg0
  let c1_252 : Index := 1#32
  let c1_253 : Index := 1#32
  ![v583.toNat, 1, 1]
def k0_off12 (v584 : BitVec 32) : Fin 5 → Nat :=
  let c0_i32_255 : BitVec 32 := 0#32
  let v586 : BitVec 1 := Scalar.cmpi .sgt v584 c0_i32_255
  let v587 : BitVec 32 := Scalar.extui v586
  let c0_i32_256 : BitVec 32 := 0#32
  let v588 : BitVec 1 := Scalar.cmpi .slt v584 c0_i32_256
  let v589 : BitVec 32 := Scalar.extui v588
  let v590 : BitVec 32 := Scalar.subi v587 v589
  let c4_i32_254 : BitVec 32 := 4#32
  let c0_i32_257 : BitVec 32 := 0#32
  let v591 : BitVec 1 := Scalar.cmpi .sgt c4_i32_254 c0_i32_257
  let v592 : BitVec 32 := Scalar.extui v591
  let c0_i32_258 : BitVec 32 := 0#32
  let v593 : BitVec 1 := Scalar.cmpi .slt c4_i32_254 c0_i32_258
  let v594 : BitVec 32 := Scalar.extui v593
  let v595 : BitVec 32 := Scalar.subi v592 v594
  let v596 : BitVec 1 := Scalar.cmpi .ne v590 v595
  let v597 : BitVec 32 := Scalar.remsi v584 c4_i32_254
  let c0_i32_259 : BitVec 32 := 0#32
  let v598 : BitVec 1 := Scalar.cmpi .ne v597 c0_i32_259
  let v599 : BitVec 1 := Scalar.andi v596 v598
  let v585 : BitVec 32 := Scalar.divsi v584 c4_i32_254
  let c1_i32_260 : BitVec 32 := 1#32
  let v600 : BitVec 32 := Scalar.subi v585 c1_i32_260
  let v601 : BitVec 32 := Scalar.select v599 v600 v585
  let v612 : Index := Scalar.indexCast v601
  let c0_267 : Index := 0#32
  let c4_i32_261 : BitVec 32 := 4#32
  let c0_i32_262 : BitVec 32 := 0#32
  let v602 : BitVec 1 := Scalar.cmpi .eq c4_i32_261 c0_i32_262
  let c1_i32_263 : BitVec 32 := 1#32
  let v603 : BitVec 32 := Scalar.select v602 c1_i32_263 c4_i32_261
  let v604 : BitVec 32 := Scalar.remsi v584 v603
  let c0_i32_265 : BitVec 32 := 0#32
  let v606 : BitVec 1 := Scalar.cmpi .slt v604 c0_i32_265
  let c0_i32_266 : BitVec 32 := 0#32
  let v607 : BitVec 1 := Scalar.cmpi .slt v603 c0_i32_266
  let v608 : BitVec 1 := Scalar.xori v606 v607
  let c0_i32_264 : BitVec 32 := 0#32
  let v605 : BitVec 1 := Scalar.cmpi .ne v604 c0_i32_264
  let v609 : BitVec 1 := Scalar.andi v608 v605
  let v610 : BitVec 32 := Scalar.addi v604 v603
  let v611 : BitVec 32 := Scalar.select v609 v610 v604
  let v613 : Index := Scalar.indexCast v611
  let c0_268 : Index := 0#32
  let c0_269 : Index := 0#32
  ![v612.toNat, 0, v613.toNat, 0, 0]

def k0_chk6 (v584 : BitVec 32) : Prop :=
  (∀ a, (k0_off12 v584) a + S1x8x1x8x1024.size a ≤ S4x8x4x8x1024.size a)
theorem k0_off12_inb : ∀ (v584 : BitVec 32) (k0_hw6 : k0_chk6 v584), ∀ a, (k0_off12 v584) a + S1x8x1x8x1024.size a ≤ S4x8x4x8x1024.size a := fun v584 k0_hw6 => k0_hw6

def k0_off13 (i : grid0.Coords) : Fin 3 → Nat :=
  let arg0 : BitVec 32 := BitVec.ofNat 32 (i 0).val
  let v622 : Index := Scalar.indexCast arg0
  let c2_273 : Index := 2#32
  let c1_274 : Index := 1#32
  ![v622.toNat, 2, 1]
def k0_off14 (v623 : BitVec 32) : Fin 5 → Nat :=
  let c0_i32_276 : BitVec 32 := 0#32
  let v625 : BitVec 1 := Scalar.cmpi .sgt v623 c0_i32_276
  let v626 : BitVec 32 := Scalar.extui v625
  let c0_i32_277 : BitVec 32 := 0#32
  let v627 : BitVec 1 := Scalar.cmpi .slt v623 c0_i32_277
  let v628 : BitVec 32 := Scalar.extui v627
  let v629 : BitVec 32 := Scalar.subi v626 v628
  let c4_i32_275 : BitVec 32 := 4#32
  let c0_i32_278 : BitVec 32 := 0#32
  let v630 : BitVec 1 := Scalar.cmpi .sgt c4_i32_275 c0_i32_278
  let v631 : BitVec 32 := Scalar.extui v630
  let c0_i32_279 : BitVec 32 := 0#32
  let v632 : BitVec 1 := Scalar.cmpi .slt c4_i32_275 c0_i32_279
  let v633 : BitVec 32 := Scalar.extui v632
  let v634 : BitVec 32 := Scalar.subi v631 v633
  let v635 : BitVec 1 := Scalar.cmpi .ne v629 v634
  let v636 : BitVec 32 := Scalar.remsi v623 c4_i32_275
  let c0_i32_280 : BitVec 32 := 0#32
  let v637 : BitVec 1 := Scalar.cmpi .ne v636 c0_i32_280
  let v638 : BitVec 1 := Scalar.andi v635 v637
  let v624 : BitVec 32 := Scalar.divsi v623 c4_i32_275
  let c1_i32_281 : BitVec 32 := 1#32
  let v639 : BitVec 32 := Scalar.subi v624 c1_i32_281
  let v640 : BitVec 32 := Scalar.select v638 v639 v624
  let v651 : Index := Scalar.indexCast v640
  let c0_288 : Index := 0#32
  let c4_i32_282 : BitVec 32 := 4#32
  let c0_i32_283 : BitVec 32 := 0#32
  let v641 : BitVec 1 := Scalar.cmpi .eq c4_i32_282 c0_i32_283
  let c1_i32_284 : BitVec 32 := 1#32
  let v642 : BitVec 32 := Scalar.select v641 c1_i32_284 c4_i32_282
  let v643 : BitVec 32 := Scalar.remsi v623 v642
  let c0_i32_286 : BitVec 32 := 0#32
  let v645 : BitVec 1 := Scalar.cmpi .slt v643 c0_i32_286
  let c0_i32_287 : BitVec 32 := 0#32
  let v646 : BitVec 1 := Scalar.cmpi .slt v642 c0_i32_287
  let v647 : BitVec 1 := Scalar.xori v645 v646
  let c0_i32_285 : BitVec 32 := 0#32
  let v644 : BitVec 1 := Scalar.cmpi .ne v643 c0_i32_285
  let v648 : BitVec 1 := Scalar.andi v647 v644
  let v649 : BitVec 32 := Scalar.addi v643 v642
  let v650 : BitVec 32 := Scalar.select v648 v649 v643
  let v652 : Index := Scalar.indexCast v650
  let c0_289 : Index := 0#32
  let c0_290 : Index := 0#32
  ![v651.toNat, 0, v652.toNat, 0, 0]

def k0_chk7 (v623 : BitVec 32) : Prop :=
  (∀ a, (k0_off14 v623) a + S1x8x1x8x1024.size a ≤ S4x8x4x8x1024.size a)
theorem k0_off14_inb : ∀ (v623 : BitVec 32) (k0_hw7 : k0_chk7 v623), ∀ a, (k0_off14 v623) a + S1x8x1x8x1024.size a ≤ S4x8x4x8x1024.size a := fun v623 k0_hw7 => k0_hw7

def k0_off15 (i : grid0.Coords) : Fin 3 → Nat :=
  let arg0 : BitVec 32 := BitVec.ofNat 32 (i 0).val
  let v661 : Index := Scalar.indexCast arg0
  let c3_294 : Index := 3#32
  let c1_295 : Index := 1#32
  ![v661.toNat, 3, 1]
def k0_off16 (v662 : BitVec 32) : Fin 5 → Nat :=
  let c0_i32_297 : BitVec 32 := 0#32
  let v664 : BitVec 1 := Scalar.cmpi .sgt v662 c0_i32_297
  let v665 : BitVec 32 := Scalar.extui v664
  let c0_i32_298 : BitVec 32 := 0#32
  let v666 : BitVec 1 := Scalar.cmpi .slt v662 c0_i32_298
  let v667 : BitVec 32 := Scalar.extui v666
  let v668 : BitVec 32 := Scalar.subi v665 v667
  let c4_i32_296 : BitVec 32 := 4#32
  let c0_i32_299 : BitVec 32 := 0#32
  let v669 : BitVec 1 := Scalar.cmpi .sgt c4_i32_296 c0_i32_299
  let v670 : BitVec 32 := Scalar.extui v669
  let c0_i32_300 : BitVec 32 := 0#32
  let v671 : BitVec 1 := Scalar.cmpi .slt c4_i32_296 c0_i32_300
  let v672 : BitVec 32 := Scalar.extui v671
  let v673 : BitVec 32 := Scalar.subi v670 v672
  let v674 : BitVec 1 := Scalar.cmpi .ne v668 v673
  let v675 : BitVec 32 := Scalar.remsi v662 c4_i32_296
  let c0_i32_301 : BitVec 32 := 0#32
  let v676 : BitVec 1 := Scalar.cmpi .ne v675 c0_i32_301
  let v677 : BitVec 1 := Scalar.andi v674 v676
  let v663 : BitVec 32 := Scalar.divsi v662 c4_i32_296
  let c1_i32_302 : BitVec 32 := 1#32
  let v678 : BitVec 32 := Scalar.subi v663 c1_i32_302
  let v679 : BitVec 32 := Scalar.select v677 v678 v663
  let v690 : Index := Scalar.indexCast v679
  let c0_309 : Index := 0#32
  let c4_i32_303 : BitVec 32 := 4#32
  let c0_i32_304 : BitVec 32 := 0#32
  let v680 : BitVec 1 := Scalar.cmpi .eq c4_i32_303 c0_i32_304
  let c1_i32_305 : BitVec 32 := 1#32
  let v681 : BitVec 32 := Scalar.select v680 c1_i32_305 c4_i32_303
  let v682 : BitVec 32 := Scalar.remsi v662 v681
  let c0_i32_307 : BitVec 32 := 0#32
  let v684 : BitVec 1 := Scalar.cmpi .slt v682 c0_i32_307
  let c0_i32_308 : BitVec 32 := 0#32
  let v685 : BitVec 1 := Scalar.cmpi .slt v681 c0_i32_308
  let v686 : BitVec 1 := Scalar.xori v684 v685
  let c0_i32_306 : BitVec 32 := 0#32
  let v683 : BitVec 1 := Scalar.cmpi .ne v682 c0_i32_306
  let v687 : BitVec 1 := Scalar.andi v686 v683
  let v688 : BitVec 32 := Scalar.addi v682 v681
  let v689 : BitVec 32 := Scalar.select v687 v688 v682
  let v691 : Index := Scalar.indexCast v689
  let c0_310 : Index := 0#32
  let c0_311 : Index := 0#32
  ![v690.toNat, 0, v691.toNat, 0, 0]

def k0_chk8 (v662 : BitVec 32) : Prop :=
  (∀ a, (k0_off16 v662) a + S1x8x1x8x1024.size a ≤ S4x8x4x8x1024.size a)
theorem k0_off16_inb : ∀ (v662 : BitVec 32) (k0_hw8 : k0_chk8 v662), ∀ a, (k0_off16 v662) a + S1x8x1x8x1024.size a ≤ S4x8x4x8x1024.size a := fun v662 k0_hw8 => k0_hw8

def k0_off17 (i : grid0.Coords) : Fin 3 → Nat :=
  let arg0 : BitVec 32 := BitVec.ofNat 32 (i 0).val
  let v705 : Index := Scalar.indexCast arg0
  let c0_315 : Index := 0#32
  let c2_316 : Index := 2#32
  ![v705.toNat, 0, 2]
def k0_off18 (v706 : BitVec 32) : Fin 5 → Nat :=
  let c0_i32_318 : BitVec 32 := 0#32
  let v708 : BitVec 1 := Scalar.cmpi .sgt v706 c0_i32_318
  let v709 : BitVec 32 := Scalar.extui v708
  let c0_i32_319 : BitVec 32 := 0#32
  let v710 : BitVec 1 := Scalar.cmpi .slt v706 c0_i32_319
  let v711 : BitVec 32 := Scalar.extui v710
  let v712 : BitVec 32 := Scalar.subi v709 v711
  let c4_i32_317 : BitVec 32 := 4#32
  let c0_i32_320 : BitVec 32 := 0#32
  let v713 : BitVec 1 := Scalar.cmpi .sgt c4_i32_317 c0_i32_320
  let v714 : BitVec 32 := Scalar.extui v713
  let c0_i32_321 : BitVec 32 := 0#32
  let v715 : BitVec 1 := Scalar.cmpi .slt c4_i32_317 c0_i32_321
  let v716 : BitVec 32 := Scalar.extui v715
  let v717 : BitVec 32 := Scalar.subi v714 v716
  let v718 : BitVec 1 := Scalar.cmpi .ne v712 v717
  let v719 : BitVec 32 := Scalar.remsi v706 c4_i32_317
  let c0_i32_322 : BitVec 32 := 0#32
  let v720 : BitVec 1 := Scalar.cmpi .ne v719 c0_i32_322
  let v721 : BitVec 1 := Scalar.andi v718 v720
  let v707 : BitVec 32 := Scalar.divsi v706 c4_i32_317
  let c1_i32_323 : BitVec 32 := 1#32
  let v722 : BitVec 32 := Scalar.subi v707 c1_i32_323
  let v723 : BitVec 32 := Scalar.select v721 v722 v707
  let v734 : Index := Scalar.indexCast v723
  let c0_330 : Index := 0#32
  let c4_i32_324 : BitVec 32 := 4#32
  let c0_i32_325 : BitVec 32 := 0#32
  let v724 : BitVec 1 := Scalar.cmpi .eq c4_i32_324 c0_i32_325
  let c1_i32_326 : BitVec 32 := 1#32
  let v725 : BitVec 32 := Scalar.select v724 c1_i32_326 c4_i32_324
  let v726 : BitVec 32 := Scalar.remsi v706 v725
  let c0_i32_328 : BitVec 32 := 0#32
  let v728 : BitVec 1 := Scalar.cmpi .slt v726 c0_i32_328
  let c0_i32_329 : BitVec 32 := 0#32
  let v729 : BitVec 1 := Scalar.cmpi .slt v725 c0_i32_329
  let v730 : BitVec 1 := Scalar.xori v728 v729
  let c0_i32_327 : BitVec 32 := 0#32
  let v727 : BitVec 1 := Scalar.cmpi .ne v726 c0_i32_327
  let v731 : BitVec 1 := Scalar.andi v730 v727
  let v732 : BitVec 32 := Scalar.addi v726 v725
  let v733 : BitVec 32 := Scalar.select v731 v732 v726
  let v735 : Index := Scalar.indexCast v733
  let c0_331 : Index := 0#32
  let c0_332 : Index := 0#32
  ![v734.toNat, 0, v735.toNat, 0, 0]

def k0_chk9 (v706 : BitVec 32) : Prop :=
  (∀ a, (k0_off18 v706) a + S1x8x1x8x1024.size a ≤ S4x8x4x8x1024.size a)
theorem k0_off18_inb : ∀ (v706 : BitVec 32) (k0_hw9 : k0_chk9 v706), ∀ a, (k0_off18 v706) a + S1x8x1x8x1024.size a ≤ S4x8x4x8x1024.size a := fun v706 k0_hw9 => k0_hw9

def k0_off19 (i : grid0.Coords) : Fin 3 → Nat :=
  let arg0 : BitVec 32 := BitVec.ofNat 32 (i 0).val
  let v744 : Index := Scalar.indexCast arg0
  let c1_336 : Index := 1#32
  let c2_337 : Index := 2#32
  ![v744.toNat, 1, 2]
def k0_off20 (v745 : BitVec 32) : Fin 5 → Nat :=
  let c0_i32_339 : BitVec 32 := 0#32
  let v747 : BitVec 1 := Scalar.cmpi .sgt v745 c0_i32_339
  let v748 : BitVec 32 := Scalar.extui v747
  let c0_i32_340 : BitVec 32 := 0#32
  let v749 : BitVec 1 := Scalar.cmpi .slt v745 c0_i32_340
  let v750 : BitVec 32 := Scalar.extui v749
  let v751 : BitVec 32 := Scalar.subi v748 v750
  let c4_i32_338 : BitVec 32 := 4#32
  let c0_i32_341 : BitVec 32 := 0#32
  let v752 : BitVec 1 := Scalar.cmpi .sgt c4_i32_338 c0_i32_341
  let v753 : BitVec 32 := Scalar.extui v752
  let c0_i32_342 : BitVec 32 := 0#32
  let v754 : BitVec 1 := Scalar.cmpi .slt c4_i32_338 c0_i32_342
  let v755 : BitVec 32 := Scalar.extui v754
  let v756 : BitVec 32 := Scalar.subi v753 v755
  let v757 : BitVec 1 := Scalar.cmpi .ne v751 v756
  let v758 : BitVec 32 := Scalar.remsi v745 c4_i32_338
  let c0_i32_343 : BitVec 32 := 0#32
  let v759 : BitVec 1 := Scalar.cmpi .ne v758 c0_i32_343
  let v760 : BitVec 1 := Scalar.andi v757 v759
  let v746 : BitVec 32 := Scalar.divsi v745 c4_i32_338
  let c1_i32_344 : BitVec 32 := 1#32
  let v761 : BitVec 32 := Scalar.subi v746 c1_i32_344
  let v762 : BitVec 32 := Scalar.select v760 v761 v746
  let v773 : Index := Scalar.indexCast v762
  let c0_351 : Index := 0#32
  let c4_i32_345 : BitVec 32 := 4#32
  let c0_i32_346 : BitVec 32 := 0#32
  let v763 : BitVec 1 := Scalar.cmpi .eq c4_i32_345 c0_i32_346
  let c1_i32_347 : BitVec 32 := 1#32
  let v764 : BitVec 32 := Scalar.select v763 c1_i32_347 c4_i32_345
  let v765 : BitVec 32 := Scalar.remsi v745 v764
  let c0_i32_349 : BitVec 32 := 0#32
  let v767 : BitVec 1 := Scalar.cmpi .slt v765 c0_i32_349
  let c0_i32_350 : BitVec 32 := 0#32
  let v768 : BitVec 1 := Scalar.cmpi .slt v764 c0_i32_350
  let v769 : BitVec 1 := Scalar.xori v767 v768
  let c0_i32_348 : BitVec 32 := 0#32
  let v766 : BitVec 1 := Scalar.cmpi .ne v765 c0_i32_348
  let v770 : BitVec 1 := Scalar.andi v769 v766
  let v771 : BitVec 32 := Scalar.addi v765 v764
  let v772 : BitVec 32 := Scalar.select v770 v771 v765
  let v774 : Index := Scalar.indexCast v772
  let c0_352 : Index := 0#32
  let c0_353 : Index := 0#32
  ![v773.toNat, 0, v774.toNat, 0, 0]

def k0_chk10 (v745 : BitVec 32) : Prop :=
  (∀ a, (k0_off20 v745) a + S1x8x1x8x1024.size a ≤ S4x8x4x8x1024.size a)
theorem k0_off20_inb : ∀ (v745 : BitVec 32) (k0_hw10 : k0_chk10 v745), ∀ a, (k0_off20 v745) a + S1x8x1x8x1024.size a ≤ S4x8x4x8x1024.size a := fun v745 k0_hw10 => k0_hw10

def k0_off21 (i : grid0.Coords) : Fin 3 → Nat :=
  let arg0 : BitVec 32 := BitVec.ofNat 32 (i 0).val
  let v783 : Index := Scalar.indexCast arg0
  let c2_357 : Index := 2#32
  let c2_358 : Index := 2#32
  ![v783.toNat, 2, 2]
def k0_off22 (v784 : BitVec 32) : Fin 5 → Nat :=
  let c0_i32_360 : BitVec 32 := 0#32
  let v786 : BitVec 1 := Scalar.cmpi .sgt v784 c0_i32_360
  let v787 : BitVec 32 := Scalar.extui v786
  let c0_i32_361 : BitVec 32 := 0#32
  let v788 : BitVec 1 := Scalar.cmpi .slt v784 c0_i32_361
  let v789 : BitVec 32 := Scalar.extui v788
  let v790 : BitVec 32 := Scalar.subi v787 v789
  let c4_i32_359 : BitVec 32 := 4#32
  let c0_i32_362 : BitVec 32 := 0#32
  let v791 : BitVec 1 := Scalar.cmpi .sgt c4_i32_359 c0_i32_362
  let v792 : BitVec 32 := Scalar.extui v791
  let c0_i32_363 : BitVec 32 := 0#32
  let v793 : BitVec 1 := Scalar.cmpi .slt c4_i32_359 c0_i32_363
  let v794 : BitVec 32 := Scalar.extui v793
  let v795 : BitVec 32 := Scalar.subi v792 v794
  let v796 : BitVec 1 := Scalar.cmpi .ne v790 v795
  let v797 : BitVec 32 := Scalar.remsi v784 c4_i32_359
  let c0_i32_364 : BitVec 32 := 0#32
  let v798 : BitVec 1 := Scalar.cmpi .ne v797 c0_i32_364
  let v799 : BitVec 1 := Scalar.andi v796 v798
  let v785 : BitVec 32 := Scalar.divsi v784 c4_i32_359
  let c1_i32_365 : BitVec 32 := 1#32
  let v800 : BitVec 32 := Scalar.subi v785 c1_i32_365
  let v801 : BitVec 32 := Scalar.select v799 v800 v785
  let v812 : Index := Scalar.indexCast v801
  let c0_372 : Index := 0#32
  let c4_i32_366 : BitVec 32 := 4#32
  let c0_i32_367 : BitVec 32 := 0#32
  let v802 : BitVec 1 := Scalar.cmpi .eq c4_i32_366 c0_i32_367
  let c1_i32_368 : BitVec 32 := 1#32
  let v803 : BitVec 32 := Scalar.select v802 c1_i32_368 c4_i32_366
  let v804 : BitVec 32 := Scalar.remsi v784 v803
  let c0_i32_370 : BitVec 32 := 0#32
  let v806 : BitVec 1 := Scalar.cmpi .slt v804 c0_i32_370
  let c0_i32_371 : BitVec 32 := 0#32
  let v807 : BitVec 1 := Scalar.cmpi .slt v803 c0_i32_371
  let v808 : BitVec 1 := Scalar.xori v806 v807
  let c0_i32_369 : BitVec 32 := 0#32
  let v805 : BitVec 1 := Scalar.cmpi .ne v804 c0_i32_369
  let v809 : BitVec 1 := Scalar.andi v808 v805
  let v810 : BitVec 32 := Scalar.addi v804 v803
  let v811 : BitVec 32 := Scalar.select v809 v810 v804
  let v813 : Index := Scalar.indexCast v811
  let c0_373 : Index := 0#32
  let c0_374 : Index := 0#32
  ![v812.toNat, 0, v813.toNat, 0, 0]

def k0_chk11 (v784 : BitVec 32) : Prop :=
  (∀ a, (k0_off22 v784) a + S1x8x1x8x1024.size a ≤ S4x8x4x8x1024.size a)
theorem k0_off22_inb : ∀ (v784 : BitVec 32) (k0_hw11 : k0_chk11 v784), ∀ a, (k0_off22 v784) a + S1x8x1x8x1024.size a ≤ S4x8x4x8x1024.size a := fun v784 k0_hw11 => k0_hw11

def k0_off23 (i : grid0.Coords) : Fin 3 → Nat :=
  let arg0 : BitVec 32 := BitVec.ofNat 32 (i 0).val
  let v822 : Index := Scalar.indexCast arg0
  let c3_378 : Index := 3#32
  let c2_379 : Index := 2#32
  ![v822.toNat, 3, 2]
def k0_off24 (v823 : BitVec 32) : Fin 5 → Nat :=
  let c0_i32_381 : BitVec 32 := 0#32
  let v825 : BitVec 1 := Scalar.cmpi .sgt v823 c0_i32_381
  let v826 : BitVec 32 := Scalar.extui v825
  let c0_i32_382 : BitVec 32 := 0#32
  let v827 : BitVec 1 := Scalar.cmpi .slt v823 c0_i32_382
  let v828 : BitVec 32 := Scalar.extui v827
  let v829 : BitVec 32 := Scalar.subi v826 v828
  let c4_i32_380 : BitVec 32 := 4#32
  let c0_i32_383 : BitVec 32 := 0#32
  let v830 : BitVec 1 := Scalar.cmpi .sgt c4_i32_380 c0_i32_383
  let v831 : BitVec 32 := Scalar.extui v830
  let c0_i32_384 : BitVec 32 := 0#32
  let v832 : BitVec 1 := Scalar.cmpi .slt c4_i32_380 c0_i32_384
  let v833 : BitVec 32 := Scalar.extui v832
  let v834 : BitVec 32 := Scalar.subi v831 v833
  let v835 : BitVec 1 := Scalar.cmpi .ne v829 v834
  let v836 : BitVec 32 := Scalar.remsi v823 c4_i32_380
  let c0_i32_385 : BitVec 32 := 0#32
  let v837 : BitVec 1 := Scalar.cmpi .ne v836 c0_i32_385
  let v838 : BitVec 1 := Scalar.andi v835 v837
  let v824 : BitVec 32 := Scalar.divsi v823 c4_i32_380
  let c1_i32_386 : BitVec 32 := 1#32
  let v839 : BitVec 32 := Scalar.subi v824 c1_i32_386
  let v840 : BitVec 32 := Scalar.select v838 v839 v824
  let v851 : Index := Scalar.indexCast v840
  let c0_393 : Index := 0#32
  let c4_i32_387 : BitVec 32 := 4#32
  let c0_i32_388 : BitVec 32 := 0#32
  let v841 : BitVec 1 := Scalar.cmpi .eq c4_i32_387 c0_i32_388
  let c1_i32_389 : BitVec 32 := 1#32
  let v842 : BitVec 32 := Scalar.select v841 c1_i32_389 c4_i32_387
  let v843 : BitVec 32 := Scalar.remsi v823 v842
  let c0_i32_391 : BitVec 32 := 0#32
  let v845 : BitVec 1 := Scalar.cmpi .slt v843 c0_i32_391
  let c0_i32_392 : BitVec 32 := 0#32
  let v846 : BitVec 1 := Scalar.cmpi .slt v842 c0_i32_392
  let v847 : BitVec 1 := Scalar.xori v845 v846
  let c0_i32_390 : BitVec 32 := 0#32
  let v844 : BitVec 1 := Scalar.cmpi .ne v843 c0_i32_390
  let v848 : BitVec 1 := Scalar.andi v847 v844
  let v849 : BitVec 32 := Scalar.addi v843 v842
  let v850 : BitVec 32 := Scalar.select v848 v849 v843
  let v852 : Index := Scalar.indexCast v850
  let c0_394 : Index := 0#32
  let c0_395 : Index := 0#32
  ![v851.toNat, 0, v852.toNat, 0, 0]

def k0_chk12 (v823 : BitVec 32) : Prop :=
  (∀ a, (k0_off24 v823) a + S1x8x1x8x1024.size a ≤ S4x8x4x8x1024.size a)
theorem k0_off24_inb : ∀ (v823 : BitVec 32) (k0_hw12 : k0_chk12 v823), ∀ a, (k0_off24 v823) a + S1x8x1x8x1024.size a ≤ S4x8x4x8x1024.size a := fun v823 k0_hw12 => k0_hw12

def k0_off25 (i : grid0.Coords) : Fin 3 → Nat :=
  let arg0 : BitVec 32 := BitVec.ofNat 32 (i 0).val
  let v866 : Index := Scalar.indexCast arg0
  let c0_399 : Index := 0#32
  let c3_400 : Index := 3#32
  ![v866.toNat, 0, 3]
def k0_off26 (v867 : BitVec 32) : Fin 5 → Nat :=
  let c0_i32_402 : BitVec 32 := 0#32
  let v869 : BitVec 1 := Scalar.cmpi .sgt v867 c0_i32_402
  let v870 : BitVec 32 := Scalar.extui v869
  let c0_i32_403 : BitVec 32 := 0#32
  let v871 : BitVec 1 := Scalar.cmpi .slt v867 c0_i32_403
  let v872 : BitVec 32 := Scalar.extui v871
  let v873 : BitVec 32 := Scalar.subi v870 v872
  let c4_i32_401 : BitVec 32 := 4#32
  let c0_i32_404 : BitVec 32 := 0#32
  let v874 : BitVec 1 := Scalar.cmpi .sgt c4_i32_401 c0_i32_404
  let v875 : BitVec 32 := Scalar.extui v874
  let c0_i32_405 : BitVec 32 := 0#32
  let v876 : BitVec 1 := Scalar.cmpi .slt c4_i32_401 c0_i32_405
  let v877 : BitVec 32 := Scalar.extui v876
  let v878 : BitVec 32 := Scalar.subi v875 v877
  let v879 : BitVec 1 := Scalar.cmpi .ne v873 v878
  let v880 : BitVec 32 := Scalar.remsi v867 c4_i32_401
  let c0_i32_406 : BitVec 32 := 0#32
  let v881 : BitVec 1 := Scalar.cmpi .ne v880 c0_i32_406
  let v882 : BitVec 1 := Scalar.andi v879 v881
  let v868 : BitVec 32 := Scalar.divsi v867 c4_i32_401
  let c1_i32_407 : BitVec 32 := 1#32
  let v883 : BitVec 32 := Scalar.subi v868 c1_i32_407
  let v884 : BitVec 32 := Scalar.select v882 v883 v868
  let v895 : Index := Scalar.indexCast v884
  let c0_414 : Index := 0#32
  let c4_i32_408 : BitVec 32 := 4#32
  let c0_i32_409 : BitVec 32 := 0#32
  let v885 : BitVec 1 := Scalar.cmpi .eq c4_i32_408 c0_i32_409
  let c1_i32_410 : BitVec 32 := 1#32
  let v886 : BitVec 32 := Scalar.select v885 c1_i32_410 c4_i32_408
  let v887 : BitVec 32 := Scalar.remsi v867 v886
  let c0_i32_412 : BitVec 32 := 0#32
  let v889 : BitVec 1 := Scalar.cmpi .slt v887 c0_i32_412
  let c0_i32_413 : BitVec 32 := 0#32
  let v890 : BitVec 1 := Scalar.cmpi .slt v886 c0_i32_413
  let v891 : BitVec 1 := Scalar.xori v889 v890
  let c0_i32_411 : BitVec 32 := 0#32
  let v888 : BitVec 1 := Scalar.cmpi .ne v887 c0_i32_411
  let v892 : BitVec 1 := Scalar.andi v891 v888
  let v893 : BitVec 32 := Scalar.addi v887 v886
  let v894 : BitVec 32 := Scalar.select v892 v893 v887
  let v896 : Index := Scalar.indexCast v894
  let c0_415 : Index := 0#32
  let c0_416 : Index := 0#32
  ![v895.toNat, 0, v896.toNat, 0, 0]

def k0_chk13 (v867 : BitVec 32) : Prop :=
  (∀ a, (k0_off26 v867) a + S1x8x1x8x1024.size a ≤ S4x8x4x8x1024.size a)
theorem k0_off26_inb : ∀ (v867 : BitVec 32) (k0_hw13 : k0_chk13 v867), ∀ a, (k0_off26 v867) a + S1x8x1x8x1024.size a ≤ S4x8x4x8x1024.size a := fun v867 k0_hw13 => k0_hw13

def k0_off27 (i : grid0.Coords) : Fin 3 → Nat :=
  let arg0 : BitVec 32 := BitVec.ofNat 32 (i 0).val
  let v905 : Index := Scalar.indexCast arg0
  let c1_420 : Index := 1#32
  let c3_421 : Index := 3#32
  ![v905.toNat, 1, 3]
def k0_off28 (v906 : BitVec 32) : Fin 5 → Nat :=
  let c0_i32_423 : BitVec 32 := 0#32
  let v908 : BitVec 1 := Scalar.cmpi .sgt v906 c0_i32_423
  let v909 : BitVec 32 := Scalar.extui v908
  let c0_i32_424 : BitVec 32 := 0#32
  let v910 : BitVec 1 := Scalar.cmpi .slt v906 c0_i32_424
  let v911 : BitVec 32 := Scalar.extui v910
  let v912 : BitVec 32 := Scalar.subi v909 v911
  let c4_i32_422 : BitVec 32 := 4#32
  let c0_i32_425 : BitVec 32 := 0#32
  let v913 : BitVec 1 := Scalar.cmpi .sgt c4_i32_422 c0_i32_425
  let v914 : BitVec 32 := Scalar.extui v913
  let c0_i32_426 : BitVec 32 := 0#32
  let v915 : BitVec 1 := Scalar.cmpi .slt c4_i32_422 c0_i32_426
  let v916 : BitVec 32 := Scalar.extui v915
  let v917 : BitVec 32 := Scalar.subi v914 v916
  let v918 : BitVec 1 := Scalar.cmpi .ne v912 v917
  let v919 : BitVec 32 := Scalar.remsi v906 c4_i32_422
  let c0_i32_427 : BitVec 32 := 0#32
  let v920 : BitVec 1 := Scalar.cmpi .ne v919 c0_i32_427
  let v921 : BitVec 1 := Scalar.andi v918 v920
  let v907 : BitVec 32 := Scalar.divsi v906 c4_i32_422
  let c1_i32_428 : BitVec 32 := 1#32
  let v922 : BitVec 32 := Scalar.subi v907 c1_i32_428
  let v923 : BitVec 32 := Scalar.select v921 v922 v907
  let v934 : Index := Scalar.indexCast v923
  let c0_435 : Index := 0#32
  let c4_i32_429 : BitVec 32 := 4#32
  let c0_i32_430 : BitVec 32 := 0#32
  let v924 : BitVec 1 := Scalar.cmpi .eq c4_i32_429 c0_i32_430
  let c1_i32_431 : BitVec 32 := 1#32
  let v925 : BitVec 32 := Scalar.select v924 c1_i32_431 c4_i32_429
  let v926 : BitVec 32 := Scalar.remsi v906 v925
  let c0_i32_433 : BitVec 32 := 0#32
  let v928 : BitVec 1 := Scalar.cmpi .slt v926 c0_i32_433
  let c0_i32_434 : BitVec 32 := 0#32
  let v929 : BitVec 1 := Scalar.cmpi .slt v925 c0_i32_434
  let v930 : BitVec 1 := Scalar.xori v928 v929
  let c0_i32_432 : BitVec 32 := 0#32
  let v927 : BitVec 1 := Scalar.cmpi .ne v926 c0_i32_432
  let v931 : BitVec 1 := Scalar.andi v930 v927
  let v932 : BitVec 32 := Scalar.addi v926 v925
  let v933 : BitVec 32 := Scalar.select v931 v932 v926
  let v935 : Index := Scalar.indexCast v933
  let c0_436 : Index := 0#32
  let c0_437 : Index := 0#32
  ![v934.toNat, 0, v935.toNat, 0, 0]

def k0_chk14 (v906 : BitVec 32) : Prop :=
  (∀ a, (k0_off28 v906) a + S1x8x1x8x1024.size a ≤ S4x8x4x8x1024.size a)
theorem k0_off28_inb : ∀ (v906 : BitVec 32) (k0_hw14 : k0_chk14 v906), ∀ a, (k0_off28 v906) a + S1x8x1x8x1024.size a ≤ S4x8x4x8x1024.size a := fun v906 k0_hw14 => k0_hw14

def k0_off29 (i : grid0.Coords) : Fin 3 → Nat :=
  let arg0 : BitVec 32 := BitVec.ofNat 32 (i 0).val
  let v944 : Index := Scalar.indexCast arg0
  let c2_441 : Index := 2#32
  let c3_442 : Index := 3#32
  ![v944.toNat, 2, 3]
def k0_off30 (v945 : BitVec 32) : Fin 5 → Nat :=
  let c0_i32_444 : BitVec 32 := 0#32
  let v947 : BitVec 1 := Scalar.cmpi .sgt v945 c0_i32_444
  let v948 : BitVec 32 := Scalar.extui v947
  let c0_i32_445 : BitVec 32 := 0#32
  let v949 : BitVec 1 := Scalar.cmpi .slt v945 c0_i32_445
  let v950 : BitVec 32 := Scalar.extui v949
  let v951 : BitVec 32 := Scalar.subi v948 v950
  let c4_i32_443 : BitVec 32 := 4#32
  let c0_i32_446 : BitVec 32 := 0#32
  let v952 : BitVec 1 := Scalar.cmpi .sgt c4_i32_443 c0_i32_446
  let v953 : BitVec 32 := Scalar.extui v952
  let c0_i32_447 : BitVec 32 := 0#32
  let v954 : BitVec 1 := Scalar.cmpi .slt c4_i32_443 c0_i32_447
  let v955 : BitVec 32 := Scalar.extui v954
  let v956 : BitVec 32 := Scalar.subi v953 v955
  let v957 : BitVec 1 := Scalar.cmpi .ne v951 v956
  let v958 : BitVec 32 := Scalar.remsi v945 c4_i32_443
  let c0_i32_448 : BitVec 32 := 0#32
  let v959 : BitVec 1 := Scalar.cmpi .ne v958 c0_i32_448
  let v960 : BitVec 1 := Scalar.andi v957 v959
  let v946 : BitVec 32 := Scalar.divsi v945 c4_i32_443
  let c1_i32_449 : BitVec 32 := 1#32
  let v961 : BitVec 32 := Scalar.subi v946 c1_i32_449
  let v962 : BitVec 32 := Scalar.select v960 v961 v946
  let v973 : Index := Scalar.indexCast v962
  let c0_456 : Index := 0#32
  let c4_i32_450 : BitVec 32 := 4#32
  let c0_i32_451 : BitVec 32 := 0#32
  let v963 : BitVec 1 := Scalar.cmpi .eq c4_i32_450 c0_i32_451
  let c1_i32_452 : BitVec 32 := 1#32
  let v964 : BitVec 32 := Scalar.select v963 c1_i32_452 c4_i32_450
  let v965 : BitVec 32 := Scalar.remsi v945 v964
  let c0_i32_454 : BitVec 32 := 0#32
  let v967 : BitVec 1 := Scalar.cmpi .slt v965 c0_i32_454
  let c0_i32_455 : BitVec 32 := 0#32
  let v968 : BitVec 1 := Scalar.cmpi .slt v964 c0_i32_455
  let v969 : BitVec 1 := Scalar.xori v967 v968
  let c0_i32_453 : BitVec 32 := 0#32
  let v966 : BitVec 1 := Scalar.cmpi .ne v965 c0_i32_453
  let v970 : BitVec 1 := Scalar.andi v969 v966
  let v971 : BitVec 32 := Scalar.addi v965 v964
  let v972 : BitVec 32 := Scalar.select v970 v971 v965
  let v974 : Index := Scalar.indexCast v972
  let c0_457 : Index := 0#32
  let c0_458 : Index := 0#32
  ![v973.toNat, 0, v974.toNat, 0, 0]

def k0_chk15 (v945 : BitVec 32) : Prop :=
  (∀ a, (k0_off30 v945) a + S1x8x1x8x1024.size a ≤ S4x8x4x8x1024.size a)
theorem k0_off30_inb : ∀ (v945 : BitVec 32) (k0_hw15 : k0_chk15 v945), ∀ a, (k0_off30 v945) a + S1x8x1x8x1024.size a ≤ S4x8x4x8x1024.size a := fun v945 k0_hw15 => k0_hw15

def k0_off31 (i : grid0.Coords) : Fin 3 → Nat :=
  let arg0 : BitVec 32 := BitVec.ofNat 32 (i 0).val
  let v983 : Index := Scalar.indexCast arg0
  let c3_462 : Index := 3#32
  let c3_463 : Index := 3#32
  ![v983.toNat, 3, 3]
def k0_off32 (v984 : BitVec 32) : Fin 5 → Nat :=
  let c0_i32_465 : BitVec 32 := 0#32
  let v986 : BitVec 1 := Scalar.cmpi .sgt v984 c0_i32_465
  let v987 : BitVec 32 := Scalar.extui v986
  let c0_i32_466 : BitVec 32 := 0#32
  let v988 : BitVec 1 := Scalar.cmpi .slt v984 c0_i32_466
  let v989 : BitVec 32 := Scalar.extui v988
  let v990 : BitVec 32 := Scalar.subi v987 v989
  let c4_i32_464 : BitVec 32 := 4#32
  let c0_i32_467 : BitVec 32 := 0#32
  let v991 : BitVec 1 := Scalar.cmpi .sgt c4_i32_464 c0_i32_467
  let v992 : BitVec 32 := Scalar.extui v991
  let c0_i32_468 : BitVec 32 := 0#32
  let v993 : BitVec 1 := Scalar.cmpi .slt c4_i32_464 c0_i32_468
  let v994 : BitVec 32 := Scalar.extui v993
  let v995 : BitVec 32 := Scalar.subi v992 v994
  let v996 : BitVec 1 := Scalar.cmpi .ne v990 v995
  let v997 : BitVec 32 := Scalar.remsi v984 c4_i32_464
  let c0_i32_469 : BitVec 32 := 0#32
  let v998 : BitVec 1 := Scalar.cmpi .ne v997 c0_i32_469
  let v999 : BitVec 1 := Scalar.andi v996 v998
  let v985 : BitVec 32 := Scalar.divsi v984 c4_i32_464
  let c1_i32_470 : BitVec 32 := 1#32
  let v1000 : BitVec 32 := Scalar.subi v985 c1_i32_470
  let v1001 : BitVec 32 := Scalar.select v999 v1000 v985
  let v1012 : Index := Scalar.indexCast v1001
  let c0_477 : Index := 0#32
  let c4_i32_471 : BitVec 32 := 4#32
  let c0_i32_472 : BitVec 32 := 0#32
  let v1002 : BitVec 1 := Scalar.cmpi .eq c4_i32_471 c0_i32_472
  let c1_i32_473 : BitVec 32 := 1#32
  let v1003 : BitVec 32 := Scalar.select v1002 c1_i32_473 c4_i32_471
  let v1004 : BitVec 32 := Scalar.remsi v984 v1003
  let c0_i32_475 : BitVec 32 := 0#32
  let v1006 : BitVec 1 := Scalar.cmpi .slt v1004 c0_i32_475
  let c0_i32_476 : BitVec 32 := 0#32
  let v1007 : BitVec 1 := Scalar.cmpi .slt v1003 c0_i32_476
  let v1008 : BitVec 1 := Scalar.xori v1006 v1007
  let c0_i32_474 : BitVec 32 := 0#32
  let v1005 : BitVec 1 := Scalar.cmpi .ne v1004 c0_i32_474
  let v1009 : BitVec 1 := Scalar.andi v1008 v1005
  let v1010 : BitVec 32 := Scalar.addi v1004 v1003
  let v1011 : BitVec 32 := Scalar.select v1009 v1010 v1004
  let v1013 : Index := Scalar.indexCast v1011
  let c0_478 : Index := 0#32
  let c0_479 : Index := 0#32
  ![v1012.toNat, 0, v1013.toNat, 0, 0]

def k0_chk16 (v984 : BitVec 32) : Prop :=
  (∀ a, (k0_off32 v984) a + S1x8x1x8x1024.size a ≤ S4x8x4x8x1024.size a)
theorem k0_off32_inb : ∀ (v984 : BitVec 32) (k0_hw16 : k0_chk16 v984), ∀ a, (k0_off32 v984) a + S1x8x1x8x1024.size a ≤ S4x8x4x8x1024.size a := fun v984 k0_hw16 => k0_hw16

def k0_off33 (i : grid0.Coords) : Fin 3 → Nat :=
  let arg0 : BitVec 32 := BitVec.ofNat 32 (i 0).val
  let v1027 : Index := Scalar.indexCast arg0
  let c0_483 : Index := 0#32
  let c4_484 : Index := 4#32
  ![v1027.toNat, 0, 4]
def k0_off34 (v1028 : BitVec 32) : Fin 5 → Nat :=
  let c0_i32_486 : BitVec 32 := 0#32
  let v1030 : BitVec 1 := Scalar.cmpi .sgt v1028 c0_i32_486
  let v1031 : BitVec 32 := Scalar.extui v1030
  let c0_i32_487 : BitVec 32 := 0#32
  let v1032 : BitVec 1 := Scalar.cmpi .slt v1028 c0_i32_487
  let v1033 : BitVec 32 := Scalar.extui v1032
  let v1034 : BitVec 32 := Scalar.subi v1031 v1033
  let c4_i32_485 : BitVec 32 := 4#32
  let c0_i32_488 : BitVec 32 := 0#32
  let v1035 : BitVec 1 := Scalar.cmpi .sgt c4_i32_485 c0_i32_488
  let v1036 : BitVec 32 := Scalar.extui v1035
  let c0_i32_489 : BitVec 32 := 0#32
  let v1037 : BitVec 1 := Scalar.cmpi .slt c4_i32_485 c0_i32_489
  let v1038 : BitVec 32 := Scalar.extui v1037
  let v1039 : BitVec 32 := Scalar.subi v1036 v1038
  let v1040 : BitVec 1 := Scalar.cmpi .ne v1034 v1039
  let v1041 : BitVec 32 := Scalar.remsi v1028 c4_i32_485
  let c0_i32_490 : BitVec 32 := 0#32
  let v1042 : BitVec 1 := Scalar.cmpi .ne v1041 c0_i32_490
  let v1043 : BitVec 1 := Scalar.andi v1040 v1042
  let v1029 : BitVec 32 := Scalar.divsi v1028 c4_i32_485
  let c1_i32_491 : BitVec 32 := 1#32
  let v1044 : BitVec 32 := Scalar.subi v1029 c1_i32_491
  let v1045 : BitVec 32 := Scalar.select v1043 v1044 v1029
  let v1056 : Index := Scalar.indexCast v1045
  let c0_498 : Index := 0#32
  let c4_i32_492 : BitVec 32 := 4#32
  let c0_i32_493 : BitVec 32 := 0#32
  let v1046 : BitVec 1 := Scalar.cmpi .eq c4_i32_492 c0_i32_493
  let c1_i32_494 : BitVec 32 := 1#32
  let v1047 : BitVec 32 := Scalar.select v1046 c1_i32_494 c4_i32_492
  let v1048 : BitVec 32 := Scalar.remsi v1028 v1047
  let c0_i32_496 : BitVec 32 := 0#32
  let v1050 : BitVec 1 := Scalar.cmpi .slt v1048 c0_i32_496
  let c0_i32_497 : BitVec 32 := 0#32
  let v1051 : BitVec 1 := Scalar.cmpi .slt v1047 c0_i32_497
  let v1052 : BitVec 1 := Scalar.xori v1050 v1051
  let c0_i32_495 : BitVec 32 := 0#32
  let v1049 : BitVec 1 := Scalar.cmpi .ne v1048 c0_i32_495
  let v1053 : BitVec 1 := Scalar.andi v1052 v1049
  let v1054 : BitVec 32 := Scalar.addi v1048 v1047
  let v1055 : BitVec 32 := Scalar.select v1053 v1054 v1048
  let v1057 : Index := Scalar.indexCast v1055
  let c0_499 : Index := 0#32
  let c0_500 : Index := 0#32
  ![v1056.toNat, 0, v1057.toNat, 0, 0]

def k0_chk17 (v1028 : BitVec 32) : Prop :=
  (∀ a, (k0_off34 v1028) a + S1x8x1x8x1024.size a ≤ S4x8x4x8x1024.size a)
theorem k0_off34_inb : ∀ (v1028 : BitVec 32) (k0_hw17 : k0_chk17 v1028), ∀ a, (k0_off34 v1028) a + S1x8x1x8x1024.size a ≤ S4x8x4x8x1024.size a := fun v1028 k0_hw17 => k0_hw17

def k0_off35 (i : grid0.Coords) : Fin 3 → Nat :=
  let arg0 : BitVec 32 := BitVec.ofNat 32 (i 0).val
  let v1066 : Index := Scalar.indexCast arg0
  let c1_504 : Index := 1#32
  let c4_505 : Index := 4#32
  ![v1066.toNat, 1, 4]
def k0_off36 (v1067 : BitVec 32) : Fin 5 → Nat :=
  let c0_i32_507 : BitVec 32 := 0#32
  let v1069 : BitVec 1 := Scalar.cmpi .sgt v1067 c0_i32_507
  let v1070 : BitVec 32 := Scalar.extui v1069
  let c0_i32_508 : BitVec 32 := 0#32
  let v1071 : BitVec 1 := Scalar.cmpi .slt v1067 c0_i32_508
  let v1072 : BitVec 32 := Scalar.extui v1071
  let v1073 : BitVec 32 := Scalar.subi v1070 v1072
  let c4_i32_506 : BitVec 32 := 4#32
  let c0_i32_509 : BitVec 32 := 0#32
  let v1074 : BitVec 1 := Scalar.cmpi .sgt c4_i32_506 c0_i32_509
  let v1075 : BitVec 32 := Scalar.extui v1074
  let c0_i32_510 : BitVec 32 := 0#32
  let v1076 : BitVec 1 := Scalar.cmpi .slt c4_i32_506 c0_i32_510
  let v1077 : BitVec 32 := Scalar.extui v1076
  let v1078 : BitVec 32 := Scalar.subi v1075 v1077
  let v1079 : BitVec 1 := Scalar.cmpi .ne v1073 v1078
  let v1080 : BitVec 32 := Scalar.remsi v1067 c4_i32_506
  let c0_i32_511 : BitVec 32 := 0#32
  let v1081 : BitVec 1 := Scalar.cmpi .ne v1080 c0_i32_511
  let v1082 : BitVec 1 := Scalar.andi v1079 v1081
  let v1068 : BitVec 32 := Scalar.divsi v1067 c4_i32_506
  let c1_i32_512 : BitVec 32 := 1#32
  let v1083 : BitVec 32 := Scalar.subi v1068 c1_i32_512
  let v1084 : BitVec 32 := Scalar.select v1082 v1083 v1068
  let v1095 : Index := Scalar.indexCast v1084
  let c0_519 : Index := 0#32
  let c4_i32_513 : BitVec 32 := 4#32
  let c0_i32_514 : BitVec 32 := 0#32
  let v1085 : BitVec 1 := Scalar.cmpi .eq c4_i32_513 c0_i32_514
  let c1_i32_515 : BitVec 32 := 1#32
  let v1086 : BitVec 32 := Scalar.select v1085 c1_i32_515 c4_i32_513
  let v1087 : BitVec 32 := Scalar.remsi v1067 v1086
  let c0_i32_517 : BitVec 32 := 0#32
  let v1089 : BitVec 1 := Scalar.cmpi .slt v1087 c0_i32_517
  let c0_i32_518 : BitVec 32 := 0#32
  let v1090 : BitVec 1 := Scalar.cmpi .slt v1086 c0_i32_518
  let v1091 : BitVec 1 := Scalar.xori v1089 v1090
  let c0_i32_516 : BitVec 32 := 0#32
  let v1088 : BitVec 1 := Scalar.cmpi .ne v1087 c0_i32_516
  let v1092 : BitVec 1 := Scalar.andi v1091 v1088
  let v1093 : BitVec 32 := Scalar.addi v1087 v1086
  let v1094 : BitVec 32 := Scalar.select v1092 v1093 v1087
  let v1096 : Index := Scalar.indexCast v1094
  let c0_520 : Index := 0#32
  let c0_521 : Index := 0#32
  ![v1095.toNat, 0, v1096.toNat, 0, 0]

def k0_chk18 (v1067 : BitVec 32) : Prop :=
  (∀ a, (k0_off36 v1067) a + S1x8x1x8x1024.size a ≤ S4x8x4x8x1024.size a)
theorem k0_off36_inb : ∀ (v1067 : BitVec 32) (k0_hw18 : k0_chk18 v1067), ∀ a, (k0_off36 v1067) a + S1x8x1x8x1024.size a ≤ S4x8x4x8x1024.size a := fun v1067 k0_hw18 => k0_hw18

def k0_off37 (i : grid0.Coords) : Fin 3 → Nat :=
  let arg0 : BitVec 32 := BitVec.ofNat 32 (i 0).val
  let v1105 : Index := Scalar.indexCast arg0
  let c2_525 : Index := 2#32
  let c4_526 : Index := 4#32
  ![v1105.toNat, 2, 4]
def k0_off38 (v1106 : BitVec 32) : Fin 5 → Nat :=
  let c0_i32_528 : BitVec 32 := 0#32
  let v1108 : BitVec 1 := Scalar.cmpi .sgt v1106 c0_i32_528
  let v1109 : BitVec 32 := Scalar.extui v1108
  let c0_i32_529 : BitVec 32 := 0#32
  let v1110 : BitVec 1 := Scalar.cmpi .slt v1106 c0_i32_529
  let v1111 : BitVec 32 := Scalar.extui v1110
  let v1112 : BitVec 32 := Scalar.subi v1109 v1111
  let c4_i32_527 : BitVec 32 := 4#32
  let c0_i32_530 : BitVec 32 := 0#32
  let v1113 : BitVec 1 := Scalar.cmpi .sgt c4_i32_527 c0_i32_530
  let v1114 : BitVec 32 := Scalar.extui v1113
  let c0_i32_531 : BitVec 32 := 0#32
  let v1115 : BitVec 1 := Scalar.cmpi .slt c4_i32_527 c0_i32_531
  let v1116 : BitVec 32 := Scalar.extui v1115
  let v1117 : BitVec 32 := Scalar.subi v1114 v1116
  let v1118 : BitVec 1 := Scalar.cmpi .ne v1112 v1117
  let v1119 : BitVec 32 := Scalar.remsi v1106 c4_i32_527
  let c0_i32_532 : BitVec 32 := 0#32
  let v1120 : BitVec 1 := Scalar.cmpi .ne v1119 c0_i32_532
  let v1121 : BitVec 1 := Scalar.andi v1118 v1120
  let v1107 : BitVec 32 := Scalar.divsi v1106 c4_i32_527
  let c1_i32_533 : BitVec 32 := 1#32
  let v1122 : BitVec 32 := Scalar.subi v1107 c1_i32_533
  let v1123 : BitVec 32 := Scalar.select v1121 v1122 v1107
  let v1134 : Index := Scalar.indexCast v1123
  let c0_540 : Index := 0#32
  let c4_i32_534 : BitVec 32 := 4#32
  let c0_i32_535 : BitVec 32 := 0#32
  let v1124 : BitVec 1 := Scalar.cmpi .eq c4_i32_534 c0_i32_535
  let c1_i32_536 : BitVec 32 := 1#32
  let v1125 : BitVec 32 := Scalar.select v1124 c1_i32_536 c4_i32_534
  let v1126 : BitVec 32 := Scalar.remsi v1106 v1125
  let c0_i32_538 : BitVec 32 := 0#32
  let v1128 : BitVec 1 := Scalar.cmpi .slt v1126 c0_i32_538
  let c0_i32_539 : BitVec 32 := 0#32
  let v1129 : BitVec 1 := Scalar.cmpi .slt v1125 c0_i32_539
  let v1130 : BitVec 1 := Scalar.xori v1128 v1129
  let c0_i32_537 : BitVec 32 := 0#32
  let v1127 : BitVec 1 := Scalar.cmpi .ne v1126 c0_i32_537
  let v1131 : BitVec 1 := Scalar.andi v1130 v1127
  let v1132 : BitVec 32 := Scalar.addi v1126 v1125
  let v1133 : BitVec 32 := Scalar.select v1131 v1132 v1126
  let v1135 : Index := Scalar.indexCast v1133
  let c0_541 : Index := 0#32
  let c0_542 : Index := 0#32
  ![v1134.toNat, 0, v1135.toNat, 0, 0]

def k0_chk19 (v1106 : BitVec 32) : Prop :=
  (∀ a, (k0_off38 v1106) a + S1x8x1x8x1024.size a ≤ S4x8x4x8x1024.size a)
theorem k0_off38_inb : ∀ (v1106 : BitVec 32) (k0_hw19 : k0_chk19 v1106), ∀ a, (k0_off38 v1106) a + S1x8x1x8x1024.size a ≤ S4x8x4x8x1024.size a := fun v1106 k0_hw19 => k0_hw19

def k0_off39 (i : grid0.Coords) : Fin 3 → Nat :=
  let arg0 : BitVec 32 := BitVec.ofNat 32 (i 0).val
  let v1144 : Index := Scalar.indexCast arg0
  let c3_546 : Index := 3#32
  let c4_547 : Index := 4#32
  ![v1144.toNat, 3, 4]
def k0_off40 (v1145 : BitVec 32) : Fin 5 → Nat :=
  let c0_i32_549 : BitVec 32 := 0#32
  let v1147 : BitVec 1 := Scalar.cmpi .sgt v1145 c0_i32_549
  let v1148 : BitVec 32 := Scalar.extui v1147
  let c0_i32_550 : BitVec 32 := 0#32
  let v1149 : BitVec 1 := Scalar.cmpi .slt v1145 c0_i32_550
  let v1150 : BitVec 32 := Scalar.extui v1149
  let v1151 : BitVec 32 := Scalar.subi v1148 v1150
  let c4_i32_548 : BitVec 32 := 4#32
  let c0_i32_551 : BitVec 32 := 0#32
  let v1152 : BitVec 1 := Scalar.cmpi .sgt c4_i32_548 c0_i32_551
  let v1153 : BitVec 32 := Scalar.extui v1152
  let c0_i32_552 : BitVec 32 := 0#32
  let v1154 : BitVec 1 := Scalar.cmpi .slt c4_i32_548 c0_i32_552
  let v1155 : BitVec 32 := Scalar.extui v1154
  let v1156 : BitVec 32 := Scalar.subi v1153 v1155
  let v1157 : BitVec 1 := Scalar.cmpi .ne v1151 v1156
  let v1158 : BitVec 32 := Scalar.remsi v1145 c4_i32_548
  let c0_i32_553 : BitVec 32 := 0#32
  let v1159 : BitVec 1 := Scalar.cmpi .ne v1158 c0_i32_553
  let v1160 : BitVec 1 := Scalar.andi v1157 v1159
  let v1146 : BitVec 32 := Scalar.divsi v1145 c4_i32_548
  let c1_i32_554 : BitVec 32 := 1#32
  let v1161 : BitVec 32 := Scalar.subi v1146 c1_i32_554
  let v1162 : BitVec 32 := Scalar.select v1160 v1161 v1146
  let v1173 : Index := Scalar.indexCast v1162
  let c0_561 : Index := 0#32
  let c4_i32_555 : BitVec 32 := 4#32
  let c0_i32_556 : BitVec 32 := 0#32
  let v1163 : BitVec 1 := Scalar.cmpi .eq c4_i32_555 c0_i32_556
  let c1_i32_557 : BitVec 32 := 1#32
  let v1164 : BitVec 32 := Scalar.select v1163 c1_i32_557 c4_i32_555
  let v1165 : BitVec 32 := Scalar.remsi v1145 v1164
  let c0_i32_559 : BitVec 32 := 0#32
  let v1167 : BitVec 1 := Scalar.cmpi .slt v1165 c0_i32_559
  let c0_i32_560 : BitVec 32 := 0#32
  let v1168 : BitVec 1 := Scalar.cmpi .slt v1164 c0_i32_560
  let v1169 : BitVec 1 := Scalar.xori v1167 v1168
  let c0_i32_558 : BitVec 32 := 0#32
  let v1166 : BitVec 1 := Scalar.cmpi .ne v1165 c0_i32_558
  let v1170 : BitVec 1 := Scalar.andi v1169 v1166
  let v1171 : BitVec 32 := Scalar.addi v1165 v1164
  let v1172 : BitVec 32 := Scalar.select v1170 v1171 v1165
  let v1174 : Index := Scalar.indexCast v1172
  let c0_562 : Index := 0#32
  let c0_563 : Index := 0#32
  ![v1173.toNat, 0, v1174.toNat, 0, 0]

def k0_chk20 (v1145 : BitVec 32) : Prop :=
  (∀ a, (k0_off40 v1145) a + S1x8x1x8x1024.size a ≤ S4x8x4x8x1024.size a)
theorem k0_off40_inb : ∀ (v1145 : BitVec 32) (k0_hw20 : k0_chk20 v1145), ∀ a, (k0_off40 v1145) a + S1x8x1x8x1024.size a ≤ S4x8x4x8x1024.size a := fun v1145 k0_hw20 => k0_hw20

def k0_off41 (i : grid0.Coords) : Fin 3 → Nat :=
  let arg0 : BitVec 32 := BitVec.ofNat 32 (i 0).val
  let v1188 : Index := Scalar.indexCast arg0
  let c0_567 : Index := 0#32
  let c5_568 : Index := 5#32
  ![v1188.toNat, 0, 5]
def k0_off42 (v1189 : BitVec 32) : Fin 5 → Nat :=
  let c0_i32_570 : BitVec 32 := 0#32
  let v1191 : BitVec 1 := Scalar.cmpi .sgt v1189 c0_i32_570
  let v1192 : BitVec 32 := Scalar.extui v1191
  let c0_i32_571 : BitVec 32 := 0#32
  let v1193 : BitVec 1 := Scalar.cmpi .slt v1189 c0_i32_571
  let v1194 : BitVec 32 := Scalar.extui v1193
  let v1195 : BitVec 32 := Scalar.subi v1192 v1194
  let c4_i32_569 : BitVec 32 := 4#32
  let c0_i32_572 : BitVec 32 := 0#32
  let v1196 : BitVec 1 := Scalar.cmpi .sgt c4_i32_569 c0_i32_572
  let v1197 : BitVec 32 := Scalar.extui v1196
  let c0_i32_573 : BitVec 32 := 0#32
  let v1198 : BitVec 1 := Scalar.cmpi .slt c4_i32_569 c0_i32_573
  let v1199 : BitVec 32 := Scalar.extui v1198
  let v1200 : BitVec 32 := Scalar.subi v1197 v1199
  let v1201 : BitVec 1 := Scalar.cmpi .ne v1195 v1200
  let v1202 : BitVec 32 := Scalar.remsi v1189 c4_i32_569
  let c0_i32_574 : BitVec 32 := 0#32
  let v1203 : BitVec 1 := Scalar.cmpi .ne v1202 c0_i32_574
  let v1204 : BitVec 1 := Scalar.andi v1201 v1203
  let v1190 : BitVec 32 := Scalar.divsi v1189 c4_i32_569
  let c1_i32_575 : BitVec 32 := 1#32
  let v1205 : BitVec 32 := Scalar.subi v1190 c1_i32_575
  let v1206 : BitVec 32 := Scalar.select v1204 v1205 v1190
  let v1217 : Index := Scalar.indexCast v1206
  let c0_582 : Index := 0#32
  let c4_i32_576 : BitVec 32 := 4#32
  let c0_i32_577 : BitVec 32 := 0#32
  let v1207 : BitVec 1 := Scalar.cmpi .eq c4_i32_576 c0_i32_577
  let c1_i32_578 : BitVec 32 := 1#32
  let v1208 : BitVec 32 := Scalar.select v1207 c1_i32_578 c4_i32_576
  let v1209 : BitVec 32 := Scalar.remsi v1189 v1208
  let c0_i32_580 : BitVec 32 := 0#32
  let v1211 : BitVec 1 := Scalar.cmpi .slt v1209 c0_i32_580
  let c0_i32_581 : BitVec 32 := 0#32
  let v1212 : BitVec 1 := Scalar.cmpi .slt v1208 c0_i32_581
  let v1213 : BitVec 1 := Scalar.xori v1211 v1212
  let c0_i32_579 : BitVec 32 := 0#32
  let v1210 : BitVec 1 := Scalar.cmpi .ne v1209 c0_i32_579
  let v1214 : BitVec 1 := Scalar.andi v1213 v1210
  let v1215 : BitVec 32 := Scalar.addi v1209 v1208
  let v1216 : BitVec 32 := Scalar.select v1214 v1215 v1209
  let v1218 : Index := Scalar.indexCast v1216
  let c0_583 : Index := 0#32
  let c0_584 : Index := 0#32
  ![v1217.toNat, 0, v1218.toNat, 0, 0]

def k0_chk21 (v1189 : BitVec 32) : Prop :=
  (∀ a, (k0_off42 v1189) a + S1x8x1x8x1024.size a ≤ S4x8x4x8x1024.size a)
theorem k0_off42_inb : ∀ (v1189 : BitVec 32) (k0_hw21 : k0_chk21 v1189), ∀ a, (k0_off42 v1189) a + S1x8x1x8x1024.size a ≤ S4x8x4x8x1024.size a := fun v1189 k0_hw21 => k0_hw21

def k0_off43 (i : grid0.Coords) : Fin 3 → Nat :=
  let arg0 : BitVec 32 := BitVec.ofNat 32 (i 0).val
  let v1227 : Index := Scalar.indexCast arg0
  let c1_588 : Index := 1#32
  let c5_589 : Index := 5#32
  ![v1227.toNat, 1, 5]
def k0_off44 (v1228 : BitVec 32) : Fin 5 → Nat :=
  let c0_i32_591 : BitVec 32 := 0#32
  let v1230 : BitVec 1 := Scalar.cmpi .sgt v1228 c0_i32_591
  let v1231 : BitVec 32 := Scalar.extui v1230
  let c0_i32_592 : BitVec 32 := 0#32
  let v1232 : BitVec 1 := Scalar.cmpi .slt v1228 c0_i32_592
  let v1233 : BitVec 32 := Scalar.extui v1232
  let v1234 : BitVec 32 := Scalar.subi v1231 v1233
  let c4_i32_590 : BitVec 32 := 4#32
  let c0_i32_593 : BitVec 32 := 0#32
  let v1235 : BitVec 1 := Scalar.cmpi .sgt c4_i32_590 c0_i32_593
  let v1236 : BitVec 32 := Scalar.extui v1235
  let c0_i32_594 : BitVec 32 := 0#32
  let v1237 : BitVec 1 := Scalar.cmpi .slt c4_i32_590 c0_i32_594
  let v1238 : BitVec 32 := Scalar.extui v1237
  let v1239 : BitVec 32 := Scalar.subi v1236 v1238
  let v1240 : BitVec 1 := Scalar.cmpi .ne v1234 v1239
  let v1241 : BitVec 32 := Scalar.remsi v1228 c4_i32_590
  let c0_i32_595 : BitVec 32 := 0#32
  let v1242 : BitVec 1 := Scalar.cmpi .ne v1241 c0_i32_595
  let v1243 : BitVec 1 := Scalar.andi v1240 v1242
  let v1229 : BitVec 32 := Scalar.divsi v1228 c4_i32_590
  let c1_i32_596 : BitVec 32 := 1#32
  let v1244 : BitVec 32 := Scalar.subi v1229 c1_i32_596
  let v1245 : BitVec 32 := Scalar.select v1243 v1244 v1229
  let v1256 : Index := Scalar.indexCast v1245
  let c0_603 : Index := 0#32
  let c4_i32_597 : BitVec 32 := 4#32
  let c0_i32_598 : BitVec 32 := 0#32
  let v1246 : BitVec 1 := Scalar.cmpi .eq c4_i32_597 c0_i32_598
  let c1_i32_599 : BitVec 32 := 1#32
  let v1247 : BitVec 32 := Scalar.select v1246 c1_i32_599 c4_i32_597
  let v1248 : BitVec 32 := Scalar.remsi v1228 v1247
  let c0_i32_601 : BitVec 32 := 0#32
  let v1250 : BitVec 1 := Scalar.cmpi .slt v1248 c0_i32_601
  let c0_i32_602 : BitVec 32 := 0#32
  let v1251 : BitVec 1 := Scalar.cmpi .slt v1247 c0_i32_602
  let v1252 : BitVec 1 := Scalar.xori v1250 v1251
  let c0_i32_600 : BitVec 32 := 0#32
  let v1249 : BitVec 1 := Scalar.cmpi .ne v1248 c0_i32_600
  let v1253 : BitVec 1 := Scalar.andi v1252 v1249
  let v1254 : BitVec 32 := Scalar.addi v1248 v1247
  let v1255 : BitVec 32 := Scalar.select v1253 v1254 v1248
  let v1257 : Index := Scalar.indexCast v1255
  let c0_604 : Index := 0#32
  let c0_605 : Index := 0#32
  ![v1256.toNat, 0, v1257.toNat, 0, 0]

def k0_chk22 (v1228 : BitVec 32) : Prop :=
  (∀ a, (k0_off44 v1228) a + S1x8x1x8x1024.size a ≤ S4x8x4x8x1024.size a)
theorem k0_off44_inb : ∀ (v1228 : BitVec 32) (k0_hw22 : k0_chk22 v1228), ∀ a, (k0_off44 v1228) a + S1x8x1x8x1024.size a ≤ S4x8x4x8x1024.size a := fun v1228 k0_hw22 => k0_hw22

def k0_off45 (i : grid0.Coords) : Fin 3 → Nat :=
  let arg0 : BitVec 32 := BitVec.ofNat 32 (i 0).val
  let v1266 : Index := Scalar.indexCast arg0
  let c2_609 : Index := 2#32
  let c5_610 : Index := 5#32
  ![v1266.toNat, 2, 5]
def k0_off46 (v1267 : BitVec 32) : Fin 5 → Nat :=
  let c0_i32_612 : BitVec 32 := 0#32
  let v1269 : BitVec 1 := Scalar.cmpi .sgt v1267 c0_i32_612
  let v1270 : BitVec 32 := Scalar.extui v1269
  let c0_i32_613 : BitVec 32 := 0#32
  let v1271 : BitVec 1 := Scalar.cmpi .slt v1267 c0_i32_613
  let v1272 : BitVec 32 := Scalar.extui v1271
  let v1273 : BitVec 32 := Scalar.subi v1270 v1272
  let c4_i32_611 : BitVec 32 := 4#32
  let c0_i32_614 : BitVec 32 := 0#32
  let v1274 : BitVec 1 := Scalar.cmpi .sgt c4_i32_611 c0_i32_614
  let v1275 : BitVec 32 := Scalar.extui v1274
  let c0_i32_615 : BitVec 32 := 0#32
  let v1276 : BitVec 1 := Scalar.cmpi .slt c4_i32_611 c0_i32_615
  let v1277 : BitVec 32 := Scalar.extui v1276
  let v1278 : BitVec 32 := Scalar.subi v1275 v1277
  let v1279 : BitVec 1 := Scalar.cmpi .ne v1273 v1278
  let v1280 : BitVec 32 := Scalar.remsi v1267 c4_i32_611
  let c0_i32_616 : BitVec 32 := 0#32
  let v1281 : BitVec 1 := Scalar.cmpi .ne v1280 c0_i32_616
  let v1282 : BitVec 1 := Scalar.andi v1279 v1281
  let v1268 : BitVec 32 := Scalar.divsi v1267 c4_i32_611
  let c1_i32_617 : BitVec 32 := 1#32
  let v1283 : BitVec 32 := Scalar.subi v1268 c1_i32_617
  let v1284 : BitVec 32 := Scalar.select v1282 v1283 v1268
  let v1295 : Index := Scalar.indexCast v1284
  let c0_624 : Index := 0#32
  let c4_i32_618 : BitVec 32 := 4#32
  let c0_i32_619 : BitVec 32 := 0#32
  let v1285 : BitVec 1 := Scalar.cmpi .eq c4_i32_618 c0_i32_619
  let c1_i32_620 : BitVec 32 := 1#32
  let v1286 : BitVec 32 := Scalar.select v1285 c1_i32_620 c4_i32_618
  let v1287 : BitVec 32 := Scalar.remsi v1267 v1286
  let c0_i32_622 : BitVec 32 := 0#32
  let v1289 : BitVec 1 := Scalar.cmpi .slt v1287 c0_i32_622
  let c0_i32_623 : BitVec 32 := 0#32
  let v1290 : BitVec 1 := Scalar.cmpi .slt v1286 c0_i32_623
  let v1291 : BitVec 1 := Scalar.xori v1289 v1290
  let c0_i32_621 : BitVec 32 := 0#32
  let v1288 : BitVec 1 := Scalar.cmpi .ne v1287 c0_i32_621
  let v1292 : BitVec 1 := Scalar.andi v1291 v1288
  let v1293 : BitVec 32 := Scalar.addi v1287 v1286
  let v1294 : BitVec 32 := Scalar.select v1292 v1293 v1287
  let v1296 : Index := Scalar.indexCast v1294
  let c0_625 : Index := 0#32
  let c0_626 : Index := 0#32
  ![v1295.toNat, 0, v1296.toNat, 0, 0]

def k0_chk23 (v1267 : BitVec 32) : Prop :=
  (∀ a, (k0_off46 v1267) a + S1x8x1x8x1024.size a ≤ S4x8x4x8x1024.size a)
theorem k0_off46_inb : ∀ (v1267 : BitVec 32) (k0_hw23 : k0_chk23 v1267), ∀ a, (k0_off46 v1267) a + S1x8x1x8x1024.size a ≤ S4x8x4x8x1024.size a := fun v1267 k0_hw23 => k0_hw23

def k0_off47 (i : grid0.Coords) : Fin 3 → Nat :=
  let arg0 : BitVec 32 := BitVec.ofNat 32 (i 0).val
  let v1305 : Index := Scalar.indexCast arg0
  let c3_630 : Index := 3#32
  let c5_631 : Index := 5#32
  ![v1305.toNat, 3, 5]
def k0_off48 (v1306 : BitVec 32) : Fin 5 → Nat :=
  let c0_i32_633 : BitVec 32 := 0#32
  let v1308 : BitVec 1 := Scalar.cmpi .sgt v1306 c0_i32_633
  let v1309 : BitVec 32 := Scalar.extui v1308
  let c0_i32_634 : BitVec 32 := 0#32
  let v1310 : BitVec 1 := Scalar.cmpi .slt v1306 c0_i32_634
  let v1311 : BitVec 32 := Scalar.extui v1310
  let v1312 : BitVec 32 := Scalar.subi v1309 v1311
  let c4_i32_632 : BitVec 32 := 4#32
  let c0_i32_635 : BitVec 32 := 0#32
  let v1313 : BitVec 1 := Scalar.cmpi .sgt c4_i32_632 c0_i32_635
  let v1314 : BitVec 32 := Scalar.extui v1313
  let c0_i32_636 : BitVec 32 := 0#32
  let v1315 : BitVec 1 := Scalar.cmpi .slt c4_i32_632 c0_i32_636
  let v1316 : BitVec 32 := Scalar.extui v1315
  let v1317 : BitVec 32 := Scalar.subi v1314 v1316
  let v1318 : BitVec 1 := Scalar.cmpi .ne v1312 v1317
  let v1319 : BitVec 32 := Scalar.remsi v1306 c4_i32_632
  let c0_i32_637 : BitVec 32 := 0#32
  let v1320 : BitVec 1 := Scalar.cmpi .ne v1319 c0_i32_637
  let v1321 : BitVec 1 := Scalar.andi v1318 v1320
  let v1307 : BitVec 32 := Scalar.divsi v1306 c4_i32_632
  let c1_i32_638 : BitVec 32 := 1#32
  let v1322 : BitVec 32 := Scalar.subi v1307 c1_i32_638
  let v1323 : BitVec 32 := Scalar.select v1321 v1322 v1307
  let v1334 : Index := Scalar.indexCast v1323
  let c0_645 : Index := 0#32
  let c4_i32_639 : BitVec 32 := 4#32
  let c0_i32_640 : BitVec 32 := 0#32
  let v1324 : BitVec 1 := Scalar.cmpi .eq c4_i32_639 c0_i32_640
  let c1_i32_641 : BitVec 32 := 1#32
  let v1325 : BitVec 32 := Scalar.select v1324 c1_i32_641 c4_i32_639
  let v1326 : BitVec 32 := Scalar.remsi v1306 v1325
  let c0_i32_643 : BitVec 32 := 0#32
  let v1328 : BitVec 1 := Scalar.cmpi .slt v1326 c0_i32_643
  let c0_i32_644 : BitVec 32 := 0#32
  let v1329 : BitVec 1 := Scalar.cmpi .slt v1325 c0_i32_644
  let v1330 : BitVec 1 := Scalar.xori v1328 v1329
  let c0_i32_642 : BitVec 32 := 0#32
  let v1327 : BitVec 1 := Scalar.cmpi .ne v1326 c0_i32_642
  let v1331 : BitVec 1 := Scalar.andi v1330 v1327
  let v1332 : BitVec 32 := Scalar.addi v1326 v1325
  let v1333 : BitVec 32 := Scalar.select v1331 v1332 v1326
  let v1335 : Index := Scalar.indexCast v1333
  let c0_646 : Index := 0#32
  let c0_647 : Index := 0#32
  ![v1334.toNat, 0, v1335.toNat, 0, 0]

def k0_chk24 (v1306 : BitVec 32) : Prop :=
  (∀ a, (k0_off48 v1306) a + S1x8x1x8x1024.size a ≤ S4x8x4x8x1024.size a)
theorem k0_off48_inb : ∀ (v1306 : BitVec 32) (k0_hw24 : k0_chk24 v1306), ∀ a, (k0_off48 v1306) a + S1x8x1x8x1024.size a ≤ S4x8x4x8x1024.size a := fun v1306 k0_hw24 => k0_hw24

def k0_off49 (i : grid0.Coords) : Fin 3 → Nat :=
  let arg0 : BitVec 32 := BitVec.ofNat 32 (i 0).val
  let v1349 : Index := Scalar.indexCast arg0
  let c0_651 : Index := 0#32
  let c6_652 : Index := 6#32
  ![v1349.toNat, 0, 6]
def k0_off50 (v1350 : BitVec 32) : Fin 5 → Nat :=
  let c0_i32_654 : BitVec 32 := 0#32
  let v1352 : BitVec 1 := Scalar.cmpi .sgt v1350 c0_i32_654
  let v1353 : BitVec 32 := Scalar.extui v1352
  let c0_i32_655 : BitVec 32 := 0#32
  let v1354 : BitVec 1 := Scalar.cmpi .slt v1350 c0_i32_655
  let v1355 : BitVec 32 := Scalar.extui v1354
  let v1356 : BitVec 32 := Scalar.subi v1353 v1355
  let c4_i32_653 : BitVec 32 := 4#32
  let c0_i32_656 : BitVec 32 := 0#32
  let v1357 : BitVec 1 := Scalar.cmpi .sgt c4_i32_653 c0_i32_656
  let v1358 : BitVec 32 := Scalar.extui v1357
  let c0_i32_657 : BitVec 32 := 0#32
  let v1359 : BitVec 1 := Scalar.cmpi .slt c4_i32_653 c0_i32_657
  let v1360 : BitVec 32 := Scalar.extui v1359
  let v1361 : BitVec 32 := Scalar.subi v1358 v1360
  let v1362 : BitVec 1 := Scalar.cmpi .ne v1356 v1361
  let v1363 : BitVec 32 := Scalar.remsi v1350 c4_i32_653
  let c0_i32_658 : BitVec 32 := 0#32
  let v1364 : BitVec 1 := Scalar.cmpi .ne v1363 c0_i32_658
  let v1365 : BitVec 1 := Scalar.andi v1362 v1364
  let v1351 : BitVec 32 := Scalar.divsi v1350 c4_i32_653
  let c1_i32_659 : BitVec 32 := 1#32
  let v1366 : BitVec 32 := Scalar.subi v1351 c1_i32_659
  let v1367 : BitVec 32 := Scalar.select v1365 v1366 v1351
  let v1378 : Index := Scalar.indexCast v1367
  let c0_666 : Index := 0#32
  let c4_i32_660 : BitVec 32 := 4#32
  let c0_i32_661 : BitVec 32 := 0#32
  let v1368 : BitVec 1 := Scalar.cmpi .eq c4_i32_660 c0_i32_661
  let c1_i32_662 : BitVec 32 := 1#32
  let v1369 : BitVec 32 := Scalar.select v1368 c1_i32_662 c4_i32_660
  let v1370 : BitVec 32 := Scalar.remsi v1350 v1369
  let c0_i32_664 : BitVec 32 := 0#32
  let v1372 : BitVec 1 := Scalar.cmpi .slt v1370 c0_i32_664
  let c0_i32_665 : BitVec 32 := 0#32
  let v1373 : BitVec 1 := Scalar.cmpi .slt v1369 c0_i32_665
  let v1374 : BitVec 1 := Scalar.xori v1372 v1373
  let c0_i32_663 : BitVec 32 := 0#32
  let v1371 : BitVec 1 := Scalar.cmpi .ne v1370 c0_i32_663
  let v1375 : BitVec 1 := Scalar.andi v1374 v1371
  let v1376 : BitVec 32 := Scalar.addi v1370 v1369
  let v1377 : BitVec 32 := Scalar.select v1375 v1376 v1370
  let v1379 : Index := Scalar.indexCast v1377
  let c0_667 : Index := 0#32
  let c0_668 : Index := 0#32
  ![v1378.toNat, 0, v1379.toNat, 0, 0]

def k0_chk25 (v1350 : BitVec 32) : Prop :=
  (∀ a, (k0_off50 v1350) a + S1x8x1x8x1024.size a ≤ S4x8x4x8x1024.size a)
theorem k0_off50_inb : ∀ (v1350 : BitVec 32) (k0_hw25 : k0_chk25 v1350), ∀ a, (k0_off50 v1350) a + S1x8x1x8x1024.size a ≤ S4x8x4x8x1024.size a := fun v1350 k0_hw25 => k0_hw25

def k0_off51 (i : grid0.Coords) : Fin 3 → Nat :=
  let arg0 : BitVec 32 := BitVec.ofNat 32 (i 0).val
  let v1388 : Index := Scalar.indexCast arg0
  let c1_672 : Index := 1#32
  let c6_673 : Index := 6#32
  ![v1388.toNat, 1, 6]
def k0_off52 (v1389 : BitVec 32) : Fin 5 → Nat :=
  let c0_i32_675 : BitVec 32 := 0#32
  let v1391 : BitVec 1 := Scalar.cmpi .sgt v1389 c0_i32_675
  let v1392 : BitVec 32 := Scalar.extui v1391
  let c0_i32_676 : BitVec 32 := 0#32
  let v1393 : BitVec 1 := Scalar.cmpi .slt v1389 c0_i32_676
  let v1394 : BitVec 32 := Scalar.extui v1393
  let v1395 : BitVec 32 := Scalar.subi v1392 v1394
  let c4_i32_674 : BitVec 32 := 4#32
  let c0_i32_677 : BitVec 32 := 0#32
  let v1396 : BitVec 1 := Scalar.cmpi .sgt c4_i32_674 c0_i32_677
  let v1397 : BitVec 32 := Scalar.extui v1396
  let c0_i32_678 : BitVec 32 := 0#32
  let v1398 : BitVec 1 := Scalar.cmpi .slt c4_i32_674 c0_i32_678
  let v1399 : BitVec 32 := Scalar.extui v1398
  let v1400 : BitVec 32 := Scalar.subi v1397 v1399
  let v1401 : BitVec 1 := Scalar.cmpi .ne v1395 v1400
  let v1402 : BitVec 32 := Scalar.remsi v1389 c4_i32_674
  let c0_i32_679 : BitVec 32 := 0#32
  let v1403 : BitVec 1 := Scalar.cmpi .ne v1402 c0_i32_679
  let v1404 : BitVec 1 := Scalar.andi v1401 v1403
  let v1390 : BitVec 32 := Scalar.divsi v1389 c4_i32_674
  let c1_i32_680 : BitVec 32 := 1#32
  let v1405 : BitVec 32 := Scalar.subi v1390 c1_i32_680
  let v1406 : BitVec 32 := Scalar.select v1404 v1405 v1390
  let v1417 : Index := Scalar.indexCast v1406
  let c0_687 : Index := 0#32
  let c4_i32_681 : BitVec 32 := 4#32
  let c0_i32_682 : BitVec 32 := 0#32
  let v1407 : BitVec 1 := Scalar.cmpi .eq c4_i32_681 c0_i32_682
  let c1_i32_683 : BitVec 32 := 1#32
  let v1408 : BitVec 32 := Scalar.select v1407 c1_i32_683 c4_i32_681
  let v1409 : BitVec 32 := Scalar.remsi v1389 v1408
  let c0_i32_685 : BitVec 32 := 0#32
  let v1411 : BitVec 1 := Scalar.cmpi .slt v1409 c0_i32_685
  let c0_i32_686 : BitVec 32 := 0#32
  let v1412 : BitVec 1 := Scalar.cmpi .slt v1408 c0_i32_686
  let v1413 : BitVec 1 := Scalar.xori v1411 v1412
  let c0_i32_684 : BitVec 32 := 0#32
  let v1410 : BitVec 1 := Scalar.cmpi .ne v1409 c0_i32_684
  let v1414 : BitVec 1 := Scalar.andi v1413 v1410
  let v1415 : BitVec 32 := Scalar.addi v1409 v1408
  let v1416 : BitVec 32 := Scalar.select v1414 v1415 v1409
  let v1418 : Index := Scalar.indexCast v1416
  let c0_688 : Index := 0#32
  let c0_689 : Index := 0#32
  ![v1417.toNat, 0, v1418.toNat, 0, 0]

def k0_chk26 (v1389 : BitVec 32) : Prop :=
  (∀ a, (k0_off52 v1389) a + S1x8x1x8x1024.size a ≤ S4x8x4x8x1024.size a)
theorem k0_off52_inb : ∀ (v1389 : BitVec 32) (k0_hw26 : k0_chk26 v1389), ∀ a, (k0_off52 v1389) a + S1x8x1x8x1024.size a ≤ S4x8x4x8x1024.size a := fun v1389 k0_hw26 => k0_hw26

def k0_off53 (i : grid0.Coords) : Fin 3 → Nat :=
  let arg0 : BitVec 32 := BitVec.ofNat 32 (i 0).val
  let v1427 : Index := Scalar.indexCast arg0
  let c2_693 : Index := 2#32
  let c6_694 : Index := 6#32
  ![v1427.toNat, 2, 6]
def k0_off54 (v1428 : BitVec 32) : Fin 5 → Nat :=
  let c0_i32_696 : BitVec 32 := 0#32
  let v1430 : BitVec 1 := Scalar.cmpi .sgt v1428 c0_i32_696
  let v1431 : BitVec 32 := Scalar.extui v1430
  let c0_i32_697 : BitVec 32 := 0#32
  let v1432 : BitVec 1 := Scalar.cmpi .slt v1428 c0_i32_697
  let v1433 : BitVec 32 := Scalar.extui v1432
  let v1434 : BitVec 32 := Scalar.subi v1431 v1433
  let c4_i32_695 : BitVec 32 := 4#32
  let c0_i32_698 : BitVec 32 := 0#32
  let v1435 : BitVec 1 := Scalar.cmpi .sgt c4_i32_695 c0_i32_698
  let v1436 : BitVec 32 := Scalar.extui v1435
  let c0_i32_699 : BitVec 32 := 0#32
  let v1437 : BitVec 1 := Scalar.cmpi .slt c4_i32_695 c0_i32_699
  let v1438 : BitVec 32 := Scalar.extui v1437
  let v1439 : BitVec 32 := Scalar.subi v1436 v1438
  let v1440 : BitVec 1 := Scalar.cmpi .ne v1434 v1439
  let v1441 : BitVec 32 := Scalar.remsi v1428 c4_i32_695
  let c0_i32_700 : BitVec 32 := 0#32
  let v1442 : BitVec 1 := Scalar.cmpi .ne v1441 c0_i32_700
  let v1443 : BitVec 1 := Scalar.andi v1440 v1442
  let v1429 : BitVec 32 := Scalar.divsi v1428 c4_i32_695
  let c1_i32_701 : BitVec 32 := 1#32
  let v1444 : BitVec 32 := Scalar.subi v1429 c1_i32_701
  let v1445 : BitVec 32 := Scalar.select v1443 v1444 v1429
  let v1456 : Index := Scalar.indexCast v1445
  let c0_708 : Index := 0#32
  let c4_i32_702 : BitVec 32 := 4#32
  let c0_i32_703 : BitVec 32 := 0#32
  let v1446 : BitVec 1 := Scalar.cmpi .eq c4_i32_702 c0_i32_703
  let c1_i32_704 : BitVec 32 := 1#32
  let v1447 : BitVec 32 := Scalar.select v1446 c1_i32_704 c4_i32_702
  let v1448 : BitVec 32 := Scalar.remsi v1428 v1447
  let c0_i32_706 : BitVec 32 := 0#32
  let v1450 : BitVec 1 := Scalar.cmpi .slt v1448 c0_i32_706
  let c0_i32_707 : BitVec 32 := 0#32
  let v1451 : BitVec 1 := Scalar.cmpi .slt v1447 c0_i32_707
  let v1452 : BitVec 1 := Scalar.xori v1450 v1451
  let c0_i32_705 : BitVec 32 := 0#32
  let v1449 : BitVec 1 := Scalar.cmpi .ne v1448 c0_i32_705
  let v1453 : BitVec 1 := Scalar.andi v1452 v1449
  let v1454 : BitVec 32 := Scalar.addi v1448 v1447
  let v1455 : BitVec 32 := Scalar.select v1453 v1454 v1448
  let v1457 : Index := Scalar.indexCast v1455
  let c0_709 : Index := 0#32
  let c0_710 : Index := 0#32
  ![v1456.toNat, 0, v1457.toNat, 0, 0]

def k0_chk27 (v1428 : BitVec 32) : Prop :=
  (∀ a, (k0_off54 v1428) a + S1x8x1x8x1024.size a ≤ S4x8x4x8x1024.size a)
theorem k0_off54_inb : ∀ (v1428 : BitVec 32) (k0_hw27 : k0_chk27 v1428), ∀ a, (k0_off54 v1428) a + S1x8x1x8x1024.size a ≤ S4x8x4x8x1024.size a := fun v1428 k0_hw27 => k0_hw27

def k0_off55 (i : grid0.Coords) : Fin 3 → Nat :=
  let arg0 : BitVec 32 := BitVec.ofNat 32 (i 0).val
  let v1466 : Index := Scalar.indexCast arg0
  let c3_714 : Index := 3#32
  let c6_715 : Index := 6#32
  ![v1466.toNat, 3, 6]
def k0_off56 (v1467 : BitVec 32) : Fin 5 → Nat :=
  let c0_i32_717 : BitVec 32 := 0#32
  let v1469 : BitVec 1 := Scalar.cmpi .sgt v1467 c0_i32_717
  let v1470 : BitVec 32 := Scalar.extui v1469
  let c0_i32_718 : BitVec 32 := 0#32
  let v1471 : BitVec 1 := Scalar.cmpi .slt v1467 c0_i32_718
  let v1472 : BitVec 32 := Scalar.extui v1471
  let v1473 : BitVec 32 := Scalar.subi v1470 v1472
  let c4_i32_716 : BitVec 32 := 4#32
  let c0_i32_719 : BitVec 32 := 0#32
  let v1474 : BitVec 1 := Scalar.cmpi .sgt c4_i32_716 c0_i32_719
  let v1475 : BitVec 32 := Scalar.extui v1474
  let c0_i32_720 : BitVec 32 := 0#32
  let v1476 : BitVec 1 := Scalar.cmpi .slt c4_i32_716 c0_i32_720
  let v1477 : BitVec 32 := Scalar.extui v1476
  let v1478 : BitVec 32 := Scalar.subi v1475 v1477
  let v1479 : BitVec 1 := Scalar.cmpi .ne v1473 v1478
  let v1480 : BitVec 32 := Scalar.remsi v1467 c4_i32_716
  let c0_i32_721 : BitVec 32 := 0#32
  let v1481 : BitVec 1 := Scalar.cmpi .ne v1480 c0_i32_721
  let v1482 : BitVec 1 := Scalar.andi v1479 v1481
  let v1468 : BitVec 32 := Scalar.divsi v1467 c4_i32_716
  let c1_i32_722 : BitVec 32 := 1#32
  let v1483 : BitVec 32 := Scalar.subi v1468 c1_i32_722
  let v1484 : BitVec 32 := Scalar.select v1482 v1483 v1468
  let v1495 : Index := Scalar.indexCast v1484
  let c0_729 : Index := 0#32
  let c4_i32_723 : BitVec 32 := 4#32
  let c0_i32_724 : BitVec 32 := 0#32
  let v1485 : BitVec 1 := Scalar.cmpi .eq c4_i32_723 c0_i32_724
  let c1_i32_725 : BitVec 32 := 1#32
  let v1486 : BitVec 32 := Scalar.select v1485 c1_i32_725 c4_i32_723
  let v1487 : BitVec 32 := Scalar.remsi v1467 v1486
  let c0_i32_727 : BitVec 32 := 0#32
  let v1489 : BitVec 1 := Scalar.cmpi .slt v1487 c0_i32_727
  let c0_i32_728 : BitVec 32 := 0#32
  let v1490 : BitVec 1 := Scalar.cmpi .slt v1486 c0_i32_728
  let v1491 : BitVec 1 := Scalar.xori v1489 v1490
  let c0_i32_726 : BitVec 32 := 0#32
  let v1488 : BitVec 1 := Scalar.cmpi .ne v1487 c0_i32_726
  let v1492 : BitVec 1 := Scalar.andi v1491 v1488
  let v1493 : BitVec 32 := Scalar.addi v1487 v1486
  let v1494 : BitVec 32 := Scalar.select v1492 v1493 v1487
  let v1496 : Index := Scalar.indexCast v1494
  let c0_730 : Index := 0#32
  let c0_731 : Index := 0#32
  ![v1495.toNat, 0, v1496.toNat, 0, 0]

def k0_chk28 (v1467 : BitVec 32) : Prop :=
  (∀ a, (k0_off56 v1467) a + S1x8x1x8x1024.size a ≤ S4x8x4x8x1024.size a)
theorem k0_off56_inb : ∀ (v1467 : BitVec 32) (k0_hw28 : k0_chk28 v1467), ∀ a, (k0_off56 v1467) a + S1x8x1x8x1024.size a ≤ S4x8x4x8x1024.size a := fun v1467 k0_hw28 => k0_hw28

def k0_off57 (i : grid0.Coords) : Fin 3 → Nat :=
  let arg0 : BitVec 32 := BitVec.ofNat 32 (i 0).val
  let v1510 : Index := Scalar.indexCast arg0
  let c0_735 : Index := 0#32
  let c7_736 : Index := 7#32
  ![v1510.toNat, 0, 7]
def k0_off58 (v1511 : BitVec 32) : Fin 5 → Nat :=
  let c0_i32_738 : BitVec 32 := 0#32
  let v1513 : BitVec 1 := Scalar.cmpi .sgt v1511 c0_i32_738
  let v1514 : BitVec 32 := Scalar.extui v1513
  let c0_i32_739 : BitVec 32 := 0#32
  let v1515 : BitVec 1 := Scalar.cmpi .slt v1511 c0_i32_739
  let v1516 : BitVec 32 := Scalar.extui v1515
  let v1517 : BitVec 32 := Scalar.subi v1514 v1516
  let c4_i32_737 : BitVec 32 := 4#32
  let c0_i32_740 : BitVec 32 := 0#32
  let v1518 : BitVec 1 := Scalar.cmpi .sgt c4_i32_737 c0_i32_740
  let v1519 : BitVec 32 := Scalar.extui v1518
  let c0_i32_741 : BitVec 32 := 0#32
  let v1520 : BitVec 1 := Scalar.cmpi .slt c4_i32_737 c0_i32_741
  let v1521 : BitVec 32 := Scalar.extui v1520
  let v1522 : BitVec 32 := Scalar.subi v1519 v1521
  let v1523 : BitVec 1 := Scalar.cmpi .ne v1517 v1522
  let v1524 : BitVec 32 := Scalar.remsi v1511 c4_i32_737
  let c0_i32_742 : BitVec 32 := 0#32
  let v1525 : BitVec 1 := Scalar.cmpi .ne v1524 c0_i32_742
  let v1526 : BitVec 1 := Scalar.andi v1523 v1525
  let v1512 : BitVec 32 := Scalar.divsi v1511 c4_i32_737
  let c1_i32_743 : BitVec 32 := 1#32
  let v1527 : BitVec 32 := Scalar.subi v1512 c1_i32_743
  let v1528 : BitVec 32 := Scalar.select v1526 v1527 v1512
  let v1539 : Index := Scalar.indexCast v1528
  let c0_750 : Index := 0#32
  let c4_i32_744 : BitVec 32 := 4#32
  let c0_i32_745 : BitVec 32 := 0#32
  let v1529 : BitVec 1 := Scalar.cmpi .eq c4_i32_744 c0_i32_745
  let c1_i32_746 : BitVec 32 := 1#32
  let v1530 : BitVec 32 := Scalar.select v1529 c1_i32_746 c4_i32_744
  let v1531 : BitVec 32 := Scalar.remsi v1511 v1530
  let c0_i32_748 : BitVec 32 := 0#32
  let v1533 : BitVec 1 := Scalar.cmpi .slt v1531 c0_i32_748
  let c0_i32_749 : BitVec 32 := 0#32
  let v1534 : BitVec 1 := Scalar.cmpi .slt v1530 c0_i32_749
  let v1535 : BitVec 1 := Scalar.xori v1533 v1534
  let c0_i32_747 : BitVec 32 := 0#32
  let v1532 : BitVec 1 := Scalar.cmpi .ne v1531 c0_i32_747
  let v1536 : BitVec 1 := Scalar.andi v1535 v1532
  let v1537 : BitVec 32 := Scalar.addi v1531 v1530
  let v1538 : BitVec 32 := Scalar.select v1536 v1537 v1531
  let v1540 : Index := Scalar.indexCast v1538
  let c0_751 : Index := 0#32
  let c0_752 : Index := 0#32
  ![v1539.toNat, 0, v1540.toNat, 0, 0]

def k0_chk29 (v1511 : BitVec 32) : Prop :=
  (∀ a, (k0_off58 v1511) a + S1x8x1x8x1024.size a ≤ S4x8x4x8x1024.size a)
theorem k0_off58_inb : ∀ (v1511 : BitVec 32) (k0_hw29 : k0_chk29 v1511), ∀ a, (k0_off58 v1511) a + S1x8x1x8x1024.size a ≤ S4x8x4x8x1024.size a := fun v1511 k0_hw29 => k0_hw29

def k0_off59 (i : grid0.Coords) : Fin 3 → Nat :=
  let arg0 : BitVec 32 := BitVec.ofNat 32 (i 0).val
  let v1549 : Index := Scalar.indexCast arg0
  let c1_756 : Index := 1#32
  let c7_757 : Index := 7#32
  ![v1549.toNat, 1, 7]
def k0_off60 (v1550 : BitVec 32) : Fin 5 → Nat :=
  let c0_i32_759 : BitVec 32 := 0#32
  let v1552 : BitVec 1 := Scalar.cmpi .sgt v1550 c0_i32_759
  let v1553 : BitVec 32 := Scalar.extui v1552
  let c0_i32_760 : BitVec 32 := 0#32
  let v1554 : BitVec 1 := Scalar.cmpi .slt v1550 c0_i32_760
  let v1555 : BitVec 32 := Scalar.extui v1554
  let v1556 : BitVec 32 := Scalar.subi v1553 v1555
  let c4_i32_758 : BitVec 32 := 4#32
  let c0_i32_761 : BitVec 32 := 0#32
  let v1557 : BitVec 1 := Scalar.cmpi .sgt c4_i32_758 c0_i32_761
  let v1558 : BitVec 32 := Scalar.extui v1557
  let c0_i32_762 : BitVec 32 := 0#32
  let v1559 : BitVec 1 := Scalar.cmpi .slt c4_i32_758 c0_i32_762
  let v1560 : BitVec 32 := Scalar.extui v1559
  let v1561 : BitVec 32 := Scalar.subi v1558 v1560
  let v1562 : BitVec 1 := Scalar.cmpi .ne v1556 v1561
  let v1563 : BitVec 32 := Scalar.remsi v1550 c4_i32_758
  let c0_i32_763 : BitVec 32 := 0#32
  let v1564 : BitVec 1 := Scalar.cmpi .ne v1563 c0_i32_763
  let v1565 : BitVec 1 := Scalar.andi v1562 v1564
  let v1551 : BitVec 32 := Scalar.divsi v1550 c4_i32_758
  let c1_i32_764 : BitVec 32 := 1#32
  let v1566 : BitVec 32 := Scalar.subi v1551 c1_i32_764
  let v1567 : BitVec 32 := Scalar.select v1565 v1566 v1551
  let v1578 : Index := Scalar.indexCast v1567
  let c0_771 : Index := 0#32
  let c4_i32_765 : BitVec 32 := 4#32
  let c0_i32_766 : BitVec 32 := 0#32
  let v1568 : BitVec 1 := Scalar.cmpi .eq c4_i32_765 c0_i32_766
  let c1_i32_767 : BitVec 32 := 1#32
  let v1569 : BitVec 32 := Scalar.select v1568 c1_i32_767 c4_i32_765
  let v1570 : BitVec 32 := Scalar.remsi v1550 v1569
  let c0_i32_769 : BitVec 32 := 0#32
  let v1572 : BitVec 1 := Scalar.cmpi .slt v1570 c0_i32_769
  let c0_i32_770 : BitVec 32 := 0#32
  let v1573 : BitVec 1 := Scalar.cmpi .slt v1569 c0_i32_770
  let v1574 : BitVec 1 := Scalar.xori v1572 v1573
  let c0_i32_768 : BitVec 32 := 0#32
  let v1571 : BitVec 1 := Scalar.cmpi .ne v1570 c0_i32_768
  let v1575 : BitVec 1 := Scalar.andi v1574 v1571
  let v1576 : BitVec 32 := Scalar.addi v1570 v1569
  let v1577 : BitVec 32 := Scalar.select v1575 v1576 v1570
  let v1579 : Index := Scalar.indexCast v1577
  let c0_772 : Index := 0#32
  let c0_773 : Index := 0#32
  ![v1578.toNat, 0, v1579.toNat, 0, 0]

def k0_chk30 (v1550 : BitVec 32) : Prop :=
  (∀ a, (k0_off60 v1550) a + S1x8x1x8x1024.size a ≤ S4x8x4x8x1024.size a)
theorem k0_off60_inb : ∀ (v1550 : BitVec 32) (k0_hw30 : k0_chk30 v1550), ∀ a, (k0_off60 v1550) a + S1x8x1x8x1024.size a ≤ S4x8x4x8x1024.size a := fun v1550 k0_hw30 => k0_hw30

def k0_off61 (i : grid0.Coords) : Fin 3 → Nat :=
  let arg0 : BitVec 32 := BitVec.ofNat 32 (i 0).val
  let v1588 : Index := Scalar.indexCast arg0
  let c2_777 : Index := 2#32
  let c7_778 : Index := 7#32
  ![v1588.toNat, 2, 7]
def k0_off62 (v1589 : BitVec 32) : Fin 5 → Nat :=
  let c0_i32_780 : BitVec 32 := 0#32
  let v1591 : BitVec 1 := Scalar.cmpi .sgt v1589 c0_i32_780
  let v1592 : BitVec 32 := Scalar.extui v1591
  let c0_i32_781 : BitVec 32 := 0#32
  let v1593 : BitVec 1 := Scalar.cmpi .slt v1589 c0_i32_781
  let v1594 : BitVec 32 := Scalar.extui v1593
  let v1595 : BitVec 32 := Scalar.subi v1592 v1594
  let c4_i32_779 : BitVec 32 := 4#32
  let c0_i32_782 : BitVec 32 := 0#32
  let v1596 : BitVec 1 := Scalar.cmpi .sgt c4_i32_779 c0_i32_782
  let v1597 : BitVec 32 := Scalar.extui v1596
  let c0_i32_783 : BitVec 32 := 0#32
  let v1598 : BitVec 1 := Scalar.cmpi .slt c4_i32_779 c0_i32_783
  let v1599 : BitVec 32 := Scalar.extui v1598
  let v1600 : BitVec 32 := Scalar.subi v1597 v1599
  let v1601 : BitVec 1 := Scalar.cmpi .ne v1595 v1600
  let v1602 : BitVec 32 := Scalar.remsi v1589 c4_i32_779
  let c0_i32_784 : BitVec 32 := 0#32
  let v1603 : BitVec 1 := Scalar.cmpi .ne v1602 c0_i32_784
  let v1604 : BitVec 1 := Scalar.andi v1601 v1603
  let v1590 : BitVec 32 := Scalar.divsi v1589 c4_i32_779
  let c1_i32_785 : BitVec 32 := 1#32
  let v1605 : BitVec 32 := Scalar.subi v1590 c1_i32_785
  let v1606 : BitVec 32 := Scalar.select v1604 v1605 v1590
  let v1617 : Index := Scalar.indexCast v1606
  let c0_792 : Index := 0#32
  let c4_i32_786 : BitVec 32 := 4#32
  let c0_i32_787 : BitVec 32 := 0#32
  let v1607 : BitVec 1 := Scalar.cmpi .eq c4_i32_786 c0_i32_787
  let c1_i32_788 : BitVec 32 := 1#32
  let v1608 : BitVec 32 := Scalar.select v1607 c1_i32_788 c4_i32_786
  let v1609 : BitVec 32 := Scalar.remsi v1589 v1608
  let c0_i32_790 : BitVec 32 := 0#32
  let v1611 : BitVec 1 := Scalar.cmpi .slt v1609 c0_i32_790
  let c0_i32_791 : BitVec 32 := 0#32
  let v1612 : BitVec 1 := Scalar.cmpi .slt v1608 c0_i32_791
  let v1613 : BitVec 1 := Scalar.xori v1611 v1612
  let c0_i32_789 : BitVec 32 := 0#32
  let v1610 : BitVec 1 := Scalar.cmpi .ne v1609 c0_i32_789
  let v1614 : BitVec 1 := Scalar.andi v1613 v1610
  let v1615 : BitVec 32 := Scalar.addi v1609 v1608
  let v1616 : BitVec 32 := Scalar.select v1614 v1615 v1609
  let v1618 : Index := Scalar.indexCast v1616
  let c0_793 : Index := 0#32
  let c0_794 : Index := 0#32
  ![v1617.toNat, 0, v1618.toNat, 0, 0]

def k0_chk31 (v1589 : BitVec 32) : Prop :=
  (∀ a, (k0_off62 v1589) a + S1x8x1x8x1024.size a ≤ S4x8x4x8x1024.size a)
theorem k0_off62_inb : ∀ (v1589 : BitVec 32) (k0_hw31 : k0_chk31 v1589), ∀ a, (k0_off62 v1589) a + S1x8x1x8x1024.size a ≤ S4x8x4x8x1024.size a := fun v1589 k0_hw31 => k0_hw31

def k0_off63 (i : grid0.Coords) : Fin 3 → Nat :=
  let arg0 : BitVec 32 := BitVec.ofNat 32 (i 0).val
  let v1627 : Index := Scalar.indexCast arg0
  let c3_798 : Index := 3#32
  let c7_799 : Index := 7#32
  ![v1627.toNat, 3, 7]
def k0_off64 (v1628 : BitVec 32) : Fin 5 → Nat :=
  let c0_i32_801 : BitVec 32 := 0#32
  let v1630 : BitVec 1 := Scalar.cmpi .sgt v1628 c0_i32_801
  let v1631 : BitVec 32 := Scalar.extui v1630
  let c0_i32_802 : BitVec 32 := 0#32
  let v1632 : BitVec 1 := Scalar.cmpi .slt v1628 c0_i32_802
  let v1633 : BitVec 32 := Scalar.extui v1632
  let v1634 : BitVec 32 := Scalar.subi v1631 v1633
  let c4_i32_800 : BitVec 32 := 4#32
  let c0_i32_803 : BitVec 32 := 0#32
  let v1635 : BitVec 1 := Scalar.cmpi .sgt c4_i32_800 c0_i32_803
  let v1636 : BitVec 32 := Scalar.extui v1635
  let c0_i32_804 : BitVec 32 := 0#32
  let v1637 : BitVec 1 := Scalar.cmpi .slt c4_i32_800 c0_i32_804
  let v1638 : BitVec 32 := Scalar.extui v1637
  let v1639 : BitVec 32 := Scalar.subi v1636 v1638
  let v1640 : BitVec 1 := Scalar.cmpi .ne v1634 v1639
  let v1641 : BitVec 32 := Scalar.remsi v1628 c4_i32_800
  let c0_i32_805 : BitVec 32 := 0#32
  let v1642 : BitVec 1 := Scalar.cmpi .ne v1641 c0_i32_805
  let v1643 : BitVec 1 := Scalar.andi v1640 v1642
  let v1629 : BitVec 32 := Scalar.divsi v1628 c4_i32_800
  let c1_i32_806 : BitVec 32 := 1#32
  let v1644 : BitVec 32 := Scalar.subi v1629 c1_i32_806
  let v1645 : BitVec 32 := Scalar.select v1643 v1644 v1629
  let v1656 : Index := Scalar.indexCast v1645
  let c0_813 : Index := 0#32
  let c4_i32_807 : BitVec 32 := 4#32
  let c0_i32_808 : BitVec 32 := 0#32
  let v1646 : BitVec 1 := Scalar.cmpi .eq c4_i32_807 c0_i32_808
  let c1_i32_809 : BitVec 32 := 1#32
  let v1647 : BitVec 32 := Scalar.select v1646 c1_i32_809 c4_i32_807
  let v1648 : BitVec 32 := Scalar.remsi v1628 v1647
  let c0_i32_811 : BitVec 32 := 0#32
  let v1650 : BitVec 1 := Scalar.cmpi .slt v1648 c0_i32_811
  let c0_i32_812 : BitVec 32 := 0#32
  let v1651 : BitVec 1 := Scalar.cmpi .slt v1647 c0_i32_812
  let v1652 : BitVec 1 := Scalar.xori v1650 v1651
  let c0_i32_810 : BitVec 32 := 0#32
  let v1649 : BitVec 1 := Scalar.cmpi .ne v1648 c0_i32_810
  let v1653 : BitVec 1 := Scalar.andi v1652 v1649
  let v1654 : BitVec 32 := Scalar.addi v1648 v1647
  let v1655 : BitVec 32 := Scalar.select v1653 v1654 v1648
  let v1657 : Index := Scalar.indexCast v1655
  let c0_814 : Index := 0#32
  let c0_815 : Index := 0#32
  ![v1656.toNat, 0, v1657.toNat, 0, 0]

def k0_chk32 (v1628 : BitVec 32) : Prop :=
  (∀ a, (k0_off64 v1628) a + S1x8x1x8x1024.size a ≤ S4x8x4x8x1024.size a)
theorem k0_off64_inb : ∀ (v1628 : BitVec 32) (k0_hw32 : k0_chk32 v1628), ∀ a, (k0_off64 v1628) a + S1x8x1x8x1024.size a ≤ S4x8x4x8x1024.size a := fun v1628 k0_hw32 => k0_hw32

def k0_off65 (i : grid0.Coords) : Fin 3 → Nat :=
  let arg0 : BitVec 32 := BitVec.ofNat 32 (i 0).val
  let v2775 : Index := Scalar.indexCast arg0
  let c0_1139 : Index := 0#32
  let c8_1140 : Index := 8#32
  ![v2775.toNat, 0, 8]
def k0_off66 (v2776 : BitVec 32) : Fin 5 → Nat :=
  let c0_i32_1142 : BitVec 32 := 0#32
  let v2778 : BitVec 1 := Scalar.cmpi .sgt v2776 c0_i32_1142
  let v2779 : BitVec 32 := Scalar.extui v2778
  let c0_i32_1143 : BitVec 32 := 0#32
  let v2780 : BitVec 1 := Scalar.cmpi .slt v2776 c0_i32_1143
  let v2781 : BitVec 32 := Scalar.extui v2780
  let v2782 : BitVec 32 := Scalar.subi v2779 v2781
  let c4_i32_1141 : BitVec 32 := 4#32
  let c0_i32_1144 : BitVec 32 := 0#32
  let v2783 : BitVec 1 := Scalar.cmpi .sgt c4_i32_1141 c0_i32_1144
  let v2784 : BitVec 32 := Scalar.extui v2783
  let c0_i32_1145 : BitVec 32 := 0#32
  let v2785 : BitVec 1 := Scalar.cmpi .slt c4_i32_1141 c0_i32_1145
  let v2786 : BitVec 32 := Scalar.extui v2785
  let v2787 : BitVec 32 := Scalar.subi v2784 v2786
  let v2788 : BitVec 1 := Scalar.cmpi .ne v2782 v2787
  let v2789 : BitVec 32 := Scalar.remsi v2776 c4_i32_1141
  let c0_i32_1146 : BitVec 32 := 0#32
  let v2790 : BitVec 1 := Scalar.cmpi .ne v2789 c0_i32_1146
  let v2791 : BitVec 1 := Scalar.andi v2788 v2790
  let v2777 : BitVec 32 := Scalar.divsi v2776 c4_i32_1141
  let c1_i32_1147 : BitVec 32 := 1#32
  let v2792 : BitVec 32 := Scalar.subi v2777 c1_i32_1147
  let v2793 : BitVec 32 := Scalar.select v2791 v2792 v2777
  let v2804 : Index := Scalar.indexCast v2793
  let c0_1154 : Index := 0#32
  let c4_i32_1148 : BitVec 32 := 4#32
  let c0_i32_1149 : BitVec 32 := 0#32
  let v2794 : BitVec 1 := Scalar.cmpi .eq c4_i32_1148 c0_i32_1149
  let c1_i32_1150 : BitVec 32 := 1#32
  let v2795 : BitVec 32 := Scalar.select v2794 c1_i32_1150 c4_i32_1148
  let v2796 : BitVec 32 := Scalar.remsi v2776 v2795
  let c0_i32_1152 : BitVec 32 := 0#32
  let v2798 : BitVec 1 := Scalar.cmpi .slt v2796 c0_i32_1152
  let c0_i32_1153 : BitVec 32 := 0#32
  let v2799 : BitVec 1 := Scalar.cmpi .slt v2795 c0_i32_1153
  let v2800 : BitVec 1 := Scalar.xori v2798 v2799
  let c0_i32_1151 : BitVec 32 := 0#32
  let v2797 : BitVec 1 := Scalar.cmpi .ne v2796 c0_i32_1151
  let v2801 : BitVec 1 := Scalar.andi v2800 v2797
  let v2802 : BitVec 32 := Scalar.addi v2796 v2795
  let v2803 : BitVec 32 := Scalar.select v2801 v2802 v2796
  let v2805 : Index := Scalar.indexCast v2803
  let c0_1155 : Index := 0#32
  let c0_1156 : Index := 0#32
  ![v2804.toNat, 0, v2805.toNat, 0, 0]

def k0_chk33 (v2776 : BitVec 32) : Prop :=
  (∀ a, (k0_off66 v2776) a + S1x8x1x8x1024.size a ≤ S4x8x4x8x1024.size a)
theorem k0_off66_inb : ∀ (v2776 : BitVec 32) (k0_hw33 : k0_chk33 v2776), ∀ a, (k0_off66 v2776) a + S1x8x1x8x1024.size a ≤ S4x8x4x8x1024.size a := fun v2776 k0_hw33 => k0_hw33

def k0_off67 (i : grid0.Coords) : Fin 3 → Nat :=
  let arg0 : BitVec 32 := BitVec.ofNat 32 (i 0).val
  let v2814 : Index := Scalar.indexCast arg0
  let c1_1160 : Index := 1#32
  let c8_1161 : Index := 8#32
  ![v2814.toNat, 1, 8]
def k0_off68 (v2815 : BitVec 32) : Fin 5 → Nat :=
  let c0_i32_1163 : BitVec 32 := 0#32
  let v2817 : BitVec 1 := Scalar.cmpi .sgt v2815 c0_i32_1163
  let v2818 : BitVec 32 := Scalar.extui v2817
  let c0_i32_1164 : BitVec 32 := 0#32
  let v2819 : BitVec 1 := Scalar.cmpi .slt v2815 c0_i32_1164
  let v2820 : BitVec 32 := Scalar.extui v2819
  let v2821 : BitVec 32 := Scalar.subi v2818 v2820
  let c4_i32_1162 : BitVec 32 := 4#32
  let c0_i32_1165 : BitVec 32 := 0#32
  let v2822 : BitVec 1 := Scalar.cmpi .sgt c4_i32_1162 c0_i32_1165
  let v2823 : BitVec 32 := Scalar.extui v2822
  let c0_i32_1166 : BitVec 32 := 0#32
  let v2824 : BitVec 1 := Scalar.cmpi .slt c4_i32_1162 c0_i32_1166
  let v2825 : BitVec 32 := Scalar.extui v2824
  let v2826 : BitVec 32 := Scalar.subi v2823 v2825
  let v2827 : BitVec 1 := Scalar.cmpi .ne v2821 v2826
  let v2828 : BitVec 32 := Scalar.remsi v2815 c4_i32_1162
  let c0_i32_1167 : BitVec 32 := 0#32
  let v2829 : BitVec 1 := Scalar.cmpi .ne v2828 c0_i32_1167
  let v2830 : BitVec 1 := Scalar.andi v2827 v2829
  let v2816 : BitVec 32 := Scalar.divsi v2815 c4_i32_1162
  let c1_i32_1168 : BitVec 32 := 1#32
  let v2831 : BitVec 32 := Scalar.subi v2816 c1_i32_1168
  let v2832 : BitVec 32 := Scalar.select v2830 v2831 v2816
  let v2843 : Index := Scalar.indexCast v2832
  let c0_1175 : Index := 0#32
  let c4_i32_1169 : BitVec 32 := 4#32
  let c0_i32_1170 : BitVec 32 := 0#32
  let v2833 : BitVec 1 := Scalar.cmpi .eq c4_i32_1169 c0_i32_1170
  let c1_i32_1171 : BitVec 32 := 1#32
  let v2834 : BitVec 32 := Scalar.select v2833 c1_i32_1171 c4_i32_1169
  let v2835 : BitVec 32 := Scalar.remsi v2815 v2834
  let c0_i32_1173 : BitVec 32 := 0#32
  let v2837 : BitVec 1 := Scalar.cmpi .slt v2835 c0_i32_1173
  let c0_i32_1174 : BitVec 32 := 0#32
  let v2838 : BitVec 1 := Scalar.cmpi .slt v2834 c0_i32_1174
  let v2839 : BitVec 1 := Scalar.xori v2837 v2838
  let c0_i32_1172 : BitVec 32 := 0#32
  let v2836 : BitVec 1 := Scalar.cmpi .ne v2835 c0_i32_1172
  let v2840 : BitVec 1 := Scalar.andi v2839 v2836
  let v2841 : BitVec 32 := Scalar.addi v2835 v2834
  let v2842 : BitVec 32 := Scalar.select v2840 v2841 v2835
  let v2844 : Index := Scalar.indexCast v2842
  let c0_1176 : Index := 0#32
  let c0_1177 : Index := 0#32
  ![v2843.toNat, 0, v2844.toNat, 0, 0]

def k0_chk34 (v2815 : BitVec 32) : Prop :=
  (∀ a, (k0_off68 v2815) a + S1x8x1x8x1024.size a ≤ S4x8x4x8x1024.size a)
theorem k0_off68_inb : ∀ (v2815 : BitVec 32) (k0_hw34 : k0_chk34 v2815), ∀ a, (k0_off68 v2815) a + S1x8x1x8x1024.size a ≤ S4x8x4x8x1024.size a := fun v2815 k0_hw34 => k0_hw34

def k0_off69 (i : grid0.Coords) : Fin 3 → Nat :=
  let arg0 : BitVec 32 := BitVec.ofNat 32 (i 0).val
  let v2853 : Index := Scalar.indexCast arg0
  let c2_1181 : Index := 2#32
  let c8_1182 : Index := 8#32
  ![v2853.toNat, 2, 8]
def k0_off70 (v2854 : BitVec 32) : Fin 5 → Nat :=
  let c0_i32_1184 : BitVec 32 := 0#32
  let v2856 : BitVec 1 := Scalar.cmpi .sgt v2854 c0_i32_1184
  let v2857 : BitVec 32 := Scalar.extui v2856
  let c0_i32_1185 : BitVec 32 := 0#32
  let v2858 : BitVec 1 := Scalar.cmpi .slt v2854 c0_i32_1185
  let v2859 : BitVec 32 := Scalar.extui v2858
  let v2860 : BitVec 32 := Scalar.subi v2857 v2859
  let c4_i32_1183 : BitVec 32 := 4#32
  let c0_i32_1186 : BitVec 32 := 0#32
  let v2861 : BitVec 1 := Scalar.cmpi .sgt c4_i32_1183 c0_i32_1186
  let v2862 : BitVec 32 := Scalar.extui v2861
  let c0_i32_1187 : BitVec 32 := 0#32
  let v2863 : BitVec 1 := Scalar.cmpi .slt c4_i32_1183 c0_i32_1187
  let v2864 : BitVec 32 := Scalar.extui v2863
  let v2865 : BitVec 32 := Scalar.subi v2862 v2864
  let v2866 : BitVec 1 := Scalar.cmpi .ne v2860 v2865
  let v2867 : BitVec 32 := Scalar.remsi v2854 c4_i32_1183
  let c0_i32_1188 : BitVec 32 := 0#32
  let v2868 : BitVec 1 := Scalar.cmpi .ne v2867 c0_i32_1188
  let v2869 : BitVec 1 := Scalar.andi v2866 v2868
  let v2855 : BitVec 32 := Scalar.divsi v2854 c4_i32_1183
  let c1_i32_1189 : BitVec 32 := 1#32
  let v2870 : BitVec 32 := Scalar.subi v2855 c1_i32_1189
  let v2871 : BitVec 32 := Scalar.select v2869 v2870 v2855
  let v2882 : Index := Scalar.indexCast v2871
  let c0_1196 : Index := 0#32
  let c4_i32_1190 : BitVec 32 := 4#32
  let c0_i32_1191 : BitVec 32 := 0#32
  let v2872 : BitVec 1 := Scalar.cmpi .eq c4_i32_1190 c0_i32_1191
  let c1_i32_1192 : BitVec 32 := 1#32
  let v2873 : BitVec 32 := Scalar.select v2872 c1_i32_1192 c4_i32_1190
  let v2874 : BitVec 32 := Scalar.remsi v2854 v2873
  let c0_i32_1194 : BitVec 32 := 0#32
  let v2876 : BitVec 1 := Scalar.cmpi .slt v2874 c0_i32_1194
  let c0_i32_1195 : BitVec 32 := 0#32
  let v2877 : BitVec 1 := Scalar.cmpi .slt v2873 c0_i32_1195
  let v2878 : BitVec 1 := Scalar.xori v2876 v2877
  let c0_i32_1193 : BitVec 32 := 0#32
  let v2875 : BitVec 1 := Scalar.cmpi .ne v2874 c0_i32_1193
  let v2879 : BitVec 1 := Scalar.andi v2878 v2875
  let v2880 : BitVec 32 := Scalar.addi v2874 v2873
  let v2881 : BitVec 32 := Scalar.select v2879 v2880 v2874
  let v2883 : Index := Scalar.indexCast v2881
  let c0_1197 : Index := 0#32
  let c0_1198 : Index := 0#32
  ![v2882.toNat, 0, v2883.toNat, 0, 0]

def k0_chk35 (v2854 : BitVec 32) : Prop :=
  (∀ a, (k0_off70 v2854) a + S1x8x1x8x1024.size a ≤ S4x8x4x8x1024.size a)
theorem k0_off70_inb : ∀ (v2854 : BitVec 32) (k0_hw35 : k0_chk35 v2854), ∀ a, (k0_off70 v2854) a + S1x8x1x8x1024.size a ≤ S4x8x4x8x1024.size a := fun v2854 k0_hw35 => k0_hw35

def k0_off71 (i : grid0.Coords) : Fin 3 → Nat :=
  let arg0 : BitVec 32 := BitVec.ofNat 32 (i 0).val
  let v2892 : Index := Scalar.indexCast arg0
  let c3_1202 : Index := 3#32
  let c8_1203 : Index := 8#32
  ![v2892.toNat, 3, 8]
def k0_off72 (v2893 : BitVec 32) : Fin 5 → Nat :=
  let c0_i32_1205 : BitVec 32 := 0#32
  let v2895 : BitVec 1 := Scalar.cmpi .sgt v2893 c0_i32_1205
  let v2896 : BitVec 32 := Scalar.extui v2895
  let c0_i32_1206 : BitVec 32 := 0#32
  let v2897 : BitVec 1 := Scalar.cmpi .slt v2893 c0_i32_1206
  let v2898 : BitVec 32 := Scalar.extui v2897
  let v2899 : BitVec 32 := Scalar.subi v2896 v2898
  let c4_i32_1204 : BitVec 32 := 4#32
  let c0_i32_1207 : BitVec 32 := 0#32
  let v2900 : BitVec 1 := Scalar.cmpi .sgt c4_i32_1204 c0_i32_1207
  let v2901 : BitVec 32 := Scalar.extui v2900
  let c0_i32_1208 : BitVec 32 := 0#32
  let v2902 : BitVec 1 := Scalar.cmpi .slt c4_i32_1204 c0_i32_1208
  let v2903 : BitVec 32 := Scalar.extui v2902
  let v2904 : BitVec 32 := Scalar.subi v2901 v2903
  let v2905 : BitVec 1 := Scalar.cmpi .ne v2899 v2904
  let v2906 : BitVec 32 := Scalar.remsi v2893 c4_i32_1204
  let c0_i32_1209 : BitVec 32 := 0#32
  let v2907 : BitVec 1 := Scalar.cmpi .ne v2906 c0_i32_1209
  let v2908 : BitVec 1 := Scalar.andi v2905 v2907
  let v2894 : BitVec 32 := Scalar.divsi v2893 c4_i32_1204
  let c1_i32_1210 : BitVec 32 := 1#32
  let v2909 : BitVec 32 := Scalar.subi v2894 c1_i32_1210
  let v2910 : BitVec 32 := Scalar.select v2908 v2909 v2894
  let v2921 : Index := Scalar.indexCast v2910
  let c0_1217 : Index := 0#32
  let c4_i32_1211 : BitVec 32 := 4#32
  let c0_i32_1212 : BitVec 32 := 0#32
  let v2911 : BitVec 1 := Scalar.cmpi .eq c4_i32_1211 c0_i32_1212
  let c1_i32_1213 : BitVec 32 := 1#32
  let v2912 : BitVec 32 := Scalar.select v2911 c1_i32_1213 c4_i32_1211
  let v2913 : BitVec 32 := Scalar.remsi v2893 v2912
  let c0_i32_1215 : BitVec 32 := 0#32
  let v2915 : BitVec 1 := Scalar.cmpi .slt v2913 c0_i32_1215
  let c0_i32_1216 : BitVec 32 := 0#32
  let v2916 : BitVec 1 := Scalar.cmpi .slt v2912 c0_i32_1216
  let v2917 : BitVec 1 := Scalar.xori v2915 v2916
  let c0_i32_1214 : BitVec 32 := 0#32
  let v2914 : BitVec 1 := Scalar.cmpi .ne v2913 c0_i32_1214
  let v2918 : BitVec 1 := Scalar.andi v2917 v2914
  let v2919 : BitVec 32 := Scalar.addi v2913 v2912
  let v2920 : BitVec 32 := Scalar.select v2918 v2919 v2913
  let v2922 : Index := Scalar.indexCast v2920
  let c0_1218 : Index := 0#32
  let c0_1219 : Index := 0#32
  ![v2921.toNat, 0, v2922.toNat, 0, 0]

def k0_chk36 (v2893 : BitVec 32) : Prop :=
  (∀ a, (k0_off72 v2893) a + S1x8x1x8x1024.size a ≤ S4x8x4x8x1024.size a)
theorem k0_off72_inb : ∀ (v2893 : BitVec 32) (k0_hw36 : k0_chk36 v2893), ∀ a, (k0_off72 v2893) a + S1x8x1x8x1024.size a ≤ S4x8x4x8x1024.size a := fun v2893 k0_hw36 => k0_hw36

def k0_off73 (i : grid0.Coords) : Fin 3 → Nat :=
  let arg0 : BitVec 32 := BitVec.ofNat 32 (i 0).val
  let v2936 : Index := Scalar.indexCast arg0
  let c0_1223 : Index := 0#32
  let c9_1224 : Index := 9#32
  ![v2936.toNat, 0, 9]
def k0_off74 (v2937 : BitVec 32) : Fin 5 → Nat :=
  let c0_i32_1226 : BitVec 32 := 0#32
  let v2939 : BitVec 1 := Scalar.cmpi .sgt v2937 c0_i32_1226
  let v2940 : BitVec 32 := Scalar.extui v2939
  let c0_i32_1227 : BitVec 32 := 0#32
  let v2941 : BitVec 1 := Scalar.cmpi .slt v2937 c0_i32_1227
  let v2942 : BitVec 32 := Scalar.extui v2941
  let v2943 : BitVec 32 := Scalar.subi v2940 v2942
  let c4_i32_1225 : BitVec 32 := 4#32
  let c0_i32_1228 : BitVec 32 := 0#32
  let v2944 : BitVec 1 := Scalar.cmpi .sgt c4_i32_1225 c0_i32_1228
  let v2945 : BitVec 32 := Scalar.extui v2944
  let c0_i32_1229 : BitVec 32 := 0#32
  let v2946 : BitVec 1 := Scalar.cmpi .slt c4_i32_1225 c0_i32_1229
  let v2947 : BitVec 32 := Scalar.extui v2946
  let v2948 : BitVec 32 := Scalar.subi v2945 v2947
  let v2949 : BitVec 1 := Scalar.cmpi .ne v2943 v2948
  let v2950 : BitVec 32 := Scalar.remsi v2937 c4_i32_1225
  let c0_i32_1230 : BitVec 32 := 0#32
  let v2951 : BitVec 1 := Scalar.cmpi .ne v2950 c0_i32_1230
  let v2952 : BitVec 1 := Scalar.andi v2949 v2951
  let v2938 : BitVec 32 := Scalar.divsi v2937 c4_i32_1225
  let c1_i32_1231 : BitVec 32 := 1#32
  let v2953 : BitVec 32 := Scalar.subi v2938 c1_i32_1231
  let v2954 : BitVec 32 := Scalar.select v2952 v2953 v2938
  let v2965 : Index := Scalar.indexCast v2954
  let c0_1238 : Index := 0#32
  let c4_i32_1232 : BitVec 32 := 4#32
  let c0_i32_1233 : BitVec 32 := 0#32
  let v2955 : BitVec 1 := Scalar.cmpi .eq c4_i32_1232 c0_i32_1233
  let c1_i32_1234 : BitVec 32 := 1#32
  let v2956 : BitVec 32 := Scalar.select v2955 c1_i32_1234 c4_i32_1232
  let v2957 : BitVec 32 := Scalar.remsi v2937 v2956
  let c0_i32_1236 : BitVec 32 := 0#32
  let v2959 : BitVec 1 := Scalar.cmpi .slt v2957 c0_i32_1236
  let c0_i32_1237 : BitVec 32 := 0#32
  let v2960 : BitVec 1 := Scalar.cmpi .slt v2956 c0_i32_1237
  let v2961 : BitVec 1 := Scalar.xori v2959 v2960
  let c0_i32_1235 : BitVec 32 := 0#32
  let v2958 : BitVec 1 := Scalar.cmpi .ne v2957 c0_i32_1235
  let v2962 : BitVec 1 := Scalar.andi v2961 v2958
  let v2963 : BitVec 32 := Scalar.addi v2957 v2956
  let v2964 : BitVec 32 := Scalar.select v2962 v2963 v2957
  let v2966 : Index := Scalar.indexCast v2964
  let c0_1239 : Index := 0#32
  let c0_1240 : Index := 0#32
  ![v2965.toNat, 0, v2966.toNat, 0, 0]

def k0_chk37 (v2937 : BitVec 32) : Prop :=
  (∀ a, (k0_off74 v2937) a + S1x8x1x8x1024.size a ≤ S4x8x4x8x1024.size a)
theorem k0_off74_inb : ∀ (v2937 : BitVec 32) (k0_hw37 : k0_chk37 v2937), ∀ a, (k0_off74 v2937) a + S1x8x1x8x1024.size a ≤ S4x8x4x8x1024.size a := fun v2937 k0_hw37 => k0_hw37

def k0_off75 (i : grid0.Coords) : Fin 3 → Nat :=
  let arg0 : BitVec 32 := BitVec.ofNat 32 (i 0).val
  let v2975 : Index := Scalar.indexCast arg0
  let c1_1244 : Index := 1#32
  let c9_1245 : Index := 9#32
  ![v2975.toNat, 1, 9]
def k0_off76 (v2976 : BitVec 32) : Fin 5 → Nat :=
  let c0_i32_1247 : BitVec 32 := 0#32
  let v2978 : BitVec 1 := Scalar.cmpi .sgt v2976 c0_i32_1247
  let v2979 : BitVec 32 := Scalar.extui v2978
  let c0_i32_1248 : BitVec 32 := 0#32
  let v2980 : BitVec 1 := Scalar.cmpi .slt v2976 c0_i32_1248
  let v2981 : BitVec 32 := Scalar.extui v2980
  let v2982 : BitVec 32 := Scalar.subi v2979 v2981
  let c4_i32_1246 : BitVec 32 := 4#32
  let c0_i32_1249 : BitVec 32 := 0#32
  let v2983 : BitVec 1 := Scalar.cmpi .sgt c4_i32_1246 c0_i32_1249
  let v2984 : BitVec 32 := Scalar.extui v2983
  let c0_i32_1250 : BitVec 32 := 0#32
  let v2985 : BitVec 1 := Scalar.cmpi .slt c4_i32_1246 c0_i32_1250
  let v2986 : BitVec 32 := Scalar.extui v2985
  let v2987 : BitVec 32 := Scalar.subi v2984 v2986
  let v2988 : BitVec 1 := Scalar.cmpi .ne v2982 v2987
  let v2989 : BitVec 32 := Scalar.remsi v2976 c4_i32_1246
  let c0_i32_1251 : BitVec 32 := 0#32
  let v2990 : BitVec 1 := Scalar.cmpi .ne v2989 c0_i32_1251
  let v2991 : BitVec 1 := Scalar.andi v2988 v2990
  let v2977 : BitVec 32 := Scalar.divsi v2976 c4_i32_1246
  let c1_i32_1252 : BitVec 32 := 1#32
  let v2992 : BitVec 32 := Scalar.subi v2977 c1_i32_1252
  let v2993 : BitVec 32 := Scalar.select v2991 v2992 v2977
  let v3004 : Index := Scalar.indexCast v2993
  let c0_1259 : Index := 0#32
  let c4_i32_1253 : BitVec 32 := 4#32
  let c0_i32_1254 : BitVec 32 := 0#32
  let v2994 : BitVec 1 := Scalar.cmpi .eq c4_i32_1253 c0_i32_1254
  let c1_i32_1255 : BitVec 32 := 1#32
  let v2995 : BitVec 32 := Scalar.select v2994 c1_i32_1255 c4_i32_1253
  let v2996 : BitVec 32 := Scalar.remsi v2976 v2995
  let c0_i32_1257 : BitVec 32 := 0#32
  let v2998 : BitVec 1 := Scalar.cmpi .slt v2996 c0_i32_1257
  let c0_i32_1258 : BitVec 32 := 0#32
  let v2999 : BitVec 1 := Scalar.cmpi .slt v2995 c0_i32_1258
  let v3000 : BitVec 1 := Scalar.xori v2998 v2999
  let c0_i32_1256 : BitVec 32 := 0#32
  let v2997 : BitVec 1 := Scalar.cmpi .ne v2996 c0_i32_1256
  let v3001 : BitVec 1 := Scalar.andi v3000 v2997
  let v3002 : BitVec 32 := Scalar.addi v2996 v2995
  let v3003 : BitVec 32 := Scalar.select v3001 v3002 v2996
  let v3005 : Index := Scalar.indexCast v3003
  let c0_1260 : Index := 0#32
  let c0_1261 : Index := 0#32
  ![v3004.toNat, 0, v3005.toNat, 0, 0]

def k0_chk38 (v2976 : BitVec 32) : Prop :=
  (∀ a, (k0_off76 v2976) a + S1x8x1x8x1024.size a ≤ S4x8x4x8x1024.size a)
theorem k0_off76_inb : ∀ (v2976 : BitVec 32) (k0_hw38 : k0_chk38 v2976), ∀ a, (k0_off76 v2976) a + S1x8x1x8x1024.size a ≤ S4x8x4x8x1024.size a := fun v2976 k0_hw38 => k0_hw38

def k0_off77 (i : grid0.Coords) : Fin 3 → Nat :=
  let arg0 : BitVec 32 := BitVec.ofNat 32 (i 0).val
  let v3014 : Index := Scalar.indexCast arg0
  let c2_1265 : Index := 2#32
  let c9_1266 : Index := 9#32
  ![v3014.toNat, 2, 9]
def k0_off78 (v3015 : BitVec 32) : Fin 5 → Nat :=
  let c0_i32_1268 : BitVec 32 := 0#32
  let v3017 : BitVec 1 := Scalar.cmpi .sgt v3015 c0_i32_1268
  let v3018 : BitVec 32 := Scalar.extui v3017
  let c0_i32_1269 : BitVec 32 := 0#32
  let v3019 : BitVec 1 := Scalar.cmpi .slt v3015 c0_i32_1269
  let v3020 : BitVec 32 := Scalar.extui v3019
  let v3021 : BitVec 32 := Scalar.subi v3018 v3020
  let c4_i32_1267 : BitVec 32 := 4#32
  let c0_i32_1270 : BitVec 32 := 0#32
  let v3022 : BitVec 1 := Scalar.cmpi .sgt c4_i32_1267 c0_i32_1270
  let v3023 : BitVec 32 := Scalar.extui v3022
  let c0_i32_1271 : BitVec 32 := 0#32
  let v3024 : BitVec 1 := Scalar.cmpi .slt c4_i32_1267 c0_i32_1271
  let v3025 : BitVec 32 := Scalar.extui v3024
  let v3026 : BitVec 32 := Scalar.subi v3023 v3025
  let v3027 : BitVec 1 := Scalar.cmpi .ne v3021 v3026
  let v3028 : BitVec 32 := Scalar.remsi v3015 c4_i32_1267
  let c0_i32_1272 : BitVec 32 := 0#32
  let v3029 : BitVec 1 := Scalar.cmpi .ne v3028 c0_i32_1272
  let v3030 : BitVec 1 := Scalar.andi v3027 v3029
  let v3016 : BitVec 32 := Scalar.divsi v3015 c4_i32_1267
  let c1_i32_1273 : BitVec 32 := 1#32
  let v3031 : BitVec 32 := Scalar.subi v3016 c1_i32_1273
  let v3032 : BitVec 32 := Scalar.select v3030 v3031 v3016
  let v3043 : Index := Scalar.indexCast v3032
  let c0_1280 : Index := 0#32
  let c4_i32_1274 : BitVec 32 := 4#32
  let c0_i32_1275 : BitVec 32 := 0#32
  let v3033 : BitVec 1 := Scalar.cmpi .eq c4_i32_1274 c0_i32_1275
  let c1_i32_1276 : BitVec 32 := 1#32
  let v3034 : BitVec 32 := Scalar.select v3033 c1_i32_1276 c4_i32_1274
  let v3035 : BitVec 32 := Scalar.remsi v3015 v3034
  let c0_i32_1278 : BitVec 32 := 0#32
  let v3037 : BitVec 1 := Scalar.cmpi .slt v3035 c0_i32_1278
  let c0_i32_1279 : BitVec 32 := 0#32
  let v3038 : BitVec 1 := Scalar.cmpi .slt v3034 c0_i32_1279
  let v3039 : BitVec 1 := Scalar.xori v3037 v3038
  let c0_i32_1277 : BitVec 32 := 0#32
  let v3036 : BitVec 1 := Scalar.cmpi .ne v3035 c0_i32_1277
  let v3040 : BitVec 1 := Scalar.andi v3039 v3036
  let v3041 : BitVec 32 := Scalar.addi v3035 v3034
  let v3042 : BitVec 32 := Scalar.select v3040 v3041 v3035
  let v3044 : Index := Scalar.indexCast v3042
  let c0_1281 : Index := 0#32
  let c0_1282 : Index := 0#32
  ![v3043.toNat, 0, v3044.toNat, 0, 0]

def k0_chk39 (v3015 : BitVec 32) : Prop :=
  (∀ a, (k0_off78 v3015) a + S1x8x1x8x1024.size a ≤ S4x8x4x8x1024.size a)
theorem k0_off78_inb : ∀ (v3015 : BitVec 32) (k0_hw39 : k0_chk39 v3015), ∀ a, (k0_off78 v3015) a + S1x8x1x8x1024.size a ≤ S4x8x4x8x1024.size a := fun v3015 k0_hw39 => k0_hw39

def k0_off79 (i : grid0.Coords) : Fin 3 → Nat :=
  let arg0 : BitVec 32 := BitVec.ofNat 32 (i 0).val
  let v3053 : Index := Scalar.indexCast arg0
  let c3_1286 : Index := 3#32
  let c9_1287 : Index := 9#32
  ![v3053.toNat, 3, 9]
def k0_off80 (v3054 : BitVec 32) : Fin 5 → Nat :=
  let c0_i32_1289 : BitVec 32 := 0#32
  let v3056 : BitVec 1 := Scalar.cmpi .sgt v3054 c0_i32_1289
  let v3057 : BitVec 32 := Scalar.extui v3056
  let c0_i32_1290 : BitVec 32 := 0#32
  let v3058 : BitVec 1 := Scalar.cmpi .slt v3054 c0_i32_1290
  let v3059 : BitVec 32 := Scalar.extui v3058
  let v3060 : BitVec 32 := Scalar.subi v3057 v3059
  let c4_i32_1288 : BitVec 32 := 4#32
  let c0_i32_1291 : BitVec 32 := 0#32
  let v3061 : BitVec 1 := Scalar.cmpi .sgt c4_i32_1288 c0_i32_1291
  let v3062 : BitVec 32 := Scalar.extui v3061
  let c0_i32_1292 : BitVec 32 := 0#32
  let v3063 : BitVec 1 := Scalar.cmpi .slt c4_i32_1288 c0_i32_1292
  let v3064 : BitVec 32 := Scalar.extui v3063
  let v3065 : BitVec 32 := Scalar.subi v3062 v3064
  let v3066 : BitVec 1 := Scalar.cmpi .ne v3060 v3065
  let v3067 : BitVec 32 := Scalar.remsi v3054 c4_i32_1288
  let c0_i32_1293 : BitVec 32 := 0#32
  let v3068 : BitVec 1 := Scalar.cmpi .ne v3067 c0_i32_1293
  let v3069 : BitVec 1 := Scalar.andi v3066 v3068
  let v3055 : BitVec 32 := Scalar.divsi v3054 c4_i32_1288
  let c1_i32_1294 : BitVec 32 := 1#32
  let v3070 : BitVec 32 := Scalar.subi v3055 c1_i32_1294
  let v3071 : BitVec 32 := Scalar.select v3069 v3070 v3055
  let v3082 : Index := Scalar.indexCast v3071
  let c0_1301 : Index := 0#32
  let c4_i32_1295 : BitVec 32 := 4#32
  let c0_i32_1296 : BitVec 32 := 0#32
  let v3072 : BitVec 1 := Scalar.cmpi .eq c4_i32_1295 c0_i32_1296
  let c1_i32_1297 : BitVec 32 := 1#32
  let v3073 : BitVec 32 := Scalar.select v3072 c1_i32_1297 c4_i32_1295
  let v3074 : BitVec 32 := Scalar.remsi v3054 v3073
  let c0_i32_1299 : BitVec 32 := 0#32
  let v3076 : BitVec 1 := Scalar.cmpi .slt v3074 c0_i32_1299
  let c0_i32_1300 : BitVec 32 := 0#32
  let v3077 : BitVec 1 := Scalar.cmpi .slt v3073 c0_i32_1300
  let v3078 : BitVec 1 := Scalar.xori v3076 v3077
  let c0_i32_1298 : BitVec 32 := 0#32
  let v3075 : BitVec 1 := Scalar.cmpi .ne v3074 c0_i32_1298
  let v3079 : BitVec 1 := Scalar.andi v3078 v3075
  let v3080 : BitVec 32 := Scalar.addi v3074 v3073
  let v3081 : BitVec 32 := Scalar.select v3079 v3080 v3074
  let v3083 : Index := Scalar.indexCast v3081
  let c0_1302 : Index := 0#32
  let c0_1303 : Index := 0#32
  ![v3082.toNat, 0, v3083.toNat, 0, 0]

def k0_chk40 (v3054 : BitVec 32) : Prop :=
  (∀ a, (k0_off80 v3054) a + S1x8x1x8x1024.size a ≤ S4x8x4x8x1024.size a)
theorem k0_off80_inb : ∀ (v3054 : BitVec 32) (k0_hw40 : k0_chk40 v3054), ∀ a, (k0_off80 v3054) a + S1x8x1x8x1024.size a ≤ S4x8x4x8x1024.size a := fun v3054 k0_hw40 => k0_hw40

def k0_off81 (i : grid0.Coords) : Fin 3 → Nat :=
  let arg0 : BitVec 32 := BitVec.ofNat 32 (i 0).val
  let v3097 : Index := Scalar.indexCast arg0
  let c0_1307 : Index := 0#32
  let c10_1308 : Index := 10#32
  ![v3097.toNat, 0, 10]
def k0_off82 (v3098 : BitVec 32) : Fin 5 → Nat :=
  let c0_i32_1310 : BitVec 32 := 0#32
  let v3100 : BitVec 1 := Scalar.cmpi .sgt v3098 c0_i32_1310
  let v3101 : BitVec 32 := Scalar.extui v3100
  let c0_i32_1311 : BitVec 32 := 0#32
  let v3102 : BitVec 1 := Scalar.cmpi .slt v3098 c0_i32_1311
  let v3103 : BitVec 32 := Scalar.extui v3102
  let v3104 : BitVec 32 := Scalar.subi v3101 v3103
  let c4_i32_1309 : BitVec 32 := 4#32
  let c0_i32_1312 : BitVec 32 := 0#32
  let v3105 : BitVec 1 := Scalar.cmpi .sgt c4_i32_1309 c0_i32_1312
  let v3106 : BitVec 32 := Scalar.extui v3105
  let c0_i32_1313 : BitVec 32 := 0#32
  let v3107 : BitVec 1 := Scalar.cmpi .slt c4_i32_1309 c0_i32_1313
  let v3108 : BitVec 32 := Scalar.extui v3107
  let v3109 : BitVec 32 := Scalar.subi v3106 v3108
  let v3110 : BitVec 1 := Scalar.cmpi .ne v3104 v3109
  let v3111 : BitVec 32 := Scalar.remsi v3098 c4_i32_1309
  let c0_i32_1314 : BitVec 32 := 0#32
  let v3112 : BitVec 1 := Scalar.cmpi .ne v3111 c0_i32_1314
  let v3113 : BitVec 1 := Scalar.andi v3110 v3112
  let v3099 : BitVec 32 := Scalar.divsi v3098 c4_i32_1309
  let c1_i32_1315 : BitVec 32 := 1#32
  let v3114 : BitVec 32 := Scalar.subi v3099 c1_i32_1315
  let v3115 : BitVec 32 := Scalar.select v3113 v3114 v3099
  let v3126 : Index := Scalar.indexCast v3115
  let c0_1322 : Index := 0#32
  let c4_i32_1316 : BitVec 32 := 4#32
  let c0_i32_1317 : BitVec 32 := 0#32
  let v3116 : BitVec 1 := Scalar.cmpi .eq c4_i32_1316 c0_i32_1317
  let c1_i32_1318 : BitVec 32 := 1#32
  let v3117 : BitVec 32 := Scalar.select v3116 c1_i32_1318 c4_i32_1316
  let v3118 : BitVec 32 := Scalar.remsi v3098 v3117
  let c0_i32_1320 : BitVec 32 := 0#32
  let v3120 : BitVec 1 := Scalar.cmpi .slt v3118 c0_i32_1320
  let c0_i32_1321 : BitVec 32 := 0#32
  let v3121 : BitVec 1 := Scalar.cmpi .slt v3117 c0_i32_1321
  let v3122 : BitVec 1 := Scalar.xori v3120 v3121
  let c0_i32_1319 : BitVec 32 := 0#32
  let v3119 : BitVec 1 := Scalar.cmpi .ne v3118 c0_i32_1319
  let v3123 : BitVec 1 := Scalar.andi v3122 v3119
  let v3124 : BitVec 32 := Scalar.addi v3118 v3117
  let v3125 : BitVec 32 := Scalar.select v3123 v3124 v3118
  let v3127 : Index := Scalar.indexCast v3125
  let c0_1323 : Index := 0#32
  let c0_1324 : Index := 0#32
  ![v3126.toNat, 0, v3127.toNat, 0, 0]

def k0_chk41 (v3098 : BitVec 32) : Prop :=
  (∀ a, (k0_off82 v3098) a + S1x8x1x8x1024.size a ≤ S4x8x4x8x1024.size a)
theorem k0_off82_inb : ∀ (v3098 : BitVec 32) (k0_hw41 : k0_chk41 v3098), ∀ a, (k0_off82 v3098) a + S1x8x1x8x1024.size a ≤ S4x8x4x8x1024.size a := fun v3098 k0_hw41 => k0_hw41

def k0_off83 (i : grid0.Coords) : Fin 3 → Nat :=
  let arg0 : BitVec 32 := BitVec.ofNat 32 (i 0).val
  let v3136 : Index := Scalar.indexCast arg0
  let c1_1328 : Index := 1#32
  let c10_1329 : Index := 10#32
  ![v3136.toNat, 1, 10]
def k0_off84 (v3137 : BitVec 32) : Fin 5 → Nat :=
  let c0_i32_1331 : BitVec 32 := 0#32
  let v3139 : BitVec 1 := Scalar.cmpi .sgt v3137 c0_i32_1331
  let v3140 : BitVec 32 := Scalar.extui v3139
  let c0_i32_1332 : BitVec 32 := 0#32
  let v3141 : BitVec 1 := Scalar.cmpi .slt v3137 c0_i32_1332
  let v3142 : BitVec 32 := Scalar.extui v3141
  let v3143 : BitVec 32 := Scalar.subi v3140 v3142
  let c4_i32_1330 : BitVec 32 := 4#32
  let c0_i32_1333 : BitVec 32 := 0#32
  let v3144 : BitVec 1 := Scalar.cmpi .sgt c4_i32_1330 c0_i32_1333
  let v3145 : BitVec 32 := Scalar.extui v3144
  let c0_i32_1334 : BitVec 32 := 0#32
  let v3146 : BitVec 1 := Scalar.cmpi .slt c4_i32_1330 c0_i32_1334
  let v3147 : BitVec 32 := Scalar.extui v3146
  let v3148 : BitVec 32 := Scalar.subi v3145 v3147
  let v3149 : BitVec 1 := Scalar.cmpi .ne v3143 v3148
  let v3150 : BitVec 32 := Scalar.remsi v3137 c4_i32_1330
  let c0_i32_1335 : BitVec 32 := 0#32
  let v3151 : BitVec 1 := Scalar.cmpi .ne v3150 c0_i32_1335
  let v3152 : BitVec 1 := Scalar.andi v3149 v3151
  let v3138 : BitVec 32 := Scalar.divsi v3137 c4_i32_1330
  let c1_i32_1336 : BitVec 32 := 1#32
  let v3153 : BitVec 32 := Scalar.subi v3138 c1_i32_1336
  let v3154 : BitVec 32 := Scalar.select v3152 v3153 v3138
  let v3165 : Index := Scalar.indexCast v3154
  let c0_1343 : Index := 0#32
  let c4_i32_1337 : BitVec 32 := 4#32
  let c0_i32_1338 : BitVec 32 := 0#32
  let v3155 : BitVec 1 := Scalar.cmpi .eq c4_i32_1337 c0_i32_1338
  let c1_i32_1339 : BitVec 32 := 1#32
  let v3156 : BitVec 32 := Scalar.select v3155 c1_i32_1339 c4_i32_1337
  let v3157 : BitVec 32 := Scalar.remsi v3137 v3156
  let c0_i32_1341 : BitVec 32 := 0#32
  let v3159 : BitVec 1 := Scalar.cmpi .slt v3157 c0_i32_1341
  let c0_i32_1342 : BitVec 32 := 0#32
  let v3160 : BitVec 1 := Scalar.cmpi .slt v3156 c0_i32_1342
  let v3161 : BitVec 1 := Scalar.xori v3159 v3160
  let c0_i32_1340 : BitVec 32 := 0#32
  let v3158 : BitVec 1 := Scalar.cmpi .ne v3157 c0_i32_1340
  let v3162 : BitVec 1 := Scalar.andi v3161 v3158
  let v3163 : BitVec 32 := Scalar.addi v3157 v3156
  let v3164 : BitVec 32 := Scalar.select v3162 v3163 v3157
  let v3166 : Index := Scalar.indexCast v3164
  let c0_1344 : Index := 0#32
  let c0_1345 : Index := 0#32
  ![v3165.toNat, 0, v3166.toNat, 0, 0]

def k0_chk42 (v3137 : BitVec 32) : Prop :=
  (∀ a, (k0_off84 v3137) a + S1x8x1x8x1024.size a ≤ S4x8x4x8x1024.size a)
theorem k0_off84_inb : ∀ (v3137 : BitVec 32) (k0_hw42 : k0_chk42 v3137), ∀ a, (k0_off84 v3137) a + S1x8x1x8x1024.size a ≤ S4x8x4x8x1024.size a := fun v3137 k0_hw42 => k0_hw42

def k0_off85 (i : grid0.Coords) : Fin 3 → Nat :=
  let arg0 : BitVec 32 := BitVec.ofNat 32 (i 0).val
  let v3175 : Index := Scalar.indexCast arg0
  let c2_1349 : Index := 2#32
  let c10_1350 : Index := 10#32
  ![v3175.toNat, 2, 10]
def k0_off86 (v3176 : BitVec 32) : Fin 5 → Nat :=
  let c0_i32_1352 : BitVec 32 := 0#32
  let v3178 : BitVec 1 := Scalar.cmpi .sgt v3176 c0_i32_1352
  let v3179 : BitVec 32 := Scalar.extui v3178
  let c0_i32_1353 : BitVec 32 := 0#32
  let v3180 : BitVec 1 := Scalar.cmpi .slt v3176 c0_i32_1353
  let v3181 : BitVec 32 := Scalar.extui v3180
  let v3182 : BitVec 32 := Scalar.subi v3179 v3181
  let c4_i32_1351 : BitVec 32 := 4#32
  let c0_i32_1354 : BitVec 32 := 0#32
  let v3183 : BitVec 1 := Scalar.cmpi .sgt c4_i32_1351 c0_i32_1354
  let v3184 : BitVec 32 := Scalar.extui v3183
  let c0_i32_1355 : BitVec 32 := 0#32
  let v3185 : BitVec 1 := Scalar.cmpi .slt c4_i32_1351 c0_i32_1355
  let v3186 : BitVec 32 := Scalar.extui v3185
  let v3187 : BitVec 32 := Scalar.subi v3184 v3186
  let v3188 : BitVec 1 := Scalar.cmpi .ne v3182 v3187
  let v3189 : BitVec 32 := Scalar.remsi v3176 c4_i32_1351
  let c0_i32_1356 : BitVec 32 := 0#32
  let v3190 : BitVec 1 := Scalar.cmpi .ne v3189 c0_i32_1356
  let v3191 : BitVec 1 := Scalar.andi v3188 v3190
  let v3177 : BitVec 32 := Scalar.divsi v3176 c4_i32_1351
  let c1_i32_1357 : BitVec 32 := 1#32
  let v3192 : BitVec 32 := Scalar.subi v3177 c1_i32_1357
  let v3193 : BitVec 32 := Scalar.select v3191 v3192 v3177
  let v3204 : Index := Scalar.indexCast v3193
  let c0_1364 : Index := 0#32
  let c4_i32_1358 : BitVec 32 := 4#32
  let c0_i32_1359 : BitVec 32 := 0#32
  let v3194 : BitVec 1 := Scalar.cmpi .eq c4_i32_1358 c0_i32_1359
  let c1_i32_1360 : BitVec 32 := 1#32
  let v3195 : BitVec 32 := Scalar.select v3194 c1_i32_1360 c4_i32_1358
  let v3196 : BitVec 32 := Scalar.remsi v3176 v3195
  let c0_i32_1362 : BitVec 32 := 0#32
  let v3198 : BitVec 1 := Scalar.cmpi .slt v3196 c0_i32_1362
  let c0_i32_1363 : BitVec 32 := 0#32
  let v3199 : BitVec 1 := Scalar.cmpi .slt v3195 c0_i32_1363
  let v3200 : BitVec 1 := Scalar.xori v3198 v3199
  let c0_i32_1361 : BitVec 32 := 0#32
  let v3197 : BitVec 1 := Scalar.cmpi .ne v3196 c0_i32_1361
  let v3201 : BitVec 1 := Scalar.andi v3200 v3197
  let v3202 : BitVec 32 := Scalar.addi v3196 v3195
  let v3203 : BitVec 32 := Scalar.select v3201 v3202 v3196
  let v3205 : Index := Scalar.indexCast v3203
  let c0_1365 : Index := 0#32
  let c0_1366 : Index := 0#32
  ![v3204.toNat, 0, v3205.toNat, 0, 0]

def k0_chk43 (v3176 : BitVec 32) : Prop :=
  (∀ a, (k0_off86 v3176) a + S1x8x1x8x1024.size a ≤ S4x8x4x8x1024.size a)
theorem k0_off86_inb : ∀ (v3176 : BitVec 32) (k0_hw43 : k0_chk43 v3176), ∀ a, (k0_off86 v3176) a + S1x8x1x8x1024.size a ≤ S4x8x4x8x1024.size a := fun v3176 k0_hw43 => k0_hw43

def k0_off87 (i : grid0.Coords) : Fin 3 → Nat :=
  let arg0 : BitVec 32 := BitVec.ofNat 32 (i 0).val
  let v3214 : Index := Scalar.indexCast arg0
  let c3_1370 : Index := 3#32
  let c10_1371 : Index := 10#32
  ![v3214.toNat, 3, 10]
def k0_off88 (v3215 : BitVec 32) : Fin 5 → Nat :=
  let c0_i32_1373 : BitVec 32 := 0#32
  let v3217 : BitVec 1 := Scalar.cmpi .sgt v3215 c0_i32_1373
  let v3218 : BitVec 32 := Scalar.extui v3217
  let c0_i32_1374 : BitVec 32 := 0#32
  let v3219 : BitVec 1 := Scalar.cmpi .slt v3215 c0_i32_1374
  let v3220 : BitVec 32 := Scalar.extui v3219
  let v3221 : BitVec 32 := Scalar.subi v3218 v3220
  let c4_i32_1372 : BitVec 32 := 4#32
  let c0_i32_1375 : BitVec 32 := 0#32
  let v3222 : BitVec 1 := Scalar.cmpi .sgt c4_i32_1372 c0_i32_1375
  let v3223 : BitVec 32 := Scalar.extui v3222
  let c0_i32_1376 : BitVec 32 := 0#32
  let v3224 : BitVec 1 := Scalar.cmpi .slt c4_i32_1372 c0_i32_1376
  let v3225 : BitVec 32 := Scalar.extui v3224
  let v3226 : BitVec 32 := Scalar.subi v3223 v3225
  let v3227 : BitVec 1 := Scalar.cmpi .ne v3221 v3226
  let v3228 : BitVec 32 := Scalar.remsi v3215 c4_i32_1372
  let c0_i32_1377 : BitVec 32 := 0#32
  let v3229 : BitVec 1 := Scalar.cmpi .ne v3228 c0_i32_1377
  let v3230 : BitVec 1 := Scalar.andi v3227 v3229
  let v3216 : BitVec 32 := Scalar.divsi v3215 c4_i32_1372
  let c1_i32_1378 : BitVec 32 := 1#32
  let v3231 : BitVec 32 := Scalar.subi v3216 c1_i32_1378
  let v3232 : BitVec 32 := Scalar.select v3230 v3231 v3216
  let v3243 : Index := Scalar.indexCast v3232
  let c0_1385 : Index := 0#32
  let c4_i32_1379 : BitVec 32 := 4#32
  let c0_i32_1380 : BitVec 32 := 0#32
  let v3233 : BitVec 1 := Scalar.cmpi .eq c4_i32_1379 c0_i32_1380
  let c1_i32_1381 : BitVec 32 := 1#32
  let v3234 : BitVec 32 := Scalar.select v3233 c1_i32_1381 c4_i32_1379
  let v3235 : BitVec 32 := Scalar.remsi v3215 v3234
  let c0_i32_1383 : BitVec 32 := 0#32
  let v3237 : BitVec 1 := Scalar.cmpi .slt v3235 c0_i32_1383
  let c0_i32_1384 : BitVec 32 := 0#32
  let v3238 : BitVec 1 := Scalar.cmpi .slt v3234 c0_i32_1384
  let v3239 : BitVec 1 := Scalar.xori v3237 v3238
  let c0_i32_1382 : BitVec 32 := 0#32
  let v3236 : BitVec 1 := Scalar.cmpi .ne v3235 c0_i32_1382
  let v3240 : BitVec 1 := Scalar.andi v3239 v3236
  let v3241 : BitVec 32 := Scalar.addi v3235 v3234
  let v3242 : BitVec 32 := Scalar.select v3240 v3241 v3235
  let v3244 : Index := Scalar.indexCast v3242
  let c0_1386 : Index := 0#32
  let c0_1387 : Index := 0#32
  ![v3243.toNat, 0, v3244.toNat, 0, 0]

def k0_chk44 (v3215 : BitVec 32) : Prop :=
  (∀ a, (k0_off88 v3215) a + S1x8x1x8x1024.size a ≤ S4x8x4x8x1024.size a)
theorem k0_off88_inb : ∀ (v3215 : BitVec 32) (k0_hw44 : k0_chk44 v3215), ∀ a, (k0_off88 v3215) a + S1x8x1x8x1024.size a ≤ S4x8x4x8x1024.size a := fun v3215 k0_hw44 => k0_hw44

def k0_off89 (i : grid0.Coords) : Fin 3 → Nat :=
  let arg0 : BitVec 32 := BitVec.ofNat 32 (i 0).val
  let v3258 : Index := Scalar.indexCast arg0
  let c0_1391 : Index := 0#32
  let c11_1392 : Index := 11#32
  ![v3258.toNat, 0, 11]
def k0_off90 (v3259 : BitVec 32) : Fin 5 → Nat :=
  let c0_i32_1394 : BitVec 32 := 0#32
  let v3261 : BitVec 1 := Scalar.cmpi .sgt v3259 c0_i32_1394
  let v3262 : BitVec 32 := Scalar.extui v3261
  let c0_i32_1395 : BitVec 32 := 0#32
  let v3263 : BitVec 1 := Scalar.cmpi .slt v3259 c0_i32_1395
  let v3264 : BitVec 32 := Scalar.extui v3263
  let v3265 : BitVec 32 := Scalar.subi v3262 v3264
  let c4_i32_1393 : BitVec 32 := 4#32
  let c0_i32_1396 : BitVec 32 := 0#32
  let v3266 : BitVec 1 := Scalar.cmpi .sgt c4_i32_1393 c0_i32_1396
  let v3267 : BitVec 32 := Scalar.extui v3266
  let c0_i32_1397 : BitVec 32 := 0#32
  let v3268 : BitVec 1 := Scalar.cmpi .slt c4_i32_1393 c0_i32_1397
  let v3269 : BitVec 32 := Scalar.extui v3268
  let v3270 : BitVec 32 := Scalar.subi v3267 v3269
  let v3271 : BitVec 1 := Scalar.cmpi .ne v3265 v3270
  let v3272 : BitVec 32 := Scalar.remsi v3259 c4_i32_1393
  let c0_i32_1398 : BitVec 32 := 0#32
  let v3273 : BitVec 1 := Scalar.cmpi .ne v3272 c0_i32_1398
  let v3274 : BitVec 1 := Scalar.andi v3271 v3273
  let v3260 : BitVec 32 := Scalar.divsi v3259 c4_i32_1393
  let c1_i32_1399 : BitVec 32 := 1#32
  let v3275 : BitVec 32 := Scalar.subi v3260 c1_i32_1399
  let v3276 : BitVec 32 := Scalar.select v3274 v3275 v3260
  let v3287 : Index := Scalar.indexCast v3276
  let c0_1406 : Index := 0#32
  let c4_i32_1400 : BitVec 32 := 4#32
  let c0_i32_1401 : BitVec 32 := 0#32
  let v3277 : BitVec 1 := Scalar.cmpi .eq c4_i32_1400 c0_i32_1401
  let c1_i32_1402 : BitVec 32 := 1#32
  let v3278 : BitVec 32 := Scalar.select v3277 c1_i32_1402 c4_i32_1400
  let v3279 : BitVec 32 := Scalar.remsi v3259 v3278
  let c0_i32_1404 : BitVec 32 := 0#32
  let v3281 : BitVec 1 := Scalar.cmpi .slt v3279 c0_i32_1404
  let c0_i32_1405 : BitVec 32 := 0#32
  let v3282 : BitVec 1 := Scalar.cmpi .slt v3278 c0_i32_1405
  let v3283 : BitVec 1 := Scalar.xori v3281 v3282
  let c0_i32_1403 : BitVec 32 := 0#32
  let v3280 : BitVec 1 := Scalar.cmpi .ne v3279 c0_i32_1403
  let v3284 : BitVec 1 := Scalar.andi v3283 v3280
  let v3285 : BitVec 32 := Scalar.addi v3279 v3278
  let v3286 : BitVec 32 := Scalar.select v3284 v3285 v3279
  let v3288 : Index := Scalar.indexCast v3286
  let c0_1407 : Index := 0#32
  let c0_1408 : Index := 0#32
  ![v3287.toNat, 0, v3288.toNat, 0, 0]

def k0_chk45 (v3259 : BitVec 32) : Prop :=
  (∀ a, (k0_off90 v3259) a + S1x8x1x8x1024.size a ≤ S4x8x4x8x1024.size a)
theorem k0_off90_inb : ∀ (v3259 : BitVec 32) (k0_hw45 : k0_chk45 v3259), ∀ a, (k0_off90 v3259) a + S1x8x1x8x1024.size a ≤ S4x8x4x8x1024.size a := fun v3259 k0_hw45 => k0_hw45

def k0_off91 (i : grid0.Coords) : Fin 3 → Nat :=
  let arg0 : BitVec 32 := BitVec.ofNat 32 (i 0).val
  let v3297 : Index := Scalar.indexCast arg0
  let c1_1412 : Index := 1#32
  let c11_1413 : Index := 11#32
  ![v3297.toNat, 1, 11]
def k0_off92 (v3298 : BitVec 32) : Fin 5 → Nat :=
  let c0_i32_1415 : BitVec 32 := 0#32
  let v3300 : BitVec 1 := Scalar.cmpi .sgt v3298 c0_i32_1415
  let v3301 : BitVec 32 := Scalar.extui v3300
  let c0_i32_1416 : BitVec 32 := 0#32
  let v3302 : BitVec 1 := Scalar.cmpi .slt v3298 c0_i32_1416
  let v3303 : BitVec 32 := Scalar.extui v3302
  let v3304 : BitVec 32 := Scalar.subi v3301 v3303
  let c4_i32_1414 : BitVec 32 := 4#32
  let c0_i32_1417 : BitVec 32 := 0#32
  let v3305 : BitVec 1 := Scalar.cmpi .sgt c4_i32_1414 c0_i32_1417
  let v3306 : BitVec 32 := Scalar.extui v3305
  let c0_i32_1418 : BitVec 32 := 0#32
  let v3307 : BitVec 1 := Scalar.cmpi .slt c4_i32_1414 c0_i32_1418
  let v3308 : BitVec 32 := Scalar.extui v3307
  let v3309 : BitVec 32 := Scalar.subi v3306 v3308
  let v3310 : BitVec 1 := Scalar.cmpi .ne v3304 v3309
  let v3311 : BitVec 32 := Scalar.remsi v3298 c4_i32_1414
  let c0_i32_1419 : BitVec 32 := 0#32
  let v3312 : BitVec 1 := Scalar.cmpi .ne v3311 c0_i32_1419
  let v3313 : BitVec 1 := Scalar.andi v3310 v3312
  let v3299 : BitVec 32 := Scalar.divsi v3298 c4_i32_1414
  let c1_i32_1420 : BitVec 32 := 1#32
  let v3314 : BitVec 32 := Scalar.subi v3299 c1_i32_1420
  let v3315 : BitVec 32 := Scalar.select v3313 v3314 v3299
  let v3326 : Index := Scalar.indexCast v3315
  let c0_1427 : Index := 0#32
  let c4_i32_1421 : BitVec 32 := 4#32
  let c0_i32_1422 : BitVec 32 := 0#32
  let v3316 : BitVec 1 := Scalar.cmpi .eq c4_i32_1421 c0_i32_1422
  let c1_i32_1423 : BitVec 32 := 1#32
  let v3317 : BitVec 32 := Scalar.select v3316 c1_i32_1423 c4_i32_1421
  let v3318 : BitVec 32 := Scalar.remsi v3298 v3317
  let c0_i32_1425 : BitVec 32 := 0#32
  let v3320 : BitVec 1 := Scalar.cmpi .slt v3318 c0_i32_1425
  let c0_i32_1426 : BitVec 32 := 0#32
  let v3321 : BitVec 1 := Scalar.cmpi .slt v3317 c0_i32_1426
  let v3322 : BitVec 1 := Scalar.xori v3320 v3321
  let c0_i32_1424 : BitVec 32 := 0#32
  let v3319 : BitVec 1 := Scalar.cmpi .ne v3318 c0_i32_1424
  let v3323 : BitVec 1 := Scalar.andi v3322 v3319
  let v3324 : BitVec 32 := Scalar.addi v3318 v3317
  let v3325 : BitVec 32 := Scalar.select v3323 v3324 v3318
  let v3327 : Index := Scalar.indexCast v3325
  let c0_1428 : Index := 0#32
  let c0_1429 : Index := 0#32
  ![v3326.toNat, 0, v3327.toNat, 0, 0]

def k0_chk46 (v3298 : BitVec 32) : Prop :=
  (∀ a, (k0_off92 v3298) a + S1x8x1x8x1024.size a ≤ S4x8x4x8x1024.size a)
theorem k0_off92_inb : ∀ (v3298 : BitVec 32) (k0_hw46 : k0_chk46 v3298), ∀ a, (k0_off92 v3298) a + S1x8x1x8x1024.size a ≤ S4x8x4x8x1024.size a := fun v3298 k0_hw46 => k0_hw46

def k0_off93 (i : grid0.Coords) : Fin 3 → Nat :=
  let arg0 : BitVec 32 := BitVec.ofNat 32 (i 0).val
  let v3336 : Index := Scalar.indexCast arg0
  let c2_1433 : Index := 2#32
  let c11_1434 : Index := 11#32
  ![v3336.toNat, 2, 11]
def k0_off94 (v3337 : BitVec 32) : Fin 5 → Nat :=
  let c0_i32_1436 : BitVec 32 := 0#32
  let v3339 : BitVec 1 := Scalar.cmpi .sgt v3337 c0_i32_1436
  let v3340 : BitVec 32 := Scalar.extui v3339
  let c0_i32_1437 : BitVec 32 := 0#32
  let v3341 : BitVec 1 := Scalar.cmpi .slt v3337 c0_i32_1437
  let v3342 : BitVec 32 := Scalar.extui v3341
  let v3343 : BitVec 32 := Scalar.subi v3340 v3342
  let c4_i32_1435 : BitVec 32 := 4#32
  let c0_i32_1438 : BitVec 32 := 0#32
  let v3344 : BitVec 1 := Scalar.cmpi .sgt c4_i32_1435 c0_i32_1438
  let v3345 : BitVec 32 := Scalar.extui v3344
  let c0_i32_1439 : BitVec 32 := 0#32
  let v3346 : BitVec 1 := Scalar.cmpi .slt c4_i32_1435 c0_i32_1439
  let v3347 : BitVec 32 := Scalar.extui v3346
  let v3348 : BitVec 32 := Scalar.subi v3345 v3347
  let v3349 : BitVec 1 := Scalar.cmpi .ne v3343 v3348
  let v3350 : BitVec 32 := Scalar.remsi v3337 c4_i32_1435
  let c0_i32_1440 : BitVec 32 := 0#32
  let v3351 : BitVec 1 := Scalar.cmpi .ne v3350 c0_i32_1440
  let v3352 : BitVec 1 := Scalar.andi v3349 v3351
  let v3338 : BitVec 32 := Scalar.divsi v3337 c4_i32_1435
  let c1_i32_1441 : BitVec 32 := 1#32
  let v3353 : BitVec 32 := Scalar.subi v3338 c1_i32_1441
  let v3354 : BitVec 32 := Scalar.select v3352 v3353 v3338
  let v3365 : Index := Scalar.indexCast v3354
  let c0_1448 : Index := 0#32
  let c4_i32_1442 : BitVec 32 := 4#32
  let c0_i32_1443 : BitVec 32 := 0#32
  let v3355 : BitVec 1 := Scalar.cmpi .eq c4_i32_1442 c0_i32_1443
  let c1_i32_1444 : BitVec 32 := 1#32
  let v3356 : BitVec 32 := Scalar.select v3355 c1_i32_1444 c4_i32_1442
  let v3357 : BitVec 32 := Scalar.remsi v3337 v3356
  let c0_i32_1446 : BitVec 32 := 0#32
  let v3359 : BitVec 1 := Scalar.cmpi .slt v3357 c0_i32_1446
  let c0_i32_1447 : BitVec 32 := 0#32
  let v3360 : BitVec 1 := Scalar.cmpi .slt v3356 c0_i32_1447
  let v3361 : BitVec 1 := Scalar.xori v3359 v3360
  let c0_i32_1445 : BitVec 32 := 0#32
  let v3358 : BitVec 1 := Scalar.cmpi .ne v3357 c0_i32_1445
  let v3362 : BitVec 1 := Scalar.andi v3361 v3358
  let v3363 : BitVec 32 := Scalar.addi v3357 v3356
  let v3364 : BitVec 32 := Scalar.select v3362 v3363 v3357
  let v3366 : Index := Scalar.indexCast v3364
  let c0_1449 : Index := 0#32
  let c0_1450 : Index := 0#32
  ![v3365.toNat, 0, v3366.toNat, 0, 0]

def k0_chk47 (v3337 : BitVec 32) : Prop :=
  (∀ a, (k0_off94 v3337) a + S1x8x1x8x1024.size a ≤ S4x8x4x8x1024.size a)
theorem k0_off94_inb : ∀ (v3337 : BitVec 32) (k0_hw47 : k0_chk47 v3337), ∀ a, (k0_off94 v3337) a + S1x8x1x8x1024.size a ≤ S4x8x4x8x1024.size a := fun v3337 k0_hw47 => k0_hw47

def k0_off95 (i : grid0.Coords) : Fin 3 → Nat :=
  let arg0 : BitVec 32 := BitVec.ofNat 32 (i 0).val
  let v3375 : Index := Scalar.indexCast arg0
  let c3_1454 : Index := 3#32
  let c11_1455 : Index := 11#32
  ![v3375.toNat, 3, 11]
def k0_off96 (v3376 : BitVec 32) : Fin 5 → Nat :=
  let c0_i32_1457 : BitVec 32 := 0#32
  let v3378 : BitVec 1 := Scalar.cmpi .sgt v3376 c0_i32_1457
  let v3379 : BitVec 32 := Scalar.extui v3378
  let c0_i32_1458 : BitVec 32 := 0#32
  let v3380 : BitVec 1 := Scalar.cmpi .slt v3376 c0_i32_1458
  let v3381 : BitVec 32 := Scalar.extui v3380
  let v3382 : BitVec 32 := Scalar.subi v3379 v3381
  let c4_i32_1456 : BitVec 32 := 4#32
  let c0_i32_1459 : BitVec 32 := 0#32
  let v3383 : BitVec 1 := Scalar.cmpi .sgt c4_i32_1456 c0_i32_1459
  let v3384 : BitVec 32 := Scalar.extui v3383
  let c0_i32_1460 : BitVec 32 := 0#32
  let v3385 : BitVec 1 := Scalar.cmpi .slt c4_i32_1456 c0_i32_1460
  let v3386 : BitVec 32 := Scalar.extui v3385
  let v3387 : BitVec 32 := Scalar.subi v3384 v3386
  let v3388 : BitVec 1 := Scalar.cmpi .ne v3382 v3387
  let v3389 : BitVec 32 := Scalar.remsi v3376 c4_i32_1456
  let c0_i32_1461 : BitVec 32 := 0#32
  let v3390 : BitVec 1 := Scalar.cmpi .ne v3389 c0_i32_1461
  let v3391 : BitVec 1 := Scalar.andi v3388 v3390
  let v3377 : BitVec 32 := Scalar.divsi v3376 c4_i32_1456
  let c1_i32_1462 : BitVec 32 := 1#32
  let v3392 : BitVec 32 := Scalar.subi v3377 c1_i32_1462
  let v3393 : BitVec 32 := Scalar.select v3391 v3392 v3377
  let v3404 : Index := Scalar.indexCast v3393
  let c0_1469 : Index := 0#32
  let c4_i32_1463 : BitVec 32 := 4#32
  let c0_i32_1464 : BitVec 32 := 0#32
  let v3394 : BitVec 1 := Scalar.cmpi .eq c4_i32_1463 c0_i32_1464
  let c1_i32_1465 : BitVec 32 := 1#32
  let v3395 : BitVec 32 := Scalar.select v3394 c1_i32_1465 c4_i32_1463
  let v3396 : BitVec 32 := Scalar.remsi v3376 v3395
  let c0_i32_1467 : BitVec 32 := 0#32
  let v3398 : BitVec 1 := Scalar.cmpi .slt v3396 c0_i32_1467
  let c0_i32_1468 : BitVec 32 := 0#32
  let v3399 : BitVec 1 := Scalar.cmpi .slt v3395 c0_i32_1468
  let v3400 : BitVec 1 := Scalar.xori v3398 v3399
  let c0_i32_1466 : BitVec 32 := 0#32
  let v3397 : BitVec 1 := Scalar.cmpi .ne v3396 c0_i32_1466
  let v3401 : BitVec 1 := Scalar.andi v3400 v3397
  let v3402 : BitVec 32 := Scalar.addi v3396 v3395
  let v3403 : BitVec 32 := Scalar.select v3401 v3402 v3396
  let v3405 : Index := Scalar.indexCast v3403
  let c0_1470 : Index := 0#32
  let c0_1471 : Index := 0#32
  ![v3404.toNat, 0, v3405.toNat, 0, 0]

def k0_chk48 (v3376 : BitVec 32) : Prop :=
  (∀ a, (k0_off96 v3376) a + S1x8x1x8x1024.size a ≤ S4x8x4x8x1024.size a)
theorem k0_off96_inb : ∀ (v3376 : BitVec 32) (k0_hw48 : k0_chk48 v3376), ∀ a, (k0_off96 v3376) a + S1x8x1x8x1024.size a ≤ S4x8x4x8x1024.size a := fun v3376 k0_hw48 => k0_hw48

def k0_off97 (i : grid0.Coords) : Fin 3 → Nat :=
  let arg0 : BitVec 32 := BitVec.ofNat 32 (i 0).val
  let v3419 : Index := Scalar.indexCast arg0
  let c0_1475 : Index := 0#32
  let c12_1476 : Index := 12#32
  ![v3419.toNat, 0, 12]
def k0_off98 (v3420 : BitVec 32) : Fin 5 → Nat :=
  let c0_i32_1478 : BitVec 32 := 0#32
  let v3422 : BitVec 1 := Scalar.cmpi .sgt v3420 c0_i32_1478
  let v3423 : BitVec 32 := Scalar.extui v3422
  let c0_i32_1479 : BitVec 32 := 0#32
  let v3424 : BitVec 1 := Scalar.cmpi .slt v3420 c0_i32_1479
  let v3425 : BitVec 32 := Scalar.extui v3424
  let v3426 : BitVec 32 := Scalar.subi v3423 v3425
  let c4_i32_1477 : BitVec 32 := 4#32
  let c0_i32_1480 : BitVec 32 := 0#32
  let v3427 : BitVec 1 := Scalar.cmpi .sgt c4_i32_1477 c0_i32_1480
  let v3428 : BitVec 32 := Scalar.extui v3427
  let c0_i32_1481 : BitVec 32 := 0#32
  let v3429 : BitVec 1 := Scalar.cmpi .slt c4_i32_1477 c0_i32_1481
  let v3430 : BitVec 32 := Scalar.extui v3429
  let v3431 : BitVec 32 := Scalar.subi v3428 v3430
  let v3432 : BitVec 1 := Scalar.cmpi .ne v3426 v3431
  let v3433 : BitVec 32 := Scalar.remsi v3420 c4_i32_1477
  let c0_i32_1482 : BitVec 32 := 0#32
  let v3434 : BitVec 1 := Scalar.cmpi .ne v3433 c0_i32_1482
  let v3435 : BitVec 1 := Scalar.andi v3432 v3434
  let v3421 : BitVec 32 := Scalar.divsi v3420 c4_i32_1477
  let c1_i32_1483 : BitVec 32 := 1#32
  let v3436 : BitVec 32 := Scalar.subi v3421 c1_i32_1483
  let v3437 : BitVec 32 := Scalar.select v3435 v3436 v3421
  let v3448 : Index := Scalar.indexCast v3437
  let c0_1490 : Index := 0#32
  let c4_i32_1484 : BitVec 32 := 4#32
  let c0_i32_1485 : BitVec 32 := 0#32
  let v3438 : BitVec 1 := Scalar.cmpi .eq c4_i32_1484 c0_i32_1485
  let c1_i32_1486 : BitVec 32 := 1#32
  let v3439 : BitVec 32 := Scalar.select v3438 c1_i32_1486 c4_i32_1484
  let v3440 : BitVec 32 := Scalar.remsi v3420 v3439
  let c0_i32_1488 : BitVec 32 := 0#32
  let v3442 : BitVec 1 := Scalar.cmpi .slt v3440 c0_i32_1488
  let c0_i32_1489 : BitVec 32 := 0#32
  let v3443 : BitVec 1 := Scalar.cmpi .slt v3439 c0_i32_1489
  let v3444 : BitVec 1 := Scalar.xori v3442 v3443
  let c0_i32_1487 : BitVec 32 := 0#32
  let v3441 : BitVec 1 := Scalar.cmpi .ne v3440 c0_i32_1487
  let v3445 : BitVec 1 := Scalar.andi v3444 v3441
  let v3446 : BitVec 32 := Scalar.addi v3440 v3439
  let v3447 : BitVec 32 := Scalar.select v3445 v3446 v3440
  let v3449 : Index := Scalar.indexCast v3447
  let c0_1491 : Index := 0#32
  let c0_1492 : Index := 0#32
  ![v3448.toNat, 0, v3449.toNat, 0, 0]

def k0_chk49 (v3420 : BitVec 32) : Prop :=
  (∀ a, (k0_off98 v3420) a + S1x8x1x8x1024.size a ≤ S4x8x4x8x1024.size a)
theorem k0_off98_inb : ∀ (v3420 : BitVec 32) (k0_hw49 : k0_chk49 v3420), ∀ a, (k0_off98 v3420) a + S1x8x1x8x1024.size a ≤ S4x8x4x8x1024.size a := fun v3420 k0_hw49 => k0_hw49

def k0_off99 (i : grid0.Coords) : Fin 3 → Nat :=
  let arg0 : BitVec 32 := BitVec.ofNat 32 (i 0).val
  let v3458 : Index := Scalar.indexCast arg0
  let c1_1496 : Index := 1#32
  let c12_1497 : Index := 12#32
  ![v3458.toNat, 1, 12]
def k0_off100 (v3459 : BitVec 32) : Fin 5 → Nat :=
  let c0_i32_1499 : BitVec 32 := 0#32
  let v3461 : BitVec 1 := Scalar.cmpi .sgt v3459 c0_i32_1499
  let v3462 : BitVec 32 := Scalar.extui v3461
  let c0_i32_1500 : BitVec 32 := 0#32
  let v3463 : BitVec 1 := Scalar.cmpi .slt v3459 c0_i32_1500
  let v3464 : BitVec 32 := Scalar.extui v3463
  let v3465 : BitVec 32 := Scalar.subi v3462 v3464
  let c4_i32_1498 : BitVec 32 := 4#32
  let c0_i32_1501 : BitVec 32 := 0#32
  let v3466 : BitVec 1 := Scalar.cmpi .sgt c4_i32_1498 c0_i32_1501
  let v3467 : BitVec 32 := Scalar.extui v3466
  let c0_i32_1502 : BitVec 32 := 0#32
  let v3468 : BitVec 1 := Scalar.cmpi .slt c4_i32_1498 c0_i32_1502
  let v3469 : BitVec 32 := Scalar.extui v3468
  let v3470 : BitVec 32 := Scalar.subi v3467 v3469
  let v3471 : BitVec 1 := Scalar.cmpi .ne v3465 v3470
  let v3472 : BitVec 32 := Scalar.remsi v3459 c4_i32_1498
  let c0_i32_1503 : BitVec 32 := 0#32
  let v3473 : BitVec 1 := Scalar.cmpi .ne v3472 c0_i32_1503
  let v3474 : BitVec 1 := Scalar.andi v3471 v3473
  let v3460 : BitVec 32 := Scalar.divsi v3459 c4_i32_1498
  let c1_i32_1504 : BitVec 32 := 1#32
  let v3475 : BitVec 32 := Scalar.subi v3460 c1_i32_1504
  let v3476 : BitVec 32 := Scalar.select v3474 v3475 v3460
  let v3487 : Index := Scalar.indexCast v3476
  let c0_1511 : Index := 0#32
  let c4_i32_1505 : BitVec 32 := 4#32
  let c0_i32_1506 : BitVec 32 := 0#32
  let v3477 : BitVec 1 := Scalar.cmpi .eq c4_i32_1505 c0_i32_1506
  let c1_i32_1507 : BitVec 32 := 1#32
  let v3478 : BitVec 32 := Scalar.select v3477 c1_i32_1507 c4_i32_1505
  let v3479 : BitVec 32 := Scalar.remsi v3459 v3478
  let c0_i32_1509 : BitVec 32 := 0#32
  let v3481 : BitVec 1 := Scalar.cmpi .slt v3479 c0_i32_1509
  let c0_i32_1510 : BitVec 32 := 0#32
  let v3482 : BitVec 1 := Scalar.cmpi .slt v3478 c0_i32_1510
  let v3483 : BitVec 1 := Scalar.xori v3481 v3482
  let c0_i32_1508 : BitVec 32 := 0#32
  let v3480 : BitVec 1 := Scalar.cmpi .ne v3479 c0_i32_1508
  let v3484 : BitVec 1 := Scalar.andi v3483 v3480
  let v3485 : BitVec 32 := Scalar.addi v3479 v3478
  let v3486 : BitVec 32 := Scalar.select v3484 v3485 v3479
  let v3488 : Index := Scalar.indexCast v3486
  let c0_1512 : Index := 0#32
  let c0_1513 : Index := 0#32
  ![v3487.toNat, 0, v3488.toNat, 0, 0]

def k0_chk50 (v3459 : BitVec 32) : Prop :=
  (∀ a, (k0_off100 v3459) a + S1x8x1x8x1024.size a ≤ S4x8x4x8x1024.size a)
theorem k0_off100_inb : ∀ (v3459 : BitVec 32) (k0_hw50 : k0_chk50 v3459), ∀ a, (k0_off100 v3459) a + S1x8x1x8x1024.size a ≤ S4x8x4x8x1024.size a := fun v3459 k0_hw50 => k0_hw50

def k0_off101 (i : grid0.Coords) : Fin 3 → Nat :=
  let arg0 : BitVec 32 := BitVec.ofNat 32 (i 0).val
  let v3497 : Index := Scalar.indexCast arg0
  let c2_1517 : Index := 2#32
  let c12_1518 : Index := 12#32
  ![v3497.toNat, 2, 12]
def k0_off102 (v3498 : BitVec 32) : Fin 5 → Nat :=
  let c0_i32_1520 : BitVec 32 := 0#32
  let v3500 : BitVec 1 := Scalar.cmpi .sgt v3498 c0_i32_1520
  let v3501 : BitVec 32 := Scalar.extui v3500
  let c0_i32_1521 : BitVec 32 := 0#32
  let v3502 : BitVec 1 := Scalar.cmpi .slt v3498 c0_i32_1521
  let v3503 : BitVec 32 := Scalar.extui v3502
  let v3504 : BitVec 32 := Scalar.subi v3501 v3503
  let c4_i32_1519 : BitVec 32 := 4#32
  let c0_i32_1522 : BitVec 32 := 0#32
  let v3505 : BitVec 1 := Scalar.cmpi .sgt c4_i32_1519 c0_i32_1522
  let v3506 : BitVec 32 := Scalar.extui v3505
  let c0_i32_1523 : BitVec 32 := 0#32
  let v3507 : BitVec 1 := Scalar.cmpi .slt c4_i32_1519 c0_i32_1523
  let v3508 : BitVec 32 := Scalar.extui v3507
  let v3509 : BitVec 32 := Scalar.subi v3506 v3508
  let v3510 : BitVec 1 := Scalar.cmpi .ne v3504 v3509
  let v3511 : BitVec 32 := Scalar.remsi v3498 c4_i32_1519
  let c0_i32_1524 : BitVec 32 := 0#32
  let v3512 : BitVec 1 := Scalar.cmpi .ne v3511 c0_i32_1524
  let v3513 : BitVec 1 := Scalar.andi v3510 v3512
  let v3499 : BitVec 32 := Scalar.divsi v3498 c4_i32_1519
  let c1_i32_1525 : BitVec 32 := 1#32
  let v3514 : BitVec 32 := Scalar.subi v3499 c1_i32_1525
  let v3515 : BitVec 32 := Scalar.select v3513 v3514 v3499
  let v3526 : Index := Scalar.indexCast v3515
  let c0_1532 : Index := 0#32
  let c4_i32_1526 : BitVec 32 := 4#32
  let c0_i32_1527 : BitVec 32 := 0#32
  let v3516 : BitVec 1 := Scalar.cmpi .eq c4_i32_1526 c0_i32_1527
  let c1_i32_1528 : BitVec 32 := 1#32
  let v3517 : BitVec 32 := Scalar.select v3516 c1_i32_1528 c4_i32_1526
  let v3518 : BitVec 32 := Scalar.remsi v3498 v3517
  let c0_i32_1530 : BitVec 32 := 0#32
  let v3520 : BitVec 1 := Scalar.cmpi .slt v3518 c0_i32_1530
  let c0_i32_1531 : BitVec 32 := 0#32
  let v3521 : BitVec 1 := Scalar.cmpi .slt v3517 c0_i32_1531
  let v3522 : BitVec 1 := Scalar.xori v3520 v3521
  let c0_i32_1529 : BitVec 32 := 0#32
  let v3519 : BitVec 1 := Scalar.cmpi .ne v3518 c0_i32_1529
  let v3523 : BitVec 1 := Scalar.andi v3522 v3519
  let v3524 : BitVec 32 := Scalar.addi v3518 v3517
  let v3525 : BitVec 32 := Scalar.select v3523 v3524 v3518
  let v3527 : Index := Scalar.indexCast v3525
  let c0_1533 : Index := 0#32
  let c0_1534 : Index := 0#32
  ![v3526.toNat, 0, v3527.toNat, 0, 0]

def k0_chk51 (v3498 : BitVec 32) : Prop :=
  (∀ a, (k0_off102 v3498) a + S1x8x1x8x1024.size a ≤ S4x8x4x8x1024.size a)
theorem k0_off102_inb : ∀ (v3498 : BitVec 32) (k0_hw51 : k0_chk51 v3498), ∀ a, (k0_off102 v3498) a + S1x8x1x8x1024.size a ≤ S4x8x4x8x1024.size a := fun v3498 k0_hw51 => k0_hw51

def k0_off103 (i : grid0.Coords) : Fin 3 → Nat :=
  let arg0 : BitVec 32 := BitVec.ofNat 32 (i 0).val
  let v3536 : Index := Scalar.indexCast arg0
  let c3_1538 : Index := 3#32
  let c12_1539 : Index := 12#32
  ![v3536.toNat, 3, 12]
def k0_off104 (v3537 : BitVec 32) : Fin 5 → Nat :=
  let c0_i32_1541 : BitVec 32 := 0#32
  let v3539 : BitVec 1 := Scalar.cmpi .sgt v3537 c0_i32_1541
  let v3540 : BitVec 32 := Scalar.extui v3539
  let c0_i32_1542 : BitVec 32 := 0#32
  let v3541 : BitVec 1 := Scalar.cmpi .slt v3537 c0_i32_1542
  let v3542 : BitVec 32 := Scalar.extui v3541
  let v3543 : BitVec 32 := Scalar.subi v3540 v3542
  let c4_i32_1540 : BitVec 32 := 4#32
  let c0_i32_1543 : BitVec 32 := 0#32
  let v3544 : BitVec 1 := Scalar.cmpi .sgt c4_i32_1540 c0_i32_1543
  let v3545 : BitVec 32 := Scalar.extui v3544
  let c0_i32_1544 : BitVec 32 := 0#32
  let v3546 : BitVec 1 := Scalar.cmpi .slt c4_i32_1540 c0_i32_1544
  let v3547 : BitVec 32 := Scalar.extui v3546
  let v3548 : BitVec 32 := Scalar.subi v3545 v3547
  let v3549 : BitVec 1 := Scalar.cmpi .ne v3543 v3548
  let v3550 : BitVec 32 := Scalar.remsi v3537 c4_i32_1540
  let c0_i32_1545 : BitVec 32 := 0#32
  let v3551 : BitVec 1 := Scalar.cmpi .ne v3550 c0_i32_1545
  let v3552 : BitVec 1 := Scalar.andi v3549 v3551
  let v3538 : BitVec 32 := Scalar.divsi v3537 c4_i32_1540
  let c1_i32_1546 : BitVec 32 := 1#32
  let v3553 : BitVec 32 := Scalar.subi v3538 c1_i32_1546
  let v3554 : BitVec 32 := Scalar.select v3552 v3553 v3538
  let v3565 : Index := Scalar.indexCast v3554
  let c0_1553 : Index := 0#32
  let c4_i32_1547 : BitVec 32 := 4#32
  let c0_i32_1548 : BitVec 32 := 0#32
  let v3555 : BitVec 1 := Scalar.cmpi .eq c4_i32_1547 c0_i32_1548
  let c1_i32_1549 : BitVec 32 := 1#32
  let v3556 : BitVec 32 := Scalar.select v3555 c1_i32_1549 c4_i32_1547
  let v3557 : BitVec 32 := Scalar.remsi v3537 v3556
  let c0_i32_1551 : BitVec 32 := 0#32
  let v3559 : BitVec 1 := Scalar.cmpi .slt v3557 c0_i32_1551
  let c0_i32_1552 : BitVec 32 := 0#32
  let v3560 : BitVec 1 := Scalar.cmpi .slt v3556 c0_i32_1552
  let v3561 : BitVec 1 := Scalar.xori v3559 v3560
  let c0_i32_1550 : BitVec 32 := 0#32
  let v3558 : BitVec 1 := Scalar.cmpi .ne v3557 c0_i32_1550
  let v3562 : BitVec 1 := Scalar.andi v3561 v3558
  let v3563 : BitVec 32 := Scalar.addi v3557 v3556
  let v3564 : BitVec 32 := Scalar.select v3562 v3563 v3557
  let v3566 : Index := Scalar.indexCast v3564
  let c0_1554 : Index := 0#32
  let c0_1555 : Index := 0#32
  ![v3565.toNat, 0, v3566.toNat, 0, 0]

def k0_chk52 (v3537 : BitVec 32) : Prop :=
  (∀ a, (k0_off104 v3537) a + S1x8x1x8x1024.size a ≤ S4x8x4x8x1024.size a)
theorem k0_off104_inb : ∀ (v3537 : BitVec 32) (k0_hw52 : k0_chk52 v3537), ∀ a, (k0_off104 v3537) a + S1x8x1x8x1024.size a ≤ S4x8x4x8x1024.size a := fun v3537 k0_hw52 => k0_hw52

def k0_off105 (i : grid0.Coords) : Fin 3 → Nat :=
  let arg0 : BitVec 32 := BitVec.ofNat 32 (i 0).val
  let v3580 : Index := Scalar.indexCast arg0
  let c0_1559 : Index := 0#32
  let c13_1560 : Index := 13#32
  ![v3580.toNat, 0, 13]
def k0_off106 (v3581 : BitVec 32) : Fin 5 → Nat :=
  let c0_i32_1562 : BitVec 32 := 0#32
  let v3583 : BitVec 1 := Scalar.cmpi .sgt v3581 c0_i32_1562
  let v3584 : BitVec 32 := Scalar.extui v3583
  let c0_i32_1563 : BitVec 32 := 0#32
  let v3585 : BitVec 1 := Scalar.cmpi .slt v3581 c0_i32_1563
  let v3586 : BitVec 32 := Scalar.extui v3585
  let v3587 : BitVec 32 := Scalar.subi v3584 v3586
  let c4_i32_1561 : BitVec 32 := 4#32
  let c0_i32_1564 : BitVec 32 := 0#32
  let v3588 : BitVec 1 := Scalar.cmpi .sgt c4_i32_1561 c0_i32_1564
  let v3589 : BitVec 32 := Scalar.extui v3588
  let c0_i32_1565 : BitVec 32 := 0#32
  let v3590 : BitVec 1 := Scalar.cmpi .slt c4_i32_1561 c0_i32_1565
  let v3591 : BitVec 32 := Scalar.extui v3590
  let v3592 : BitVec 32 := Scalar.subi v3589 v3591
  let v3593 : BitVec 1 := Scalar.cmpi .ne v3587 v3592
  let v3594 : BitVec 32 := Scalar.remsi v3581 c4_i32_1561
  let c0_i32_1566 : BitVec 32 := 0#32
  let v3595 : BitVec 1 := Scalar.cmpi .ne v3594 c0_i32_1566
  let v3596 : BitVec 1 := Scalar.andi v3593 v3595
  let v3582 : BitVec 32 := Scalar.divsi v3581 c4_i32_1561
  let c1_i32_1567 : BitVec 32 := 1#32
  let v3597 : BitVec 32 := Scalar.subi v3582 c1_i32_1567
  let v3598 : BitVec 32 := Scalar.select v3596 v3597 v3582
  let v3609 : Index := Scalar.indexCast v3598
  let c0_1574 : Index := 0#32
  let c4_i32_1568 : BitVec 32 := 4#32
  let c0_i32_1569 : BitVec 32 := 0#32
  let v3599 : BitVec 1 := Scalar.cmpi .eq c4_i32_1568 c0_i32_1569
  let c1_i32_1570 : BitVec 32 := 1#32
  let v3600 : BitVec 32 := Scalar.select v3599 c1_i32_1570 c4_i32_1568
  let v3601 : BitVec 32 := Scalar.remsi v3581 v3600
  let c0_i32_1572 : BitVec 32 := 0#32
  let v3603 : BitVec 1 := Scalar.cmpi .slt v3601 c0_i32_1572
  let c0_i32_1573 : BitVec 32 := 0#32
  let v3604 : BitVec 1 := Scalar.cmpi .slt v3600 c0_i32_1573
  let v3605 : BitVec 1 := Scalar.xori v3603 v3604
  let c0_i32_1571 : BitVec 32 := 0#32
  let v3602 : BitVec 1 := Scalar.cmpi .ne v3601 c0_i32_1571
  let v3606 : BitVec 1 := Scalar.andi v3605 v3602
  let v3607 : BitVec 32 := Scalar.addi v3601 v3600
  let v3608 : BitVec 32 := Scalar.select v3606 v3607 v3601
  let v3610 : Index := Scalar.indexCast v3608
  let c0_1575 : Index := 0#32
  let c0_1576 : Index := 0#32
  ![v3609.toNat, 0, v3610.toNat, 0, 0]

def k0_chk53 (v3581 : BitVec 32) : Prop :=
  (∀ a, (k0_off106 v3581) a + S1x8x1x8x1024.size a ≤ S4x8x4x8x1024.size a)
theorem k0_off106_inb : ∀ (v3581 : BitVec 32) (k0_hw53 : k0_chk53 v3581), ∀ a, (k0_off106 v3581) a + S1x8x1x8x1024.size a ≤ S4x8x4x8x1024.size a := fun v3581 k0_hw53 => k0_hw53

def k0_off107 (i : grid0.Coords) : Fin 3 → Nat :=
  let arg0 : BitVec 32 := BitVec.ofNat 32 (i 0).val
  let v3619 : Index := Scalar.indexCast arg0
  let c1_1580 : Index := 1#32
  let c13_1581 : Index := 13#32
  ![v3619.toNat, 1, 13]
def k0_off108 (v3620 : BitVec 32) : Fin 5 → Nat :=
  let c0_i32_1583 : BitVec 32 := 0#32
  let v3622 : BitVec 1 := Scalar.cmpi .sgt v3620 c0_i32_1583
  let v3623 : BitVec 32 := Scalar.extui v3622
  let c0_i32_1584 : BitVec 32 := 0#32
  let v3624 : BitVec 1 := Scalar.cmpi .slt v3620 c0_i32_1584
  let v3625 : BitVec 32 := Scalar.extui v3624
  let v3626 : BitVec 32 := Scalar.subi v3623 v3625
  let c4_i32_1582 : BitVec 32 := 4#32
  let c0_i32_1585 : BitVec 32 := 0#32
  let v3627 : BitVec 1 := Scalar.cmpi .sgt c4_i32_1582 c0_i32_1585
  let v3628 : BitVec 32 := Scalar.extui v3627
  let c0_i32_1586 : BitVec 32 := 0#32
  let v3629 : BitVec 1 := Scalar.cmpi .slt c4_i32_1582 c0_i32_1586
  let v3630 : BitVec 32 := Scalar.extui v3629
  let v3631 : BitVec 32 := Scalar.subi v3628 v3630
  let v3632 : BitVec 1 := Scalar.cmpi .ne v3626 v3631
  let v3633 : BitVec 32 := Scalar.remsi v3620 c4_i32_1582
  let c0_i32_1587 : BitVec 32 := 0#32
  let v3634 : BitVec 1 := Scalar.cmpi .ne v3633 c0_i32_1587
  let v3635 : BitVec 1 := Scalar.andi v3632 v3634
  let v3621 : BitVec 32 := Scalar.divsi v3620 c4_i32_1582
  let c1_i32_1588 : BitVec 32 := 1#32
  let v3636 : BitVec 32 := Scalar.subi v3621 c1_i32_1588
  let v3637 : BitVec 32 := Scalar.select v3635 v3636 v3621
  let v3648 : Index := Scalar.indexCast v3637
  let c0_1595 : Index := 0#32
  let c4_i32_1589 : BitVec 32 := 4#32
  let c0_i32_1590 : BitVec 32 := 0#32
  let v3638 : BitVec 1 := Scalar.cmpi .eq c4_i32_1589 c0_i32_1590
  let c1_i32_1591 : BitVec 32 := 1#32
  let v3639 : BitVec 32 := Scalar.select v3638 c1_i32_1591 c4_i32_1589
  let v3640 : BitVec 32 := Scalar.remsi v3620 v3639
  let c0_i32_1593 : BitVec 32 := 0#32
  let v3642 : BitVec 1 := Scalar.cmpi .slt v3640 c0_i32_1593
  let c0_i32_1594 : BitVec 32 := 0#32
  let v3643 : BitVec 1 := Scalar.cmpi .slt v3639 c0_i32_1594
  let v3644 : BitVec 1 := Scalar.xori v3642 v3643
  let c0_i32_1592 : BitVec 32 := 0#32
  let v3641 : BitVec 1 := Scalar.cmpi .ne v3640 c0_i32_1592
  let v3645 : BitVec 1 := Scalar.andi v3644 v3641
  let v3646 : BitVec 32 := Scalar.addi v3640 v3639
  let v3647 : BitVec 32 := Scalar.select v3645 v3646 v3640
  let v3649 : Index := Scalar.indexCast v3647
  let c0_1596 : Index := 0#32
  let c0_1597 : Index := 0#32
  ![v3648.toNat, 0, v3649.toNat, 0, 0]

def k0_chk54 (v3620 : BitVec 32) : Prop :=
  (∀ a, (k0_off108 v3620) a + S1x8x1x8x1024.size a ≤ S4x8x4x8x1024.size a)
theorem k0_off108_inb : ∀ (v3620 : BitVec 32) (k0_hw54 : k0_chk54 v3620), ∀ a, (k0_off108 v3620) a + S1x8x1x8x1024.size a ≤ S4x8x4x8x1024.size a := fun v3620 k0_hw54 => k0_hw54

def k0_off109 (i : grid0.Coords) : Fin 3 → Nat :=
  let arg0 : BitVec 32 := BitVec.ofNat 32 (i 0).val
  let v3658 : Index := Scalar.indexCast arg0
  let c2_1601 : Index := 2#32
  let c13_1602 : Index := 13#32
  ![v3658.toNat, 2, 13]
def k0_off110 (v3659 : BitVec 32) : Fin 5 → Nat :=
  let c0_i32_1604 : BitVec 32 := 0#32
  let v3661 : BitVec 1 := Scalar.cmpi .sgt v3659 c0_i32_1604
  let v3662 : BitVec 32 := Scalar.extui v3661
  let c0_i32_1605 : BitVec 32 := 0#32
  let v3663 : BitVec 1 := Scalar.cmpi .slt v3659 c0_i32_1605
  let v3664 : BitVec 32 := Scalar.extui v3663
  let v3665 : BitVec 32 := Scalar.subi v3662 v3664
  let c4_i32_1603 : BitVec 32 := 4#32
  let c0_i32_1606 : BitVec 32 := 0#32
  let v3666 : BitVec 1 := Scalar.cmpi .sgt c4_i32_1603 c0_i32_1606
  let v3667 : BitVec 32 := Scalar.extui v3666
  let c0_i32_1607 : BitVec 32 := 0#32
  let v3668 : BitVec 1 := Scalar.cmpi .slt c4_i32_1603 c0_i32_1607
  let v3669 : BitVec 32 := Scalar.extui v3668
  let v3670 : BitVec 32 := Scalar.subi v3667 v3669
  let v3671 : BitVec 1 := Scalar.cmpi .ne v3665 v3670
  let v3672 : BitVec 32 := Scalar.remsi v3659 c4_i32_1603
  let c0_i32_1608 : BitVec 32 := 0#32
  let v3673 : BitVec 1 := Scalar.cmpi .ne v3672 c0_i32_1608
  let v3674 : BitVec 1 := Scalar.andi v3671 v3673
  let v3660 : BitVec 32 := Scalar.divsi v3659 c4_i32_1603
  let c1_i32_1609 : BitVec 32 := 1#32
  let v3675 : BitVec 32 := Scalar.subi v3660 c1_i32_1609
  let v3676 : BitVec 32 := Scalar.select v3674 v3675 v3660
  let v3687 : Index := Scalar.indexCast v3676
  let c0_1616 : Index := 0#32
  let c4_i32_1610 : BitVec 32 := 4#32
  let c0_i32_1611 : BitVec 32 := 0#32
  let v3677 : BitVec 1 := Scalar.cmpi .eq c4_i32_1610 c0_i32_1611
  let c1_i32_1612 : BitVec 32 := 1#32
  let v3678 : BitVec 32 := Scalar.select v3677 c1_i32_1612 c4_i32_1610
  let v3679 : BitVec 32 := Scalar.remsi v3659 v3678
  let c0_i32_1614 : BitVec 32 := 0#32
  let v3681 : BitVec 1 := Scalar.cmpi .slt v3679 c0_i32_1614
  let c0_i32_1615 : BitVec 32 := 0#32
  let v3682 : BitVec 1 := Scalar.cmpi .slt v3678 c0_i32_1615
  let v3683 : BitVec 1 := Scalar.xori v3681 v3682
  let c0_i32_1613 : BitVec 32 := 0#32
  let v3680 : BitVec 1 := Scalar.cmpi .ne v3679 c0_i32_1613
  let v3684 : BitVec 1 := Scalar.andi v3683 v3680
  let v3685 : BitVec 32 := Scalar.addi v3679 v3678
  let v3686 : BitVec 32 := Scalar.select v3684 v3685 v3679
  let v3688 : Index := Scalar.indexCast v3686
  let c0_1617 : Index := 0#32
  let c0_1618 : Index := 0#32
  ![v3687.toNat, 0, v3688.toNat, 0, 0]

def k0_chk55 (v3659 : BitVec 32) : Prop :=
  (∀ a, (k0_off110 v3659) a + S1x8x1x8x1024.size a ≤ S4x8x4x8x1024.size a)
theorem k0_off110_inb : ∀ (v3659 : BitVec 32) (k0_hw55 : k0_chk55 v3659), ∀ a, (k0_off110 v3659) a + S1x8x1x8x1024.size a ≤ S4x8x4x8x1024.size a := fun v3659 k0_hw55 => k0_hw55

def k0_off111 (i : grid0.Coords) : Fin 3 → Nat :=
  let arg0 : BitVec 32 := BitVec.ofNat 32 (i 0).val
  let v3697 : Index := Scalar.indexCast arg0
  let c3_1622 : Index := 3#32
  let c13_1623 : Index := 13#32
  ![v3697.toNat, 3, 13]
def k0_off112 (v3698 : BitVec 32) : Fin 5 → Nat :=
  let c0_i32_1625 : BitVec 32 := 0#32
  let v3700 : BitVec 1 := Scalar.cmpi .sgt v3698 c0_i32_1625
  let v3701 : BitVec 32 := Scalar.extui v3700
  let c0_i32_1626 : BitVec 32 := 0#32
  let v3702 : BitVec 1 := Scalar.cmpi .slt v3698 c0_i32_1626
  let v3703 : BitVec 32 := Scalar.extui v3702
  let v3704 : BitVec 32 := Scalar.subi v3701 v3703
  let c4_i32_1624 : BitVec 32 := 4#32
  let c0_i32_1627 : BitVec 32 := 0#32
  let v3705 : BitVec 1 := Scalar.cmpi .sgt c4_i32_1624 c0_i32_1627
  let v3706 : BitVec 32 := Scalar.extui v3705
  let c0_i32_1628 : BitVec 32 := 0#32
  let v3707 : BitVec 1 := Scalar.cmpi .slt c4_i32_1624 c0_i32_1628
  let v3708 : BitVec 32 := Scalar.extui v3707
  let v3709 : BitVec 32 := Scalar.subi v3706 v3708
  let v3710 : BitVec 1 := Scalar.cmpi .ne v3704 v3709
  let v3711 : BitVec 32 := Scalar.remsi v3698 c4_i32_1624
  let c0_i32_1629 : BitVec 32 := 0#32
  let v3712 : BitVec 1 := Scalar.cmpi .ne v3711 c0_i32_1629
  let v3713 : BitVec 1 := Scalar.andi v3710 v3712
  let v3699 : BitVec 32 := Scalar.divsi v3698 c4_i32_1624
  let c1_i32_1630 : BitVec 32 := 1#32
  let v3714 : BitVec 32 := Scalar.subi v3699 c1_i32_1630
  let v3715 : BitVec 32 := Scalar.select v3713 v3714 v3699
  let v3726 : Index := Scalar.indexCast v3715
  let c0_1637 : Index := 0#32
  let c4_i32_1631 : BitVec 32 := 4#32
  let c0_i32_1632 : BitVec 32 := 0#32
  let v3716 : BitVec 1 := Scalar.cmpi .eq c4_i32_1631 c0_i32_1632
  let c1_i32_1633 : BitVec 32 := 1#32
  let v3717 : BitVec 32 := Scalar.select v3716 c1_i32_1633 c4_i32_1631
  let v3718 : BitVec 32 := Scalar.remsi v3698 v3717
  let c0_i32_1635 : BitVec 32 := 0#32
  let v3720 : BitVec 1 := Scalar.cmpi .slt v3718 c0_i32_1635
  let c0_i32_1636 : BitVec 32 := 0#32
  let v3721 : BitVec 1 := Scalar.cmpi .slt v3717 c0_i32_1636
  let v3722 : BitVec 1 := Scalar.xori v3720 v3721
  let c0_i32_1634 : BitVec 32 := 0#32
  let v3719 : BitVec 1 := Scalar.cmpi .ne v3718 c0_i32_1634
  let v3723 : BitVec 1 := Scalar.andi v3722 v3719
  let v3724 : BitVec 32 := Scalar.addi v3718 v3717
  let v3725 : BitVec 32 := Scalar.select v3723 v3724 v3718
  let v3727 : Index := Scalar.indexCast v3725
  let c0_1638 : Index := 0#32
  let c0_1639 : Index := 0#32
  ![v3726.toNat, 0, v3727.toNat, 0, 0]

def k0_chk56 (v3698 : BitVec 32) : Prop :=
  (∀ a, (k0_off112 v3698) a + S1x8x1x8x1024.size a ≤ S4x8x4x8x1024.size a)
theorem k0_off112_inb : ∀ (v3698 : BitVec 32) (k0_hw56 : k0_chk56 v3698), ∀ a, (k0_off112 v3698) a + S1x8x1x8x1024.size a ≤ S4x8x4x8x1024.size a := fun v3698 k0_hw56 => k0_hw56

def k0_off113 (i : grid0.Coords) : Fin 3 → Nat :=
  let arg0 : BitVec 32 := BitVec.ofNat 32 (i 0).val
  let v3741 : Index := Scalar.indexCast arg0
  let c0_1643 : Index := 0#32
  let c14_1644 : Index := 14#32
  ![v3741.toNat, 0, 14]
def k0_off114 (v3742 : BitVec 32) : Fin 5 → Nat :=
  let c0_i32_1646 : BitVec 32 := 0#32
  let v3744 : BitVec 1 := Scalar.cmpi .sgt v3742 c0_i32_1646
  let v3745 : BitVec 32 := Scalar.extui v3744
  let c0_i32_1647 : BitVec 32 := 0#32
  let v3746 : BitVec 1 := Scalar.cmpi .slt v3742 c0_i32_1647
  let v3747 : BitVec 32 := Scalar.extui v3746
  let v3748 : BitVec 32 := Scalar.subi v3745 v3747
  let c4_i32_1645 : BitVec 32 := 4#32
  let c0_i32_1648 : BitVec 32 := 0#32
  let v3749 : BitVec 1 := Scalar.cmpi .sgt c4_i32_1645 c0_i32_1648
  let v3750 : BitVec 32 := Scalar.extui v3749
  let c0_i32_1649 : BitVec 32 := 0#32
  let v3751 : BitVec 1 := Scalar.cmpi .slt c4_i32_1645 c0_i32_1649
  let v3752 : BitVec 32 := Scalar.extui v3751
  let v3753 : BitVec 32 := Scalar.subi v3750 v3752
  let v3754 : BitVec 1 := Scalar.cmpi .ne v3748 v3753
  let v3755 : BitVec 32 := Scalar.remsi v3742 c4_i32_1645
  let c0_i32_1650 : BitVec 32 := 0#32
  let v3756 : BitVec 1 := Scalar.cmpi .ne v3755 c0_i32_1650
  let v3757 : BitVec 1 := Scalar.andi v3754 v3756
  let v3743 : BitVec 32 := Scalar.divsi v3742 c4_i32_1645
  let c1_i32_1651 : BitVec 32 := 1#32
  let v3758 : BitVec 32 := Scalar.subi v3743 c1_i32_1651
  let v3759 : BitVec 32 := Scalar.select v3757 v3758 v3743
  let v3770 : Index := Scalar.indexCast v3759
  let c0_1658 : Index := 0#32
  let c4_i32_1652 : BitVec 32 := 4#32
  let c0_i32_1653 : BitVec 32 := 0#32
  let v3760 : BitVec 1 := Scalar.cmpi .eq c4_i32_1652 c0_i32_1653
  let c1_i32_1654 : BitVec 32 := 1#32
  let v3761 : BitVec 32 := Scalar.select v3760 c1_i32_1654 c4_i32_1652
  let v3762 : BitVec 32 := Scalar.remsi v3742 v3761
  let c0_i32_1656 : BitVec 32 := 0#32
  let v3764 : BitVec 1 := Scalar.cmpi .slt v3762 c0_i32_1656
  let c0_i32_1657 : BitVec 32 := 0#32
  let v3765 : BitVec 1 := Scalar.cmpi .slt v3761 c0_i32_1657
  let v3766 : BitVec 1 := Scalar.xori v3764 v3765
  let c0_i32_1655 : BitVec 32 := 0#32
  let v3763 : BitVec 1 := Scalar.cmpi .ne v3762 c0_i32_1655
  let v3767 : BitVec 1 := Scalar.andi v3766 v3763
  let v3768 : BitVec 32 := Scalar.addi v3762 v3761
  let v3769 : BitVec 32 := Scalar.select v3767 v3768 v3762
  let v3771 : Index := Scalar.indexCast v3769
  let c0_1659 : Index := 0#32
  let c0_1660 : Index := 0#32
  ![v3770.toNat, 0, v3771.toNat, 0, 0]

def k0_chk57 (v3742 : BitVec 32) : Prop :=
  (∀ a, (k0_off114 v3742) a + S1x8x1x8x1024.size a ≤ S4x8x4x8x1024.size a)
theorem k0_off114_inb : ∀ (v3742 : BitVec 32) (k0_hw57 : k0_chk57 v3742), ∀ a, (k0_off114 v3742) a + S1x8x1x8x1024.size a ≤ S4x8x4x8x1024.size a := fun v3742 k0_hw57 => k0_hw57

def k0_off115 (i : grid0.Coords) : Fin 3 → Nat :=
  let arg0 : BitVec 32 := BitVec.ofNat 32 (i 0).val
  let v3780 : Index := Scalar.indexCast arg0
  let c1_1664 : Index := 1#32
  let c14_1665 : Index := 14#32
  ![v3780.toNat, 1, 14]
def k0_off116 (v3781 : BitVec 32) : Fin 5 → Nat :=
  let c0_i32_1667 : BitVec 32 := 0#32
  let v3783 : BitVec 1 := Scalar.cmpi .sgt v3781 c0_i32_1667
  let v3784 : BitVec 32 := Scalar.extui v3783
  let c0_i32_1668 : BitVec 32 := 0#32
  let v3785 : BitVec 1 := Scalar.cmpi .slt v3781 c0_i32_1668
  let v3786 : BitVec 32 := Scalar.extui v3785
  let v3787 : BitVec 32 := Scalar.subi v3784 v3786
  let c4_i32_1666 : BitVec 32 := 4#32
  let c0_i32_1669 : BitVec 32 := 0#32
  let v3788 : BitVec 1 := Scalar.cmpi .sgt c4_i32_1666 c0_i32_1669
  let v3789 : BitVec 32 := Scalar.extui v3788
  let c0_i32_1670 : BitVec 32 := 0#32
  let v3790 : BitVec 1 := Scalar.cmpi .slt c4_i32_1666 c0_i32_1670
  let v3791 : BitVec 32 := Scalar.extui v3790
  let v3792 : BitVec 32 := Scalar.subi v3789 v3791
  let v3793 : BitVec 1 := Scalar.cmpi .ne v3787 v3792
  let v3794 : BitVec 32 := Scalar.remsi v3781 c4_i32_1666
  let c0_i32_1671 : BitVec 32 := 0#32
  let v3795 : BitVec 1 := Scalar.cmpi .ne v3794 c0_i32_1671
  let v3796 : BitVec 1 := Scalar.andi v3793 v3795
  let v3782 : BitVec 32 := Scalar.divsi v3781 c4_i32_1666
  let c1_i32_1672 : BitVec 32 := 1#32
  let v3797 : BitVec 32 := Scalar.subi v3782 c1_i32_1672
  let v3798 : BitVec 32 := Scalar.select v3796 v3797 v3782
  let v3809 : Index := Scalar.indexCast v3798
  let c0_1679 : Index := 0#32
  let c4_i32_1673 : BitVec 32 := 4#32
  let c0_i32_1674 : BitVec 32 := 0#32
  let v3799 : BitVec 1 := Scalar.cmpi .eq c4_i32_1673 c0_i32_1674
  let c1_i32_1675 : BitVec 32 := 1#32
  let v3800 : BitVec 32 := Scalar.select v3799 c1_i32_1675 c4_i32_1673
  let v3801 : BitVec 32 := Scalar.remsi v3781 v3800
  let c0_i32_1677 : BitVec 32 := 0#32
  let v3803 : BitVec 1 := Scalar.cmpi .slt v3801 c0_i32_1677
  let c0_i32_1678 : BitVec 32 := 0#32
  let v3804 : BitVec 1 := Scalar.cmpi .slt v3800 c0_i32_1678
  let v3805 : BitVec 1 := Scalar.xori v3803 v3804
  let c0_i32_1676 : BitVec 32 := 0#32
  let v3802 : BitVec 1 := Scalar.cmpi .ne v3801 c0_i32_1676
  let v3806 : BitVec 1 := Scalar.andi v3805 v3802
  let v3807 : BitVec 32 := Scalar.addi v3801 v3800
  let v3808 : BitVec 32 := Scalar.select v3806 v3807 v3801
  let v3810 : Index := Scalar.indexCast v3808
  let c0_1680 : Index := 0#32
  let c0_1681 : Index := 0#32
  ![v3809.toNat, 0, v3810.toNat, 0, 0]

def k0_chk58 (v3781 : BitVec 32) : Prop :=
  (∀ a, (k0_off116 v3781) a + S1x8x1x8x1024.size a ≤ S4x8x4x8x1024.size a)
theorem k0_off116_inb : ∀ (v3781 : BitVec 32) (k0_hw58 : k0_chk58 v3781), ∀ a, (k0_off116 v3781) a + S1x8x1x8x1024.size a ≤ S4x8x4x8x1024.size a := fun v3781 k0_hw58 => k0_hw58

def k0_off117 (i : grid0.Coords) : Fin 3 → Nat :=
  let arg0 : BitVec 32 := BitVec.ofNat 32 (i 0).val
  let v3819 : Index := Scalar.indexCast arg0
  let c2_1685 : Index := 2#32
  let c14_1686 : Index := 14#32
  ![v3819.toNat, 2, 14]
def k0_off118 (v3820 : BitVec 32) : Fin 5 → Nat :=
  let c0_i32_1688 : BitVec 32 := 0#32
  let v3822 : BitVec 1 := Scalar.cmpi .sgt v3820 c0_i32_1688
  let v3823 : BitVec 32 := Scalar.extui v3822
  let c0_i32_1689 : BitVec 32 := 0#32
  let v3824 : BitVec 1 := Scalar.cmpi .slt v3820 c0_i32_1689
  let v3825 : BitVec 32 := Scalar.extui v3824
  let v3826 : BitVec 32 := Scalar.subi v3823 v3825
  let c4_i32_1687 : BitVec 32 := 4#32
  let c0_i32_1690 : BitVec 32 := 0#32
  let v3827 : BitVec 1 := Scalar.cmpi .sgt c4_i32_1687 c0_i32_1690
  let v3828 : BitVec 32 := Scalar.extui v3827
  let c0_i32_1691 : BitVec 32 := 0#32
  let v3829 : BitVec 1 := Scalar.cmpi .slt c4_i32_1687 c0_i32_1691
  let v3830 : BitVec 32 := Scalar.extui v3829
  let v3831 : BitVec 32 := Scalar.subi v3828 v3830
  let v3832 : BitVec 1 := Scalar.cmpi .ne v3826 v3831
  let v3833 : BitVec 32 := Scalar.remsi v3820 c4_i32_1687
  let c0_i32_1692 : BitVec 32 := 0#32
  let v3834 : BitVec 1 := Scalar.cmpi .ne v3833 c0_i32_1692
  let v3835 : BitVec 1 := Scalar.andi v3832 v3834
  let v3821 : BitVec 32 := Scalar.divsi v3820 c4_i32_1687
  let c1_i32_1693 : BitVec 32 := 1#32
  let v3836 : BitVec 32 := Scalar.subi v3821 c1_i32_1693
  let v3837 : BitVec 32 := Scalar.select v3835 v3836 v3821
  let v3848 : Index := Scalar.indexCast v3837
  let c0_1700 : Index := 0#32
  let c4_i32_1694 : BitVec 32 := 4#32
  let c0_i32_1695 : BitVec 32 := 0#32
  let v3838 : BitVec 1 := Scalar.cmpi .eq c4_i32_1694 c0_i32_1695
  let c1_i32_1696 : BitVec 32 := 1#32
  let v3839 : BitVec 32 := Scalar.select v3838 c1_i32_1696 c4_i32_1694
  let v3840 : BitVec 32 := Scalar.remsi v3820 v3839
  let c0_i32_1698 : BitVec 32 := 0#32
  let v3842 : BitVec 1 := Scalar.cmpi .slt v3840 c0_i32_1698
  let c0_i32_1699 : BitVec 32 := 0#32
  let v3843 : BitVec 1 := Scalar.cmpi .slt v3839 c0_i32_1699
  let v3844 : BitVec 1 := Scalar.xori v3842 v3843
  let c0_i32_1697 : BitVec 32 := 0#32
  let v3841 : BitVec 1 := Scalar.cmpi .ne v3840 c0_i32_1697
  let v3845 : BitVec 1 := Scalar.andi v3844 v3841
  let v3846 : BitVec 32 := Scalar.addi v3840 v3839
  let v3847 : BitVec 32 := Scalar.select v3845 v3846 v3840
  let v3849 : Index := Scalar.indexCast v3847
  let c0_1701 : Index := 0#32
  let c0_1702 : Index := 0#32
  ![v3848.toNat, 0, v3849.toNat, 0, 0]

def k0_chk59 (v3820 : BitVec 32) : Prop :=
  (∀ a, (k0_off118 v3820) a + S1x8x1x8x1024.size a ≤ S4x8x4x8x1024.size a)
theorem k0_off118_inb : ∀ (v3820 : BitVec 32) (k0_hw59 : k0_chk59 v3820), ∀ a, (k0_off118 v3820) a + S1x8x1x8x1024.size a ≤ S4x8x4x8x1024.size a := fun v3820 k0_hw59 => k0_hw59

def k0_off119 (i : grid0.Coords) : Fin 3 → Nat :=
  let arg0 : BitVec 32 := BitVec.ofNat 32 (i 0).val
  let v3858 : Index := Scalar.indexCast arg0
  let c3_1706 : Index := 3#32
  let c14_1707 : Index := 14#32
  ![v3858.toNat, 3, 14]
def k0_off120 (v3859 : BitVec 32) : Fin 5 → Nat :=
  let c0_i32_1709 : BitVec 32 := 0#32
  let v3861 : BitVec 1 := Scalar.cmpi .sgt v3859 c0_i32_1709
  let v3862 : BitVec 32 := Scalar.extui v3861
  let c0_i32_1710 : BitVec 32 := 0#32
  let v3863 : BitVec 1 := Scalar.cmpi .slt v3859 c0_i32_1710
  let v3864 : BitVec 32 := Scalar.extui v3863
  let v3865 : BitVec 32 := Scalar.subi v3862 v3864
  let c4_i32_1708 : BitVec 32 := 4#32
  let c0_i32_1711 : BitVec 32 := 0#32
  let v3866 : BitVec 1 := Scalar.cmpi .sgt c4_i32_1708 c0_i32_1711
  let v3867 : BitVec 32 := Scalar.extui v3866
  let c0_i32_1712 : BitVec 32 := 0#32
  let v3868 : BitVec 1 := Scalar.cmpi .slt c4_i32_1708 c0_i32_1712
  let v3869 : BitVec 32 := Scalar.extui v3868
  let v3870 : BitVec 32 := Scalar.subi v3867 v3869
  let v3871 : BitVec 1 := Scalar.cmpi .ne v3865 v3870
  let v3872 : BitVec 32 := Scalar.remsi v3859 c4_i32_1708
  let c0_i32_1713 : BitVec 32 := 0#32
  let v3873 : BitVec 1 := Scalar.cmpi .ne v3872 c0_i32_1713
  let v3874 : BitVec 1 := Scalar.andi v3871 v3873
  let v3860 : BitVec 32 := Scalar.divsi v3859 c4_i32_1708
  let c1_i32_1714 : BitVec 32 := 1#32
  let v3875 : BitVec 32 := Scalar.subi v3860 c1_i32_1714
  let v3876 : BitVec 32 := Scalar.select v3874 v3875 v3860
  let v3887 : Index := Scalar.indexCast v3876
  let c0_1721 : Index := 0#32
  let c4_i32_1715 : BitVec 32 := 4#32
  let c0_i32_1716 : BitVec 32 := 0#32
  let v3877 : BitVec 1 := Scalar.cmpi .eq c4_i32_1715 c0_i32_1716
  let c1_i32_1717 : BitVec 32 := 1#32
  let v3878 : BitVec 32 := Scalar.select v3877 c1_i32_1717 c4_i32_1715
  let v3879 : BitVec 32 := Scalar.remsi v3859 v3878
  let c0_i32_1719 : BitVec 32 := 0#32
  let v3881 : BitVec 1 := Scalar.cmpi .slt v3879 c0_i32_1719
  let c0_i32_1720 : BitVec 32 := 0#32
  let v3882 : BitVec 1 := Scalar.cmpi .slt v3878 c0_i32_1720
  let v3883 : BitVec 1 := Scalar.xori v3881 v3882
  let c0_i32_1718 : BitVec 32 := 0#32
  let v3880 : BitVec 1 := Scalar.cmpi .ne v3879 c0_i32_1718
  let v3884 : BitVec 1 := Scalar.andi v3883 v3880
  let v3885 : BitVec 32 := Scalar.addi v3879 v3878
  let v3886 : BitVec 32 := Scalar.select v3884 v3885 v3879
  let v3888 : Index := Scalar.indexCast v3886
  let c0_1722 : Index := 0#32
  let c0_1723 : Index := 0#32
  ![v3887.toNat, 0, v3888.toNat, 0, 0]

def k0_chk60 (v3859 : BitVec 32) : Prop :=
  (∀ a, (k0_off120 v3859) a + S1x8x1x8x1024.size a ≤ S4x8x4x8x1024.size a)
theorem k0_off120_inb : ∀ (v3859 : BitVec 32) (k0_hw60 : k0_chk60 v3859), ∀ a, (k0_off120 v3859) a + S1x8x1x8x1024.size a ≤ S4x8x4x8x1024.size a := fun v3859 k0_hw60 => k0_hw60

def k0_off121 (i : grid0.Coords) : Fin 3 → Nat :=
  let arg0 : BitVec 32 := BitVec.ofNat 32 (i 0).val
  let v3902 : Index := Scalar.indexCast arg0
  let c0_1727 : Index := 0#32
  let c15_1728 : Index := 15#32
  ![v3902.toNat, 0, 15]
def k0_off122 (v3903 : BitVec 32) : Fin 5 → Nat :=
  let c0_i32_1730 : BitVec 32 := 0#32
  let v3905 : BitVec 1 := Scalar.cmpi .sgt v3903 c0_i32_1730
  let v3906 : BitVec 32 := Scalar.extui v3905
  let c0_i32_1731 : BitVec 32 := 0#32
  let v3907 : BitVec 1 := Scalar.cmpi .slt v3903 c0_i32_1731
  let v3908 : BitVec 32 := Scalar.extui v3907
  let v3909 : BitVec 32 := Scalar.subi v3906 v3908
  let c4_i32_1729 : BitVec 32 := 4#32
  let c0_i32_1732 : BitVec 32 := 0#32
  let v3910 : BitVec 1 := Scalar.cmpi .sgt c4_i32_1729 c0_i32_1732
  let v3911 : BitVec 32 := Scalar.extui v3910
  let c0_i32_1733 : BitVec 32 := 0#32
  let v3912 : BitVec 1 := Scalar.cmpi .slt c4_i32_1729 c0_i32_1733
  let v3913 : BitVec 32 := Scalar.extui v3912
  let v3914 : BitVec 32 := Scalar.subi v3911 v3913
  let v3915 : BitVec 1 := Scalar.cmpi .ne v3909 v3914
  let v3916 : BitVec 32 := Scalar.remsi v3903 c4_i32_1729
  let c0_i32_1734 : BitVec 32 := 0#32
  let v3917 : BitVec 1 := Scalar.cmpi .ne v3916 c0_i32_1734
  let v3918 : BitVec 1 := Scalar.andi v3915 v3917
  let v3904 : BitVec 32 := Scalar.divsi v3903 c4_i32_1729
  let c1_i32_1735 : BitVec 32 := 1#32
  let v3919 : BitVec 32 := Scalar.subi v3904 c1_i32_1735
  let v3920 : BitVec 32 := Scalar.select v3918 v3919 v3904
  let v3931 : Index := Scalar.indexCast v3920
  let c0_1742 : Index := 0#32
  let c4_i32_1736 : BitVec 32 := 4#32
  let c0_i32_1737 : BitVec 32 := 0#32
  let v3921 : BitVec 1 := Scalar.cmpi .eq c4_i32_1736 c0_i32_1737
  let c1_i32_1738 : BitVec 32 := 1#32
  let v3922 : BitVec 32 := Scalar.select v3921 c1_i32_1738 c4_i32_1736
  let v3923 : BitVec 32 := Scalar.remsi v3903 v3922
  let c0_i32_1740 : BitVec 32 := 0#32
  let v3925 : BitVec 1 := Scalar.cmpi .slt v3923 c0_i32_1740
  let c0_i32_1741 : BitVec 32 := 0#32
  let v3926 : BitVec 1 := Scalar.cmpi .slt v3922 c0_i32_1741
  let v3927 : BitVec 1 := Scalar.xori v3925 v3926
  let c0_i32_1739 : BitVec 32 := 0#32
  let v3924 : BitVec 1 := Scalar.cmpi .ne v3923 c0_i32_1739
  let v3928 : BitVec 1 := Scalar.andi v3927 v3924
  let v3929 : BitVec 32 := Scalar.addi v3923 v3922
  let v3930 : BitVec 32 := Scalar.select v3928 v3929 v3923
  let v3932 : Index := Scalar.indexCast v3930
  let c0_1743 : Index := 0#32
  let c0_1744 : Index := 0#32
  ![v3931.toNat, 0, v3932.toNat, 0, 0]

def k0_chk61 (v3903 : BitVec 32) : Prop :=
  (∀ a, (k0_off122 v3903) a + S1x8x1x8x1024.size a ≤ S4x8x4x8x1024.size a)
theorem k0_off122_inb : ∀ (v3903 : BitVec 32) (k0_hw61 : k0_chk61 v3903), ∀ a, (k0_off122 v3903) a + S1x8x1x8x1024.size a ≤ S4x8x4x8x1024.size a := fun v3903 k0_hw61 => k0_hw61

def k0_off123 (i : grid0.Coords) : Fin 3 → Nat :=
  let arg0 : BitVec 32 := BitVec.ofNat 32 (i 0).val
  let v3941 : Index := Scalar.indexCast arg0
  let c1_1748 : Index := 1#32
  let c15_1749 : Index := 15#32
  ![v3941.toNat, 1, 15]
def k0_off124 (v3942 : BitVec 32) : Fin 5 → Nat :=
  let c0_i32_1751 : BitVec 32 := 0#32
  let v3944 : BitVec 1 := Scalar.cmpi .sgt v3942 c0_i32_1751
  let v3945 : BitVec 32 := Scalar.extui v3944
  let c0_i32_1752 : BitVec 32 := 0#32
  let v3946 : BitVec 1 := Scalar.cmpi .slt v3942 c0_i32_1752
  let v3947 : BitVec 32 := Scalar.extui v3946
  let v3948 : BitVec 32 := Scalar.subi v3945 v3947
  let c4_i32_1750 : BitVec 32 := 4#32
  let c0_i32_1753 : BitVec 32 := 0#32
  let v3949 : BitVec 1 := Scalar.cmpi .sgt c4_i32_1750 c0_i32_1753
  let v3950 : BitVec 32 := Scalar.extui v3949
  let c0_i32_1754 : BitVec 32 := 0#32
  let v3951 : BitVec 1 := Scalar.cmpi .slt c4_i32_1750 c0_i32_1754
  let v3952 : BitVec 32 := Scalar.extui v3951
  let v3953 : BitVec 32 := Scalar.subi v3950 v3952
  let v3954 : BitVec 1 := Scalar.cmpi .ne v3948 v3953
  let v3955 : BitVec 32 := Scalar.remsi v3942 c4_i32_1750
  let c0_i32_1755 : BitVec 32 := 0#32
  let v3956 : BitVec 1 := Scalar.cmpi .ne v3955 c0_i32_1755
  let v3957 : BitVec 1 := Scalar.andi v3954 v3956
  let v3943 : BitVec 32 := Scalar.divsi v3942 c4_i32_1750
  let c1_i32_1756 : BitVec 32 := 1#32
  let v3958 : BitVec 32 := Scalar.subi v3943 c1_i32_1756
  let v3959 : BitVec 32 := Scalar.select v3957 v3958 v3943
  let v3970 : Index := Scalar.indexCast v3959
  let c0_1763 : Index := 0#32
  let c4_i32_1757 : BitVec 32 := 4#32
  let c0_i32_1758 : BitVec 32 := 0#32
  let v3960 : BitVec 1 := Scalar.cmpi .eq c4_i32_1757 c0_i32_1758
  let c1_i32_1759 : BitVec 32 := 1#32
  let v3961 : BitVec 32 := Scalar.select v3960 c1_i32_1759 c4_i32_1757
  let v3962 : BitVec 32 := Scalar.remsi v3942 v3961
  let c0_i32_1761 : BitVec 32 := 0#32
  let v3964 : BitVec 1 := Scalar.cmpi .slt v3962 c0_i32_1761
  let c0_i32_1762 : BitVec 32 := 0#32
  let v3965 : BitVec 1 := Scalar.cmpi .slt v3961 c0_i32_1762
  let v3966 : BitVec 1 := Scalar.xori v3964 v3965
  let c0_i32_1760 : BitVec 32 := 0#32
  let v3963 : BitVec 1 := Scalar.cmpi .ne v3962 c0_i32_1760
  let v3967 : BitVec 1 := Scalar.andi v3966 v3963
  let v3968 : BitVec 32 := Scalar.addi v3962 v3961
  let v3969 : BitVec 32 := Scalar.select v3967 v3968 v3962
  let v3971 : Index := Scalar.indexCast v3969
  let c0_1764 : Index := 0#32
  let c0_1765 : Index := 0#32
  ![v3970.toNat, 0, v3971.toNat, 0, 0]

def k0_chk62 (v3942 : BitVec 32) : Prop :=
  (∀ a, (k0_off124 v3942) a + S1x8x1x8x1024.size a ≤ S4x8x4x8x1024.size a)
theorem k0_off124_inb : ∀ (v3942 : BitVec 32) (k0_hw62 : k0_chk62 v3942), ∀ a, (k0_off124 v3942) a + S1x8x1x8x1024.size a ≤ S4x8x4x8x1024.size a := fun v3942 k0_hw62 => k0_hw62

def k0_off125 (i : grid0.Coords) : Fin 3 → Nat :=
  let arg0 : BitVec 32 := BitVec.ofNat 32 (i 0).val
  let v3980 : Index := Scalar.indexCast arg0
  let c2_1769 : Index := 2#32
  let c15_1770 : Index := 15#32
  ![v3980.toNat, 2, 15]
def k0_off126 (v3981 : BitVec 32) : Fin 5 → Nat :=
  let c0_i32_1772 : BitVec 32 := 0#32
  let v3983 : BitVec 1 := Scalar.cmpi .sgt v3981 c0_i32_1772
  let v3984 : BitVec 32 := Scalar.extui v3983
  let c0_i32_1773 : BitVec 32 := 0#32
  let v3985 : BitVec 1 := Scalar.cmpi .slt v3981 c0_i32_1773
  let v3986 : BitVec 32 := Scalar.extui v3985
  let v3987 : BitVec 32 := Scalar.subi v3984 v3986
  let c4_i32_1771 : BitVec 32 := 4#32
  let c0_i32_1774 : BitVec 32 := 0#32
  let v3988 : BitVec 1 := Scalar.cmpi .sgt c4_i32_1771 c0_i32_1774
  let v3989 : BitVec 32 := Scalar.extui v3988
  let c0_i32_1775 : BitVec 32 := 0#32
  let v3990 : BitVec 1 := Scalar.cmpi .slt c4_i32_1771 c0_i32_1775
  let v3991 : BitVec 32 := Scalar.extui v3990
  let v3992 : BitVec 32 := Scalar.subi v3989 v3991
  let v3993 : BitVec 1 := Scalar.cmpi .ne v3987 v3992
  let v3994 : BitVec 32 := Scalar.remsi v3981 c4_i32_1771
  let c0_i32_1776 : BitVec 32 := 0#32
  let v3995 : BitVec 1 := Scalar.cmpi .ne v3994 c0_i32_1776
  let v3996 : BitVec 1 := Scalar.andi v3993 v3995
  let v3982 : BitVec 32 := Scalar.divsi v3981 c4_i32_1771
  let c1_i32_1777 : BitVec 32 := 1#32
  let v3997 : BitVec 32 := Scalar.subi v3982 c1_i32_1777
  let v3998 : BitVec 32 := Scalar.select v3996 v3997 v3982
  let v4009 : Index := Scalar.indexCast v3998
  let c0_1784 : Index := 0#32
  let c4_i32_1778 : BitVec 32 := 4#32
  let c0_i32_1779 : BitVec 32 := 0#32
  let v3999 : BitVec 1 := Scalar.cmpi .eq c4_i32_1778 c0_i32_1779
  let c1_i32_1780 : BitVec 32 := 1#32
  let v4000 : BitVec 32 := Scalar.select v3999 c1_i32_1780 c4_i32_1778
  let v4001 : BitVec 32 := Scalar.remsi v3981 v4000
  let c0_i32_1782 : BitVec 32 := 0#32
  let v4003 : BitVec 1 := Scalar.cmpi .slt v4001 c0_i32_1782
  let c0_i32_1783 : BitVec 32 := 0#32
  let v4004 : BitVec 1 := Scalar.cmpi .slt v4000 c0_i32_1783
  let v4005 : BitVec 1 := Scalar.xori v4003 v4004
  let c0_i32_1781 : BitVec 32 := 0#32
  let v4002 : BitVec 1 := Scalar.cmpi .ne v4001 c0_i32_1781
  let v4006 : BitVec 1 := Scalar.andi v4005 v4002
  let v4007 : BitVec 32 := Scalar.addi v4001 v4000
  let v4008 : BitVec 32 := Scalar.select v4006 v4007 v4001
  let v4010 : Index := Scalar.indexCast v4008
  let c0_1785 : Index := 0#32
  let c0_1786 : Index := 0#32
  ![v4009.toNat, 0, v4010.toNat, 0, 0]

def k0_chk63 (v3981 : BitVec 32) : Prop :=
  (∀ a, (k0_off126 v3981) a + S1x8x1x8x1024.size a ≤ S4x8x4x8x1024.size a)
theorem k0_off126_inb : ∀ (v3981 : BitVec 32) (k0_hw63 : k0_chk63 v3981), ∀ a, (k0_off126 v3981) a + S1x8x1x8x1024.size a ≤ S4x8x4x8x1024.size a := fun v3981 k0_hw63 => k0_hw63

def k0_off127 (i : grid0.Coords) : Fin 3 → Nat :=
  let arg0 : BitVec 32 := BitVec.ofNat 32 (i 0).val
  let v4019 : Index := Scalar.indexCast arg0
  let c3_1790 : Index := 3#32
  let c15_1791 : Index := 15#32
  ![v4019.toNat, 3, 15]
def k0_off128 (v4020 : BitVec 32) : Fin 5 → Nat :=
  let c0_i32_1793 : BitVec 32 := 0#32
  let v4022 : BitVec 1 := Scalar.cmpi .sgt v4020 c0_i32_1793
  let v4023 : BitVec 32 := Scalar.extui v4022
  let c0_i32_1794 : BitVec 32 := 0#32
  let v4024 : BitVec 1 := Scalar.cmpi .slt v4020 c0_i32_1794
  let v4025 : BitVec 32 := Scalar.extui v4024
  let v4026 : BitVec 32 := Scalar.subi v4023 v4025
  let c4_i32_1792 : BitVec 32 := 4#32
  let c0_i32_1795 : BitVec 32 := 0#32
  let v4027 : BitVec 1 := Scalar.cmpi .sgt c4_i32_1792 c0_i32_1795
  let v4028 : BitVec 32 := Scalar.extui v4027
  let c0_i32_1796 : BitVec 32 := 0#32
  let v4029 : BitVec 1 := Scalar.cmpi .slt c4_i32_1792 c0_i32_1796
  let v4030 : BitVec 32 := Scalar.extui v4029
  let v4031 : BitVec 32 := Scalar.subi v4028 v4030
  let v4032 : BitVec 1 := Scalar.cmpi .ne v4026 v4031
  let v4033 : BitVec 32 := Scalar.remsi v4020 c4_i32_1792
  let c0_i32_1797 : BitVec 32 := 0#32
  let v4034 : BitVec 1 := Scalar.cmpi .ne v4033 c0_i32_1797
  let v4035 : BitVec 1 := Scalar.andi v4032 v4034
  let v4021 : BitVec 32 := Scalar.divsi v4020 c4_i32_1792
  let c1_i32_1798 : BitVec 32 := 1#32
  let v4036 : BitVec 32 := Scalar.subi v4021 c1_i32_1798
  let v4037 : BitVec 32 := Scalar.select v4035 v4036 v4021
  let v4048 : Index := Scalar.indexCast v4037
  let c0_1805 : Index := 0#32
  let c4_i32_1799 : BitVec 32 := 4#32
  let c0_i32_1800 : BitVec 32 := 0#32
  let v4038 : BitVec 1 := Scalar.cmpi .eq c4_i32_1799 c0_i32_1800
  let c1_i32_1801 : BitVec 32 := 1#32
  let v4039 : BitVec 32 := Scalar.select v4038 c1_i32_1801 c4_i32_1799
  let v4040 : BitVec 32 := Scalar.remsi v4020 v4039
  let c0_i32_1803 : BitVec 32 := 0#32
  let v4042 : BitVec 1 := Scalar.cmpi .slt v4040 c0_i32_1803
  let c0_i32_1804 : BitVec 32 := 0#32
  let v4043 : BitVec 1 := Scalar.cmpi .slt v4039 c0_i32_1804
  let v4044 : BitVec 1 := Scalar.xori v4042 v4043
  let c0_i32_1802 : BitVec 32 := 0#32
  let v4041 : BitVec 1 := Scalar.cmpi .ne v4040 c0_i32_1802
  let v4045 : BitVec 1 := Scalar.andi v4044 v4041
  let v4046 : BitVec 32 := Scalar.addi v4040 v4039
  let v4047 : BitVec 32 := Scalar.select v4045 v4046 v4040
  let v4049 : Index := Scalar.indexCast v4047
  let c0_1806 : Index := 0#32
  let c0_1807 : Index := 0#32
  ![v4048.toNat, 0, v4049.toNat, 0, 0]

def k0_chk64 (v4020 : BitVec 32) : Prop :=
  (∀ a, (k0_off128 v4020) a + S1x8x1x8x1024.size a ≤ S4x8x4x8x1024.size a)
theorem k0_off128_inb : ∀ (v4020 : BitVec 32) (k0_hw64 : k0_chk64 v4020), ∀ a, (k0_off128 v4020) a + S1x8x1x8x1024.size a ≤ S4x8x4x8x1024.size a := fun v4020 k0_hw64 => k0_hw64

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S25x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1024x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "scale" => some (((Real.sqrt 96)⁻¹ : ℝ) : EReal)
  | _ => none
-- ==== ReferenceIdeal.lean ====
abbrev S16x8x16 : Shape := ⟨3, ![16, 8, 16]⟩
abbrev S16x1024x768 : Shape := ⟨3, ![16, 1024, 768]⟩
abbrev S768x2304 : Shape := ⟨2, ![768, 2304]⟩
abbrev S2304 : Shape := ⟨1, ![2304]⟩
abbrev S768x768 : Shape := ⟨2, ![768, 768]⟩
abbrev S768 : Shape := ⟨1, ![768]⟩
abbrev S768x1x5x5 : Shape := ⟨4, ![768, 1, 5, 5]⟩
abbrev S_ : Shape := ⟨0, ![]⟩
abbrev S16x32x32x768 : Shape := ⟨4, ![16, 32, 32, 768]⟩
abbrev S16x4x8x4x8x768 : Shape := ⟨6, ![16, 4, 8, 4, 8, 768]⟩
abbrev S16x4x4x8x8x768 : Shape := ⟨6, ![16, 4, 4, 8, 8, 768]⟩
abbrev S16x16x64x768 : Shape := ⟨4, ![16, 16, 64, 768]⟩
abbrev S16x16x64x2304 : Shape := ⟨4, ![16, 16, 64, 2304]⟩
abbrev S1x1x1x2304 : Shape := ⟨4, ![1, 1, 1, 2304]⟩
abbrev S16x4x16 : Shape := ⟨3, ![16, 4, 16]⟩
abbrev S16x16x4 : Shape := ⟨3, ![16, 16, 4]⟩
abbrev S16x16x4x1 : Shape := ⟨4, ![16, 16, 4, 1]⟩
abbrev S16x16x4x64x768 : Shape := ⟨5, ![16, 16, 4, 64, 768]⟩
abbrev S16x16x256x768 : Shape := ⟨4, ![16, 16, 256, 768]⟩
abbrev S16x16x64x8x96 : Shape := ⟨5, ![16, 16, 64, 8, 96]⟩
abbrev S16x16x8x64x96 : Shape := ⟨5, ![16, 16, 8, 64, 96]⟩
abbrev S16x16x256x8x96 : Shape := ⟨5, ![16, 16, 256, 8, 96]⟩
abbrev S16x16x8x256x96 : Shape := ⟨5, ![16, 16, 8, 256, 96]⟩
abbrev S16x16x8x64x256 : Shape := ⟨5, ![16, 16, 8, 64, 256]⟩
abbrev S16x16x8x64 : Shape := ⟨4, ![16, 16, 8, 64]⟩
abbrev S16x16x8x64x1 : Shape := ⟨5, ![16, 16, 8, 64, 1]⟩
abbrev S16x36x36x768 : Shape := ⟨4, ![16, 36, 36, 768]⟩
abbrev S768x1x1x1 : Shape := ⟨4, ![768, 1, 1, 1]⟩
abbrev S1x1x1x768 : Shape := ⟨4, ![1, 1, 1, 768]⟩

abbrev nBuf : Space → Nat
  | .hbm => 264
  | .vmem => 0
  | .smem => 0
  | _ => 0

abbrev hbmTy0_0 (i : Nat) : BufTy := match i % 128 with
  | 0 => ⟨S16x8x16, .i32⟩
  | 1 => ⟨S16x1024x768, .f32⟩
  | 2 => ⟨S768x2304, .f32⟩
  | 3 => ⟨S2304, .f32⟩
  | 4 => ⟨S768x768, .f32⟩
  | 5 => ⟨S768, .f32⟩
  | 6 => ⟨S768x1x5x5, .f32⟩
  | 7 => ⟨S768, .f32⟩
  | 8 => ⟨S_, .f32⟩
  | 9 => ⟨S_, .f32⟩
  | 10 => ⟨S16x32x32x768, .f32⟩
  | 11 => ⟨S16x4x8x4x8x768, .f32⟩
  | 12 => ⟨S16x4x4x8x8x768, .f32⟩
  | 13 => ⟨S16x16x64x768, .f32⟩
  | 14 => ⟨S16x16x64x2304, .f32⟩
  | 15 => ⟨S1x1x1x2304, .f32⟩
  | 16 => ⟨S16x16x64x2304, .f32⟩
  | 17 => ⟨S16x16x64x2304, .f32⟩
  | 18 => ⟨S16x16x64x768, .f32⟩
  | 19 => ⟨S16x16x64x768, .f32⟩
  | 20 => ⟨S16x16x64x768, .f32⟩
  | 21 => ⟨S16x4x16, .i32⟩
  | 22 => ⟨S16x16x4, .i32⟩
  | 23 => ⟨S_, .i32⟩
  | 24 => ⟨S16x16x4, .i32⟩
  | 25 => ⟨S16x16x4, .i1⟩
  | 26 => ⟨S_, .i32⟩
  | 27 => ⟨S16x16x4, .i32⟩
  | 28 => ⟨S16x16x4, .i32⟩
  | 29 => ⟨S16x16x4, .i32⟩
  | 30 => ⟨S16x16x4x1, .i32⟩
  | 31 => ⟨S16x16x4x64x768, .f32⟩
  | 32 => ⟨S16x16x256x768, .f32⟩
  | 33 => ⟨S_, .i32⟩
  | 34 => ⟨S16x16x4, .i32⟩
  | 35 => ⟨S16x16x4, .i1⟩
  | 36 => ⟨S_, .i32⟩
  | 37 => ⟨S16x16x4, .i32⟩
  | 38 => ⟨S16x16x4, .i32⟩
  | 39 => ⟨S16x16x4, .i32⟩
  | 40 => ⟨S16x16x4x1, .i32⟩
  | 41 => ⟨S16x16x4x64x768, .f32⟩
  | 42 => ⟨S16x16x256x768, .f32⟩
  | 43 => ⟨S16x16x64x8x96, .f32⟩
  | 44 => ⟨S16x16x8x64x96, .f32⟩
  | 45 => ⟨S16x16x256x8x96, .f32⟩
  | 46 => ⟨S16x16x8x256x96, .f32⟩
  | 47 => ⟨S16x16x256x8x96, .f32⟩
  | 48 => ⟨S16x16x8x256x96, .f32⟩
  | 49 => ⟨S16x16x8x64x96, .f32⟩
  | 50 => ⟨S16x16x8x64x96, .f32⟩
  | 51 => ⟨S16x16x8x64x256, .f32⟩
  | 52 => ⟨S_, .f32⟩
  | 53 => ⟨S16x16x8x64, .f32⟩
  | 54 => ⟨S_, .f32⟩
  | 55 => ⟨S16x16x8x64, .f32⟩
  | 56 => ⟨S16x16x8x64, .f32⟩
  | 57 => ⟨S16x16x8x64x1, .f32⟩
  | 58 => ⟨S16x16x8x64x256, .f32⟩
  | 59 => ⟨S16x16x8x64x256, .f32⟩
  | 60 => ⟨S16x16x8x64x256, .f32⟩
  | 61 => ⟨S_, .f32⟩
  | 62 => ⟨S16x16x8x64, .f32⟩
  | 63 => ⟨S16x16x8x64x1, .f32⟩
  | 64 => ⟨S16x16x8x64x256, .f32⟩
  | 65 => ⟨S16x16x8x64x256, .f32⟩
  | 66 => ⟨S16x16x8x64x96, .f32⟩
  | 67 => ⟨S16x16x64x8x96, .f32⟩
  | 68 => ⟨S16x16x64x768, .f32⟩
  | 69 => ⟨S16x4x4x8x8x768, .f32⟩
  | 70 => ⟨S16x4x8x4x8x768, .f32⟩
  | 71 => ⟨S16x32x32x768, .f32⟩
  | 72 => ⟨S_, .i32⟩
  | 73 => ⟨S_, .f32⟩
  | 74 => ⟨S16x36x36x768, .f32⟩
  | 75 => ⟨S16x32x32x768, .f32⟩
  | 76 => ⟨S768x1x1x1, .f32⟩
  | 77 => ⟨S768, .f32⟩
  | 78 => ⟨S1x1x1x768, .f32⟩
  | 79 => ⟨S16x32x32x768, .f32⟩
  | 80 => ⟨S16x32x32x768, .f32⟩
  | 81 => ⟨S16x32x32x768, .f32⟩
  | 82 => ⟨S768x1x1x1, .f32⟩
  | 83 => ⟨S768, .f32⟩
  | 84 => ⟨S1x1x1x768, .f32⟩
  | 85 => ⟨S16x32x32x768, .f32⟩
  | 86 => ⟨S16x32x32x768, .f32⟩
  | 87 => ⟨S16x32x32x768, .f32⟩
  | 88 => ⟨S16x32x32x768, .f32⟩
  | 89 => ⟨S768x1x1x1, .f32⟩
  | 90 => ⟨S768, .f32⟩
  | 91 => ⟨S1x1x1x768, .f32⟩
  | 92 => ⟨S16x32x32x768, .f32⟩
  | 93 => ⟨S16x32x32x768, .f32⟩
  | 94 => ⟨S16x32x32x768, .f32⟩
  | 95 => ⟨S16x32x32x768, .f32⟩
  | 96 => ⟨S768x1x1x1, .f32⟩
  | 97 => ⟨S768, .f32⟩
  | 98 => ⟨S1x1x1x768, .f32⟩
  | 99 => ⟨S16x32x32x768, .f32⟩
  | 100 => ⟨S16x32x32x768, .f32⟩
  | 101 => ⟨S16x32x32x768, .f32⟩
  | 102 => ⟨S16x32x32x768, .f32⟩
  | 103 => ⟨S768x1x1x1, .f32⟩
  | 104 => ⟨S768, .f32⟩
  | 105 => ⟨S1x1x1x768, .f32⟩
  | 106 => ⟨S16x32x32x768, .f32⟩
  | 107 => ⟨S16x32x32x768, .f32⟩
  | 108 => ⟨S16x32x32x768, .f32⟩
  | 109 => ⟨S16x32x32x768, .f32⟩
  | 110 => ⟨S768x1x1x1, .f32⟩
  | 111 => ⟨S768, .f32⟩
  | 112 => ⟨S1x1x1x768, .f32⟩
  | 113 => ⟨S16x32x32x768, .f32⟩
  | 114 => ⟨S16x32x32x768, .f32⟩
  | 115 => ⟨S16x32x32x768, .f32⟩
  | 116 => ⟨S16x32x32x768, .f32⟩
  | 117 => ⟨S768x1x1x1, .f32⟩
  | 118 => ⟨S768, .f32⟩
  | 119 => ⟨S1x1x1x768, .f32⟩
  | 120 => ⟨S16x32x32x768, .f32⟩
  | 121 => ⟨S16x32x32x768, .f32⟩
  | 122 => ⟨S16x32x32x768, .f32⟩
  | 123 => ⟨S16x32x32x768, .f32⟩
  | 124 => ⟨S768x1x1x1, .f32⟩
  | 125 => ⟨S768, .f32⟩
  | 126 => ⟨S1x1x1x768, .f32⟩
  | 127 => ⟨S16x32x32x768, .f32⟩
  | _ => ⟨S16x8x16, .i32⟩

abbrev hbmTy0_1 (i : Nat) : BufTy := match i % 128 with
  | 0 => ⟨S16x32x32x768, .f32⟩
  | 1 => ⟨S16x32x32x768, .f32⟩
  | 2 => ⟨S16x32x32x768, .f32⟩
  | 3 => ⟨S768x1x1x1, .f32⟩
  | 4 => ⟨S768, .f32⟩
  | 5 => ⟨S1x1x1x768, .f32⟩
  | 6 => ⟨S16x32x32x768, .f32⟩
  | 7 => ⟨S16x32x32x768, .f32⟩
  | 8 => ⟨S16x32x32x768, .f32⟩
  | 9 => ⟨S16x32x32x768, .f32⟩
  | 10 => ⟨S768x1x1x1, .f32⟩
  | 11 => ⟨S768, .f32⟩
  | 12 => ⟨S1x1x1x768, .f32⟩
  | 13 => ⟨S16x32x32x768, .f32⟩
  | 14 => ⟨S16x32x32x768, .f32⟩
  | 15 => ⟨S16x32x32x768, .f32⟩
  | 16 => ⟨S16x32x32x768, .f32⟩
  | 17 => ⟨S768x1x1x1, .f32⟩
  | 18 => ⟨S768, .f32⟩
  | 19 => ⟨S1x1x1x768, .f32⟩
  | 20 => ⟨S16x32x32x768, .f32⟩
  | 21 => ⟨S16x32x32x768, .f32⟩
  | 22 => ⟨S16x32x32x768, .f32⟩
  | 23 => ⟨S16x32x32x768, .f32⟩
  | 24 => ⟨S768x1x1x1, .f32⟩
  | 25 => ⟨S768, .f32⟩
  | 26 => ⟨S1x1x1x768, .f32⟩
  | 27 => ⟨S16x32x32x768, .f32⟩
  | 28 => ⟨S16x32x32x768, .f32⟩
  | 29 => ⟨S16x32x32x768, .f32⟩
  | 30 => ⟨S16x32x32x768, .f32⟩
  | 31 => ⟨S768x1x1x1, .f32⟩
  | 32 => ⟨S768, .f32⟩
  | 33 => ⟨S1x1x1x768, .f32⟩
  | 34 => ⟨S16x32x32x768, .f32⟩
  | 35 => ⟨S16x32x32x768, .f32⟩
  | 36 => ⟨S16x32x32x768, .f32⟩
  | 37 => ⟨S16x32x32x768, .f32⟩
  | 38 => ⟨S768x1x1x1, .f32⟩
  | 39 => ⟨S768, .f32⟩
  | 40 => ⟨S1x1x1x768, .f32⟩
  | 41 => ⟨S16x32x32x768, .f32⟩
  | 42 => ⟨S16x32x32x768, .f32⟩
  | 43 => ⟨S16x32x32x768, .f32⟩
  | 44 => ⟨S16x32x32x768, .f32⟩
  | 45 => ⟨S768x1x1x1, .f32⟩
  | 46 => ⟨S768, .f32⟩
  | 47 => ⟨S1x1x1x768, .f32⟩
  | 48 => ⟨S16x32x32x768, .f32⟩
  | 49 => ⟨S16x32x32x768, .f32⟩
  | 50 => ⟨S16x32x32x768, .f32⟩
  | 51 => ⟨S16x32x32x768, .f32⟩
  | 52 => ⟨S768x1x1x1, .f32⟩
  | 53 => ⟨S768, .f32⟩
  | 54 => ⟨S1x1x1x768, .f32⟩
  | 55 => ⟨S16x32x32x768, .f32⟩
  | 56 => ⟨S16x32x32x768, .f32⟩
  | 57 => ⟨S16x32x32x768, .f32⟩
  | 58 => ⟨S16x32x32x768, .f32⟩
  | 59 => ⟨S768x1x1x1, .f32⟩
  | 60 => ⟨S768, .f32⟩
  | 61 => ⟨S1x1x1x768, .f32⟩
  | 62 => ⟨S16x32x32x768, .f32⟩
  | 63 => ⟨S16x32x32x768, .f32⟩
  | 64 => ⟨S16x32x32x768, .f32⟩
  | 65 => ⟨S16x32x32x768, .f32⟩
  | 66 => ⟨S768x1x1x1, .f32⟩
  | 67 => ⟨S768, .f32⟩
  | 68 => ⟨S1x1x1x768, .f32⟩
  | 69 => ⟨S16x32x32x768, .f32⟩
  | 70 => ⟨S16x32x32x768, .f32⟩
  | 71 => ⟨S16x32x32x768, .f32⟩
  | 72 => ⟨S16x32x32x768, .f32⟩
  | 73 => ⟨S768x1x1x1, .f32⟩
  | 74 => ⟨S768, .f32⟩
  | 75 => ⟨S1x1x1x768, .f32⟩
  | 76 => ⟨S16x32x32x768, .f32⟩
  | 77 => ⟨S16x32x32x768, .f32⟩
  | 78 => ⟨S16x32x32x768, .f32⟩
  | 79 => ⟨S16x32x32x768, .f32⟩
  | 80 => ⟨S768x1x1x1, .f32⟩
  | 81 => ⟨S768, .f32⟩
  | 82 => ⟨S1x1x1x768, .f32⟩
  | 83 => ⟨S16x32x32x768, .f32⟩
  | 84 => ⟨S16x32x32x768, .f32⟩
  | 85 => ⟨S16x32x32x768, .f32⟩
  | 86 => ⟨S16x32x32x768, .f32⟩
  | 87 => ⟨S768x1x1x1, .f32⟩
  | 88 => ⟨S768, .f32⟩
  | 89 => ⟨S1x1x1x768, .f32⟩
  | 90 => ⟨S16x32x32x768, .f32⟩
  | 91 => ⟨S16x32x32x768, .f32⟩
  | 92 => ⟨S16x32x32x768, .f32⟩
  | 93 => ⟨S16x32x32x768, .f32⟩
  | 94 => ⟨S768x1x1x1, .f32⟩
  | 95 => ⟨S768, .f32⟩
  | 96 => ⟨S1x1x1x768, .f32⟩
  | 97 => ⟨S16x32x32x768, .f32⟩
  | 98 => ⟨S16x32x32x768, .f32⟩
  | 99 => ⟨S16x32x32x768, .f32⟩
  | 100 => ⟨S16x32x32x768, .f32⟩
  | 101 => ⟨S768x1x1x1, .f32⟩
  | 102 => ⟨S768, .f32⟩
  | 103 => ⟨S1x1x1x768, .f32⟩
  | 104 => ⟨S16x32x32x768, .f32⟩
  | 105 => ⟨S16x32x32x768, .f32⟩
  | 106 => ⟨S16x32x32x768, .f32⟩
  | 107 => ⟨S16x32x32x768, .f32⟩
  | 108 => ⟨S768x1x1x1, .f32⟩
  | 109 => ⟨S768, .f32⟩
  | 110 => ⟨S1x1x1x768, .f32⟩
  | 111 => ⟨S16x32x32x768, .f32⟩
  | 112 => ⟨S16x32x32x768, .f32⟩
  | 113 => ⟨S16x32x32x768, .f32⟩
  | 114 => ⟨S16x32x32x768, .f32⟩
  | 115 => ⟨S768x1x1x1, .f32⟩
  | 116 => ⟨S768, .f32⟩
  | 117 => ⟨S1x1x1x768, .f32⟩
  | 118 => ⟨S16x32x32x768, .f32⟩
  | 119 => ⟨S16x32x32x768, .f32⟩
  | 120 => ⟨S16x32x32x768, .f32⟩
  | 121 => ⟨S1x1x1x768, .f32⟩
  | 122 => ⟨S16x32x32x768, .f32⟩
  | 123 => ⟨S16x32x32x768, .f32⟩
  | 124 => ⟨S16x4x8x4x8x768, .f32⟩
  | 125 => ⟨S16x4x4x8x8x768, .f32⟩
  | 126 => ⟨S16x16x64x768, .f32⟩
  | 127 => ⟨S16x16x64x768, .f32⟩
  | _ => ⟨S16x8x16, .i32⟩

abbrev hbmTy0_2 (i : Nat) : BufTy := match i % 128 with
  | 0 => ⟨S16x16x64x768, .f32⟩
  | 1 => ⟨S1x1x1x768, .f32⟩
  | 2 => ⟨S16x16x64x768, .f32⟩
  | 3 => ⟨S16x16x64x768, .f32⟩
  | 4 => ⟨S16x4x4x8x8x768, .f32⟩
  | 5 => ⟨S16x4x8x4x8x768, .f32⟩
  | 6 => ⟨S16x32x32x768, .f32⟩
  | 7 => ⟨S16x1024x768, .f32⟩
  | _ => ⟨S16x8x16, .i32⟩

abbrev hbmTy (i : Nat) : BufTy := match i / 128 with
  | 0 => hbmTy0_0 i
  | 1 => hbmTy0_1 i
  | 2 => hbmTy0_2 i
  | _ => ⟨S16x8x16, .i32⟩

abbrev bufTy : (tb : Table) → Fin (tcTables nBuf tb) → BufTy
  | .hbm, ⟨i, _⟩ => hbmTy i
  | _, _ => ⟨S16x8x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_1 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_3 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_c_6 : Ref sig .tc := ⟨.hbm, 72, rfl⟩
abbrev main_call0_v0 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_v184 : Ref sig .tc := ⟨.hbm, 202, rfl⟩
abbrev main_v185 : Ref sig .tc := ⟨.hbm, 203, rfl⟩
abbrev main_v186 : Ref sig .tc := ⟨.hbm, 204, rfl⟩
abbrev main_v187 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩
abbrev main_v193 : Ref sig .tc := ⟨.hbm, 211, rfl⟩
abbrev main_v194 : Ref sig .tc := ⟨.hbm, 212, rfl⟩
abbrev main_v195 : Ref sig .tc := ⟨.hbm, 213, rfl⟩
abbrev main_v196 : Ref sig .tc := ⟨.hbm, 214, rfl⟩
abbrev main_v197 : Ref sig .tc := ⟨.hbm, 215, rfl⟩
abbrev main_v198 : Ref sig .tc := ⟨.hbm, 216, rfl⟩
abbrev main_v199 : Ref sig .tc := ⟨.hbm, 217, rfl⟩
abbrev main_v200 : Ref sig .tc := ⟨.hbm, 218, rfl⟩
abbrev main_v201 : Ref sig .tc := ⟨.hbm, 219, rfl⟩
abbrev main_v202 : Ref sig .tc := ⟨.hbm, 220, rfl⟩
abbrev main_v203 : Ref sig .tc := ⟨.hbm, 221, rfl⟩
abbrev main_v204 : Ref sig .tc := ⟨.hbm, 222, rfl⟩
abbrev main_v205 : Ref sig .tc := ⟨.hbm, 223, rfl⟩
abbrev main_v206 : Ref sig .tc := ⟨.hbm, 224, rfl⟩
abbrev main_v207 : Ref sig .tc := ⟨.hbm, 225, rfl⟩
abbrev main_v208 : Ref sig .tc := ⟨.hbm, 226, rfl⟩
abbrev main_v209 : Ref sig .tc := ⟨.hbm, 227, rfl⟩
abbrev main_v210 : Ref sig .tc := ⟨.hbm, 228, rfl⟩
abbrev main_v211 : Ref sig .tc := ⟨.hbm, 229, rfl⟩
abbrev main_v212 : Ref sig .tc := ⟨.hbm, 230, rfl⟩
abbrev main_v213 : Ref sig .tc := ⟨.hbm, 231, rfl⟩
abbrev main_v214 : Ref sig .tc := ⟨.hbm, 232, rfl⟩
abbrev main_v215 : Ref sig .tc := ⟨.hbm, 233, rfl⟩
abbrev main_v216 : Ref sig .tc := ⟨.hbm, 234, rfl⟩
abbrev main_v217 : Ref sig .tc := ⟨.hbm, 235, rfl⟩
abbrev main_v218 : Ref sig .tc := ⟨.hbm, 236, rfl⟩
abbrev main_v219 : Ref sig .tc := ⟨.hbm, 237, rfl⟩
abbrev main_v220 : Ref sig .tc := ⟨.hbm, 238, rfl⟩
abbrev main_v221 : Ref sig .tc := ⟨.hbm, 239, rfl⟩
abbrev main_v222 : Ref sig .tc := ⟨.hbm, 240, rfl⟩
abbrev main_v223 : Ref sig .tc := ⟨.hbm, 241, rfl⟩
abbrev main_v224 : Ref sig .tc := ⟨.hbm, 242, rfl⟩
abbrev main_v225 : Ref sig .tc := ⟨.hbm, 243, rfl⟩
abbrev main_v226 : Ref sig .tc := ⟨.hbm, 244, rfl⟩
abbrev main_v227 : Ref sig .tc := ⟨.hbm, 245, rfl⟩
abbrev main_v228 : Ref sig .tc := ⟨.hbm, 246, rfl⟩
abbrev main_v229 : Ref sig .tc := ⟨.hbm, 247, rfl⟩
abbrev main_v230 : Ref sig .tc := ⟨.hbm, 248, rfl⟩
abbrev main_v231 : Ref sig .tc := ⟨.hbm, 249, rfl⟩
abbrev main_v232 : Ref sig .tc := ⟨.hbm, 250, rfl⟩
abbrev main_v233 : Ref sig .tc := ⟨.hbm, 251, rfl⟩
abbrev main_v234 : Ref sig .tc := ⟨.hbm, 252, rfl⟩
abbrev main_v235 : Ref sig .tc := ⟨.hbm, 253, rfl⟩
abbrev main_v236 : Ref sig .tc := ⟨.hbm, 254, rfl⟩
abbrev main_v237 : Ref sig .tc := ⟨.hbm, 255, rfl⟩
abbrev main_v238 : Ref sig .tc := ⟨.hbm, 256, rfl⟩
abbrev main_v239 : Ref sig .tc := ⟨.hbm, 257, rfl⟩
abbrev main_v240 : Ref sig .tc := ⟨.hbm, 258, rfl⟩
abbrev main_v241 : Ref sig .tc := ⟨.hbm, 259, rfl⟩
abbrev main_v242 : Ref sig .tc := ⟨.hbm, 260, rfl⟩
abbrev main_v243 : Ref sig .tc := ⟨.hbm, 261, rfl⟩
abbrev main_v244 : Ref sig .tc := ⟨.hbm, 262, rfl⟩
abbrev main_v245 : Ref sig .tc := ⟨.hbm, 263, rfl⟩

abbrev nD : Nat := 1
abbrev τ : Topo := Topo.v7x

variable {F : FTy → Type} [FloatOps F]
-- ==== Route.lean ====
abbrev S16x1024x768 : Shape := ⟨3, ![16, 1024, 768]⟩
abbrev S768x2304 : Shape := ⟨2, ![768, 2304]⟩
abbrev S2304 : Shape := ⟨1, ![2304]⟩
abbrev S768x1536 : Shape := ⟨2, ![768, 1536]⟩
abbrev S1536 : Shape := ⟨1, ![1536]⟩
abbrev S1x1536 : Shape := ⟨2, ![1, 1536]⟩
abbrev S16x8x16 : Shape := ⟨3, ![16, 8, 16]⟩
abbrev S1x1024x768 : Shape := ⟨3, ![1, 1024, 768]⟩
abbrev S1x8x16 : Shape := ⟨3, ![1, 8, 16]⟩
abbrev S1024x768 : Shape := ⟨2, ![1024, 768]⟩
abbrev S16x1024 : Shape := ⟨2, ![16, 1024]⟩
abbrev S16x768 : Shape := ⟨2, ![16, 768]⟩
abbrev S16x1536 : Shape := ⟨2, ![16, 1536]⟩
abbrev S16x16 : Shape := ⟨2, ![16, 16]⟩
abbrev S16 : Shape := ⟨1, ![16]⟩
abbrev S16x1 : Shape := ⟨2, ![16, 1]⟩
abbrev S1x16 : Shape := ⟨2, ![1, 16]⟩
abbrev S4x16 : Shape := ⟨2, ![4, 16]⟩
abbrev S8x16 : Shape := ⟨2, ![8, 16]⟩

abbrev nBuf : Space → Nat
  | .hbm => 9
  | .vmem => 6
  | .smem => 0
  | _ => 0

abbrev bufTy : (tb : Table) → Fin (tcTables nBuf tb) → BufTy
  | .hbm, ⟨0, _⟩ => ⟨S16x1024x768, .f32⟩
  | .hbm, ⟨1, _⟩ => ⟨S768x2304, .f32⟩
  | .hbm, ⟨2, _⟩ => ⟨S2304, .f32⟩
  | .hbm, ⟨3, _⟩ => ⟨S768x1536, .f32⟩
  | .hbm, ⟨4, _⟩ => ⟨S768x1536, .bf16⟩
  | .hbm, ⟨5, _⟩ => ⟨S768x1536, .f32⟩
  | .hbm, ⟨6, _⟩ => ⟨S1536, .f32⟩
  | .hbm, ⟨7, _⟩ => ⟨S1x1536, .f32⟩
  | .hbm, ⟨8, _⟩ => ⟨S16x8x16, .i32⟩
  | .local _ .vmem, ⟨0, _⟩ => ⟨S1x1024x768, .f32⟩
  | .local _ .vmem, ⟨1, _⟩ => ⟨S1x1024x768, .f32⟩
  | .local _ .vmem, ⟨2, _⟩ => ⟨S768x1536, .f32⟩
  | .local _ .vmem, ⟨3, _⟩ => ⟨S1x1536, .f32⟩
  | .local _ .vmem, ⟨4, _⟩ => ⟨S1x8x16, .i32⟩
  | .local _ .vmem, ⟨5, _⟩ => ⟨S1x8x16, .i32⟩
  | _, _ => ⟨S16x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8x16 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RouteIdeal.lean ====
variable {F : FTy → Type} [FloatOps F] [Named F]
def κ : String → Option EReal := fun
  | "mask" => some ⊥
  | _ => none
-- ==== RouteReferenceIdeal.lean ====
abbrev S16x1024x768 : Shape := ⟨3, ![16, 1024, 768]⟩
abbrev S768x2304 : Shape := ⟨2, ![768, 2304]⟩
abbrev S2304 : Shape := ⟨1, ![2304]⟩
abbrev S16x4x8x4x8x768 : Shape := ⟨6, ![16, 4, 8, 4, 8, 768]⟩
abbrev S16x4x4x8x8x768 : Shape := ⟨6, ![16, 4, 4, 8, 8, 768]⟩
abbrev S16x16x64x768 : Shape := ⟨4, ![16, 16, 64, 768]⟩
abbrev S16x16x64x2304 : Shape := ⟨4, ![16, 16, 64, 2304]⟩
abbrev S1x1x1x2304 : Shape := ⟨4, ![1, 1, 1, 2304]⟩
abbrev S_ : Shape := ⟨0, ![]⟩
abbrev S16x16x768 : Shape := ⟨3, ![16, 16, 768]⟩
abbrev S16x16x16 : Shape := ⟨3, ![16, 16, 16]⟩
abbrev S16x16x4 : Shape := ⟨3, ![16, 16, 4]⟩
abbrev S16x4x16 : Shape := ⟨3, ![16, 4, 16]⟩
abbrev S16x8x16 : Shape := ⟨3, ![16, 8, 16]⟩

abbrev nBuf : Space → Nat
  | .hbm => 30
  | .vmem => 0
  | .smem => 0
  | _ => 0

abbrev bufTy : (tb : Table) → Fin (tcTables nBuf tb) → BufTy
  | .hbm, ⟨0, _⟩ => ⟨S16x1024x768, .f32⟩
  | .hbm, ⟨1, _⟩ => ⟨S768x2304, .f32⟩
  | .hbm, ⟨2, _⟩ => ⟨S2304, .f32⟩
  | .hbm, ⟨3, _⟩ => ⟨S16x4x8x4x8x768, .f32⟩
  | .hbm, ⟨4, _⟩ => ⟨S16x4x4x8x8x768, .f32⟩
  | .hbm, ⟨5, _⟩ => ⟨S16x16x64x768, .f32⟩
  | .hbm, ⟨6, _⟩ => ⟨S16x16x64x2304, .f32⟩
  | .hbm, ⟨7, _⟩ => ⟨S1x1x1x2304, .f32⟩
  | .hbm, ⟨8, _⟩ => ⟨S16x16x64x2304, .f32⟩
  | .hbm, ⟨9, _⟩ => ⟨S16x16x64x2304, .f32⟩
  | .hbm, ⟨10, _⟩ => ⟨S16x16x64x768, .f32⟩
  | .hbm, ⟨11, _⟩ => ⟨S16x16x64x768, .f32⟩
  | .hbm, ⟨12, _⟩ => ⟨S16x16x64x768, .f32⟩
  | .hbm, ⟨13, _⟩ => ⟨S_, .f32⟩
  | .hbm, ⟨14, _⟩ => ⟨S16x16x768, .f32⟩
  | .hbm, ⟨15, _⟩ => ⟨S_, .f32⟩
  | .hbm, ⟨16, _⟩ => ⟨S16x16x768, .f32⟩
  | .hbm, ⟨17, _⟩ => ⟨S16x16x768, .f32⟩
  | .hbm, ⟨18, _⟩ => ⟨S_, .f32⟩
  | .hbm, ⟨19, _⟩ => ⟨S16x16x768, .f32⟩
  | .hbm, ⟨20, _⟩ => ⟨S_, .f32⟩
  | .hbm, ⟨21, _⟩ => ⟨S16x16x768, .f32⟩
  | .hbm, ⟨22, _⟩ => ⟨S16x16x768, .f32⟩
  | .hbm, ⟨23, _⟩ => ⟨S16x16x16, .f32⟩
  | .hbm, ⟨24, _⟩ => ⟨S16x16x4, .f32⟩
  | .hbm, ⟨25, _⟩ => ⟨S16x16x4, .i32⟩
  | .hbm, ⟨26, _⟩ => ⟨S16x4x16, .i32⟩
  | .hbm, ⟨27, _⟩ => ⟨S_, .i32⟩
  | .hbm, ⟨28, _⟩ => ⟨S_, .i32⟩
  | .hbm, ⟨29, _⟩ => ⟨S16x8x16, .i32⟩
  | _, _ => ⟨S16x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_values : Ref sig .tc := ⟨.hbm, 24, rfl⟩
abbrev main_indices : Ref sig .tc := ⟨.hbm, 25, rfl⟩
abbrev main_v17 : Ref sig .tc := ⟨.hbm, 26, rfl⟩
abbrev main_c : Ref sig .tc := ⟨.hbm, 27, rfl⟩
abbrev main_call0_v0 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== Proof.KernelRange.lean ====
/- The words of the routing table that the body reads name regions: under the precondition each is below 16,
   so every gather the body makes of its two scratch arrays stays inside them. -/
module

public import proofs.«01_k».proof.Defs
public import proofs.«01_k».proof.Proof.Gen.Kernel.Frame.Runs
public import proofs.«01_k».proof.Proof.Gen.Pre_routes_in_range

@[expose] public section

set_option maxRecDepth 16384

noncomputable section

namespace Cert.Kernel.Range

open Cert.Kernel Cert.Kernel.Gen
open Idealize.ShloMosaic Idealize.ShloMosaic.TcCoe

/-- A word below 16 names a region of the scratch arrays: its quotient and its remainder by 4 are below 4. -/
theorem chk_of_lt (w : BitVec 32) (h : w.toNat < 16) : k0_chk1 w := by
  have all : ∀ n : Fin 16, k0_chk1 (BitVec.ofNat 32 n.val) := by decide +kernel
  have := all ⟨w.toNat, h⟩
  simpa using this

/-- The precondition read at one word: a word of the table's first four rows is below 16. -/
theorem word_lt_of_pre (m : (ℓ : Loc nD τ sig) → Buf (Elt Bits) ℓ) (h : Cert.Pre_Kernel m) (c : Dev nD)
    (y : S16x8x16.Idx) (hy : (y 1).val < 4) : (m ((c : Thread nD τ).loc main_arg0) y).toNat < 16 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  let z : Cert.Pre_routes_in_range.S16x4x16.Idx := fun a => match a with
    | ⟨0, _⟩ => y 0 | ⟨1, _⟩ => ⟨(y 1).val, hy⟩ | ⟨2, _⟩ => y 2
  have e := congrFun (h c) z
  simp only [Pre_routes_in_range.fn, andi, cmpi, broadcastInDim, constantI, IntOp.cmpi, andi_ofBool, ofBool_eq_one,
    Bool.and_eq_true, extractStridedSlice] at e
  obtain ⟨hge, hlt⟩ := e
  simp only [BitVec.sle, BitVec.slt, decide_eq_true_eq, BitVec.toInt, BitVec.toNat_ofNat] at hge hlt
  have key : (m ((c : Thread nD τ).loc main_arg0) y).toNat < 16 := by
    generalize hw : m ((c : Thread nD τ).loc main_arg0) y = w
    have same : ∀ y', y' = y → m ((c : Thread nD τ).loc main_arg0) y' = w := fun y' e => by rw [e, hw]
    rw [same _ (by
      funext a; apply Fin.ext
      match a with
      | ⟨0, _⟩ => exact Nat.zero_add _
      | ⟨1, _⟩ => exact Nat.zero_add _
      | ⟨2, _⟩ => exact Nat.zero_add _)] at hge hlt
    omega
  exact key

/-- The word the body reads off the table at a place in the table's first four rows is below 16. -/
theorem read_lt (m : (ℓ : Loc nD τ sig) → Buf (Elt Bits) ℓ) (h : Cert.Pre_Kernel m) (off : Fin 3 → ℕ)
    (inb : ∀ a, off a + S1x1x1.size a ≤ S16x8x16.size a) (j : S1x1x1.Idx) (k : Fin 4) (hk : off 1 = k.val) :
    (tbM0_0.view.readAt (Elt Bits) (Rect.unit (s := S16x8x16) off S1x1x1.size inb).toLoadRect (tbl m 0) j).toNat < 16 := by
  have key : ∀ f : TbBuf0 (F := Bits) (0 : Dev nD) tbM0_0, f = m (((0 : Dev nD) : Thread nD τ).loc main_arg0) →
      (tbM0_0.view.readAt (Elt Bits) (Rect.unit (s := S16x8x16) off S1x1x1.size inb).toLoadRect f j).toNat < 16 := by
    rintro f rfl
    rw [View.readAt_apply]
    refine word_lt_of_pre m h 0 _ ?_
    have j1 : (j 1).val < 1 := (j 1).isLt
    show off 1 + 1 * (j 1).val < 4
    have := k.isLt
    omega
  exact key (tbl m 0) (V_main_arg0 m 0)

/-- The pipeline's own conditions on the table: there are none. -/
theorem ok_of_pre (m : (ℓ : Loc nD τ sig) → Buf (Elt Bits) ℓ) : Ok m := by
  exact trivial

set_option maxHeartbeats 4000000 in
/-- Every condition the body assumes of a word of the table holds under the precondition. -/
theorem hyps_of_pre (m : (ℓ : Loc nD τ sig) → Buf (Elt Bits) ℓ) (h : Cert.Pre_Kernel m) (hO : Ok m) : Hyps m hO := by
  intro c t
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact chk_of_lt _ (by
      first
        | exact read_lt m h _ _ _ 0 rfl
        | exact read_lt m h _ _ _ 1 rfl
        | exact read_lt m h _ _ _ 2 rfl
        | exact read_lt m h _ _ _ 3 rfl)

end Cert.Kernel.Range

end
-- ==== Proof.IdealRange.lean ====
/- The words of the routing table that the body reads name regions: under the precondition each is below 16,
   so every gather the body makes of its two scratch arrays stays inside them. -/
module

public import proofs.«01_k».proof.Defs
public import proofs.«01_k».proof.Proof.Gen.KernelIdeal.Frame.Runs
public import proofs.«01_k».proof.Proof.Gen.Pre_routes_in_range

@[expose] public section

set_option maxRecDepth 16384

noncomputable section

namespace Cert.KernelIdeal.Range

open Cert.KernelIdeal Cert.KernelIdeal.Gen
open Idealize.ShloMosaic Idealize.ShloMosaic.TcCoe

/-- A word below 16 names a region of the scratch arrays: its quotient and its remainder by 4 are below 4. -/
theorem chk_of_lt (w : BitVec 32) (h : w.toNat < 16) : k0_chk1 w := by
  have all : ∀ n : Fin 16, k0_chk1 (BitVec.ofNat 32 n.val) := by decide +kernel
  have := all ⟨w.toNat, h⟩
  simpa using this

/-- The precondition read at one word: a word of the table's first four rows is below 16. -/
theorem word_lt_of_pre (m : (ℓ : Loc nD τ sig) → Buf (Elt Ideal) ℓ) (h : Cert.Pre_KernelIdeal m) (c : Dev nD)
    (y : S16x8x16.Idx) (hy : (y 1).val < 4) : (m ((c : Thread nD τ).loc main_arg0) y).toNat < 16 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  let z : Cert.Pre_routes_in_range.S16x4x16.Idx := fun a => match a with
    | ⟨0, _⟩ => y 0 | ⟨1, _⟩ => ⟨(y 1).val, hy⟩ | ⟨2, _⟩ => y 2
  have e := congrFun (h c) z
  simp only [Pre_routes_in_range.fn, andi, cmpi, broadcastInDim, constantI, IntOp.cmpi, andi_ofBool, ofBool_eq_one,
    Bool.and_eq_true, extractStridedSlice] at e
  obtain ⟨hge, hlt⟩ := e
  simp only [BitVec.sle, BitVec.slt, decide_eq_true_eq, BitVec.toInt, BitVec.toNat_ofNat] at hge hlt
  have key : (m ((c : Thread nD τ).loc main_arg0) y).toNat < 16 := by
    generalize hw : m ((c : Thread nD τ).loc main_arg0) y = w
    have same : ∀ y', y' = y → m ((c : Thread nD τ).loc main_arg0) y' = w := fun y' e => by rw [e, hw]
    rw [same _ (by
      funext a; apply Fin.ext
      match a with
      | ⟨0, _⟩ => exact Nat.zero_add _
      | ⟨1, _⟩ => exact Nat.zero_add _
      | ⟨2, _⟩ => exact Nat.zero_add _)] at hge hlt
    omega
  exact key

/-- The word the body reads off the table at a place in the table's first four rows is below 16. -/
theorem read_lt (m : (ℓ : Loc nD τ sig) → Buf (Elt Ideal) ℓ) (h : Cert.Pre_KernelIdeal m) (off : Fin 3 → ℕ)
    (inb : ∀ a, off a + S1x1x1.size a ≤ S16x8x16.size a) (j : S1x1x1.Idx) (k : Fin 4) (hk : off 1 = k.val) :
    (tbM0_0.view.readAt (Elt Ideal) (Rect.unit (s := S16x8x16) off S1x1x1.size inb).toLoadRect (tbl m 0) j).toNat < 16 := by
  have key : ∀ f : TbBuf0 (F := Ideal) (0 : Dev nD) tbM0_0, f = m (((0 : Dev nD) : Thread nD τ).loc main_arg0) →
      (tbM0_0.view.readAt (Elt Ideal) (Rect.unit (s := S16x8x16) off S1x1x1.size inb).toLoadRect f j).toNat < 16 := by
    rintro f rfl
    rw [View.readAt_apply]
    refine word_lt_of_pre m h 0 _ ?_
    have j1 : (j 1).val < 1 := (j 1).isLt
    show off 1 + 1 * (j 1).val < 4
    have := k.isLt
    omega
  exact key (tbl m 0) (V_main_arg0 m 0)

/-- The pipeline's own conditions on the table: there are none. -/
theorem ok_of_pre (m : (ℓ : Loc nD τ sig) → Buf (Elt Ideal) ℓ) : Ok m := by
  exact trivial

set_option maxHeartbeats 4000000 in
/-- Every condition the body assumes of a word of the table holds under the precondition. -/
theorem hyps_of_pre (m : (ℓ : Loc nD τ sig) → Buf (Elt Ideal) ℓ) (h : Cert.Pre_KernelIdeal m) (hO : Ok m) : Hyps m hO := by
  intro c t
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact chk_of_lt _ (by
      first
        | exact read_lt m h _ _ _ 0 rfl
        | exact read_lt m h _ _ _ 1 rfl
        | exact read_lt m h _ _ _ 2 rfl
        | exact read_lt m h _ _ _ 3 rfl)

end Cert.KernelIdeal.Range

end
-- ==== Proof.KBody.lean ====
/- The body of the kernel written uniformly over the windows, heads, taps and pieces, and the printed body's result
   equal to it. -/
module

public import proofs.«01_k».proof.Proof.Gen.KernelIdeal.Frame

@[expose] public section

set_option maxRecDepth 16384

noncomputable section

namespace Cert.KBody

open Idealize.ShloMosaic Idealize.ShloMosaic.TcCoe Idealize.ShloMosaic.Tactic
open Cert.KernelIdeal Cert.KernelIdeal.Gen

variable {F : FTy → Type} [FloatOps F] [Named F]

/-- The queries of a window, as a 64 × 1024 matrix. -/
def qwin (q : FVec F S4x8x4x8x1024 .bf16) (r : Fin 16) : FVec F S64x1024 .bf16 :=
  shapeCast S64x1024 (shapeCast S8x8x1024 (extractStridedSlice S1x8x1x8x1024 ![r.val / 4, 0, r.val % 4, 0, 0] q
    (by revert r; decide)) shapeCasts_S1x8x1x8x1024_S8x8x1024) shapeCasts_S8x8x1024_S64x1024

/-- A loaded window as a 64 × 1024 matrix. -/
def flat (v : FVec F S1x8x1x8x1024 .bf16) : FVec F S64x1024 .bf16 :=
  shapeCast S64x1024 (shapeCast S8x8x1024 v shapeCasts_S1x8x1x8x1024_S8x8x1024) shapeCasts_S8x8x1024_S64x1024

/-- Four loaded windows one under another. -/
def cat4 (L : Fin 4 → FVec F S1x8x1x8x1024 .bf16) : FVec F S256x1024 .bf16 :=
  concatenate S256x1024 0 [⟨S64x1024, flat (L 0)⟩, ⟨S64x1024, flat (L 1)⟩, ⟨S64x1024, flat (L 2)⟩, ⟨S64x1024, flat (L 3)⟩]
    concatenates_S64x1024_S64x1024_S64x1024_S64x1024_S256x1024_d0

/-- The scores of a head before scaling. -/
def score (q : FVec F S64x1024 .bf16) (k : FVec F S256x1024 .bf16) (h : Fin 8) : FVec F S64x256 .f32 :=
  matmul dot_S64x128_S256x128_S64x256_1_1_0_0_n_n none
    (extractStridedSlice S64x128 ![0, h.val * 128] q (by revert h; decide))
    (extractStridedSlice S256x128 ![0, h.val * 128] k (by revert h; decide)) (constant S64x256 .f32 0x00000000#32)

/-- The scores scaled. -/
def scaled (s : FVec F S64x256 .f32) : FVec F S64x256 .f32 :=
  mulf s (broadcast S64x256 (Named.named κ "scale" 0x3DD105EC#32 : F .f32))

/-- The exponentials of the scaled scores less the row's greatest. -/
def expo (s : FVec F S64x256 .f32) : FVec F S64x256 .f32 :=
  exp (subf (scaled s) (broadcastTo S64x256 (shapeCast S64x1 (multiReduction .maximumf [1] S64 (scaled s) 0xFF800000#32
    reduces_S64x256_S64 (.inl rfl) rfl) shapeCasts_S64_S64x1) broadcasts_S64x1_S64x256))

/-- The weights: the exponentials divided by their row's sum. -/
def soft (s : FVec F S64x256 .f32) : FVec F S64x256 .bf16 :=
  truncf .bf16 (divf (expo s) (broadcastTo S64x256 (shapeCast S64x1 (multiReduction .add [1] S64 (expo s) 0x00000000#32
    reduces_S64x256_S64 (.inl rfl) rfl) shapeCasts_S64_S64x1) broadcasts_S64x1_S64x256)) bitsLt_bf16_f32

/-- A head's result: its weights times its values. -/
def headOut (q : FVec F S64x1024 .bf16) (k v : FVec F S256x1024 .bf16) (h : Fin 8) : FVec F S64x128 .f32 :=
  matmul dot_S64x256_S256x128_S64x128_1_0_0_1_n_n none (soft (score q k h))
    (extractStridedSlice S256x128 ![0, h.val * 128] v (by revert h; decide)) (constant S64x128 .f32 0x00000000#32)

/-- A window's attention: its heads side by side. -/
def attOf (q : FVec F S64x1024 .bf16) (k v : FVec F S256x1024 .bf16) : FVec F S64x1024 .bf16 :=
  truncf .bf16 (concatenate S64x1024 1 [⟨S64x128, headOut q k v 0⟩, ⟨S64x128, headOut q k v 1⟩, ⟨S64x128, headOut q k v 2⟩,
    ⟨S64x128, headOut q k v 3⟩, ⟨S64x128, headOut q k v 4⟩, ⟨S64x128, headOut q k v 5⟩, ⟨S64x128, headOut q k v 6⟩,
    ⟨S64x128, headOut q k v 7⟩] concatenates_S64x128_S64x128_S64x128_S64x128_S64x128_S64x128_S64x128_S64x128_S64x1024_d1)
    bitsLt_bf16_f32

/-- The attention of window `r` over the loaded keys and values. -/
def winAtt (q : FVec F S4x8x4x8x1024 .bf16) (K V : Fin 16 → Fin 4 → FVec F S1x8x1x8x1024 .bf16) (r : Fin 16) :
    FVec F S64x1024 .bf16 := attOf (qwin q r) (cat4 (K r)) (cat4 (V r))

/-- Piece `s` of the image: eight tokens of a row of a window. -/
def piece (a : Fin 16 → FVec F S64x1024 .bf16) (s : Fin 128) : FVec F S8x1024 .bf16 :=
  extractStridedSlice S8x1024 ![s.val / 4 % 8 * 8, 0] (a ⟨s.val / 32 * 4 + s.val % 4, by omega⟩) (by revert s; decide)

/-- The windows laid back as the image. -/
def imgOf (a : Fin 16 → FVec F S64x1024 .bf16) : FVec F S1024x1024 .bf16 :=
  concatenate S1024x1024 0 (List.ofFn fun s : Fin 128 => ⟨S8x1024, piece a s⟩) (by
    rw [List.map_ofFn]; exact (by decide : Shape.Concatenates (List.ofFn fun _ : Fin 128 => S8x1024) S1024x1024 0))

/-- One product of the convolution. -/
def tapMul (P : FVec F S1332x8x128 .bf16) (w : Fin 25 → FVec F S1x8x128 .f32) (s : Fin 25) : FVec F S1152x8x128 .f32 :=
  mulf (extf .f32 (extractStridedSlice S1152x8x128 ![s.val / 5 * 36 + s.val % 5, 0, 0] P (by revert s; decide)) bitsLt_bf16_f32)
    (broadcastTo S1152x8x128 (shapeCast S1x8x128 (shapeCast S8x128 (w s) shapeCasts_S1x8x128_S8x128) shapeCasts_S8x128_S1x8x128)
      broadcasts_S1x8x128_S1152x8x128)

/-- The convolution over the padded image, its bias first. -/
def conv (P : FVec F S1332x8x128 .bf16) (w : Fin 25 → FVec F S1x8x128 .f32) (lb : FVec F S1x8x128 .f32) : FVec F S1152x8x128 .f32 :=
  (List.ofFn (tapMul P w)).foldl addf (addf (broadcast S1152x8x128 (constant S_ .f32 0x00000000#32 (Shape.Idx.first h_S_)))
    (broadcastTo S1152x8x128 (shapeCast S1x8x128 (shapeCast S8x128 lb shapeCasts_S1x8x128_S8x128) shapeCasts_S8x128_S1x8x128)
      broadcasts_S1x8x128_S1152x8x128))

/-- The convolution at the image's tokens. -/
def lepe (P : FVec F S1332x8x128 .bf16) (w : Fin 25 → FVec F S1x8x128 .f32) (lb : FVec F S1x8x128 .f32) : FVec F S1024x1024 .bf16 :=
  truncf .bf16 (shapeCast S1024x1024 (extractStridedSlice S32x32x8x128 ![0, 0, 0, 0] (shapeCast S32x36x8x128 (conv P w lb)
    shapeCasts_S1152x8x128_S32x36x8x128) slices_S32x36x8x128_o0_0_0_0_S32x32x8x128) shapeCasts_S32x32x8x128_S1024x1024) bitsLt_bf16_f32

/-- The stores that make the padded image, the last first: 32 rows over a zero store. -/
def padPieces (v : FVec F S1024x1024 .bf16) : List (View.Piece (Elt F) S1332x8x128 .bf16) :=
  (List.ofFn fun y : Fin 32 => (⟨Rect.unit (s := S1332x8x128) ![(31 - y.val) * 36 + 74, 0, 0] S32x8x128.size (by revert y; decide),
    shapeCast S32x8x128 (extractStridedSlice S32x8x128 ![(31 - y.val) * 32, 0, 0]
      (shapeCast S1024x8x128 v shapeCasts_S1024x1024_S1024x8x128) (by revert y; decide)) shapeCasts_S32x8x128_S32x8x128⟩ :
        View.Piece (Elt F) S1332x8x128 .bf16))
  ++ [⟨Rect.unit (s := S1332x8x128) ![0, 0, 0] S1332x8x128.size inb_S1332x8x128_S1332x8x128_0_0_0, k0_pay9 (F := F)⟩]

/-- The body's result from what it loads: the windows listed one by one. -/
def body (q : FVec F S4x8x4x8x1024 .bf16) (K V : Fin 16 → Fin 4 → FVec F S1x8x1x8x1024 .bf16) (P : FVec F S1332x8x128 .bf16)
    (w : Fin 25 → FVec F S1x8x128 .f32) (lb : FVec F S1x8x128 .f32) (wo : FVec F S1024x768 .bf16) (bo : FVec F S1x768 .f32) :
    FVec F S1x1024x768 .f32 :=
  k0_pay2 (lepe P w lb) (imgOf ![winAtt q K V 0, winAtt q K V 1, winAtt q K V 2, winAtt q K V 3, winAtt q K V 4, winAtt q K V 5,
    winAtt q K V 6, winAtt q K V 7, winAtt q K V 8, winAtt q K V 9, winAtt q K V 10, winAtt q K V 11, winAtt q K V 12,
    winAtt q K V 13, winAtt q K V 14, winAtt q K V 15]) wo bo

/-- The place of the table's word for region `r`'s `t`-th route. -/
def toff (i : grid0.Coords) (r : Fin 16) (t : Fin 4) : Fin 3 → ℕ :=
  ![(Scalar.indexCast (BitVec.ofNat 32 (i 0).val)).toNat, t.val, r.val]

theorem toff_inb (i : grid0.Coords) (r : Fin 16) (t : Fin 4) : ∀ a, toff i r t a + S1x1x1.size a ≤ S16x8x16.size a := by
  obtain ⟨n, hn⟩ : ∃ n : Fin 16, (i 0).val = n.val := ⟨i 0, rfl⟩
  unfold toff; rw [hn]; clear hn; revert n r t; decide +kernel

variable (m : (ℓ : Loc nD τ sig) → Buf (Elt F) ℓ)

/-- The table's word for region `r`'s `t`-th route. -/
def tw (i : grid0.Coords) (r : Fin 16) (t : Fin 4) : BitVec 32 :=
  tbM0_0.view.readAt (Elt F) (Rect.unit (s := S16x8x16) (toff i r t) S1x1x1.size (toff_inb i r t)).toLoadRect (tbl m 0)
    (Shape.Idx.first (numel1_S1x1x1.symm ▸ Nat.one_pos))

variable (hO : Ok m) (c : Dev nD) (t : Fin (cfgM m hO).N)

/-- The point's block of the image. -/
abbrev ldX : FVec F S1x1024x768 .f32 :=
  (ms0_0 m hO t).view.readAt (Elt F) (Rect.unit (s := S1x1024x768) ![0, 0, 0] S1x1024x768.size
    inb_S1x1024x768_S1x1024x768_0_0_0).toLoadRect ((hs0_0 m hO t).unread (iblk m hO c 0 t))

/-- A section of the projection's weights. -/
abbrev ldW (o : ℕ) (h : ∀ a, ![0, o] a + S768x1024.size a ≤ S768x3072.size a) : FVec F S768x1024 .bf16 :=
  (ms0_1 m hO t).view.readAt (Elt F) (Rect.unit (s := S768x3072) ![0, o] S768x1024.size h).toLoadRect
    ((hs0_1 m hO t).unread (iblk m hO c 1 t))

/-- A section of the projection's bias. -/
abbrev ldB (o : ℕ) (h : ∀ a, ![0, o] a + S1x1024.size a ≤ S1x3072.size a) : FVec F S1x1024 .f32 :=
  (ms0_2 m hO t).view.readAt (Elt F) (Rect.unit (s := S1x3072) ![0, o] S1x1024.size h).toLoadRect
    ((hs0_2 m hO t).unread (iblk m hO c 2 t))

/-- A tap of the convolution. -/
abbrev ldTap (s : Fin 25) : FVec F S1x8x128 .f32 :=
  (ms0_3 m hO t).view.readAt (Elt F) (Rect.unit (s := S25x8x128) ![s.val, 0, 0] S1x8x128.size (by revert s; decide)).toLoadRect
    ((hs0_3 m hO t).unread (iblk m hO c 3 t))

/-- The convolution's bias. -/
abbrev ldLb : FVec F S1x8x128 .f32 :=
  (ms0_4 m hO t).view.readAt (Elt F) (Rect.unit (s := S1x8x128) ![0, 0, 0] S1x8x128.size
    inb_S1x8x128_S1x8x128_0_0_0).toLoadRect ((hs0_4 m hO t).unread (iblk m hO c 4 t))

/-- The output projection's weights. -/
abbrev ldWo : FVec F S1024x768 .bf16 :=
  (ms0_5 m hO t).view.readAt (Elt F) (Rect.unit (s := S1024x768) ![0, 0] S1024x768.size inb_S1024x768_S1024x768_0_0).toLoadRect
    ((hs0_5 m hO t).unread (iblk m hO c 5 t))

/-- The output projection's bias. -/
abbrev ldBo : FVec F S1x768 .f32 :=
  (ms0_6 m hO t).view.readAt (Elt F) (Rect.unit (s := S1x768) ![0, 0] S1x768.size inb_S1x768_S1x768_0_0).toLoadRect
    ((hs0_6 m hO t).unread (iblk m hO c 6 t))

variable (hw : ∀ r k, k0_chk1 (tw m (grid0.coords t) r k))

/-- A window's load of the keys' or values' scratch array holding `X`. -/
def ldWin (M : Memref sig .tc .vmem S4x8x4x8x1024 .bf16) (X : FVec F S4x8x4x8x1024 .bf16) (r : Fin 16) (k : Fin 4) :
    FVec F S1x8x1x8x1024 .bf16 :=
  M.view.readAt (Elt F) (Rect.unit (s := S4x8x4x8x1024) (k0_off2 (tw m (grid0.coords t) r k)) S1x8x1x8x1024.size
    (k0_off2_inb _ (hw r k))).toLoadRect (M.view.writes (Elt F) M.view.junk
      [⟨Rect.unit (s := S4x8x4x8x1024) ![0, 0, 0, 0, 0] S4x8x4x8x1024.size inb_S4x8x4x8x1024_S4x8x4x8x1024_0_0_0_0_0, X⟩])

/-- The body's result at a point. -/
def bodyAt : FVec F S1x1024x768 .f32 :=
  let x := ldX m hO c t
  body (k0_pay4 x (ldW m hO c t 0 inb_S768x3072_S768x1024_0_0) (ldB m hO c t 0 inb_S1x3072_S1x1024_0_0))
    (ldWin m hO t hw scM0_0 (k0_pay5 x (ldW m hO c t 1024 inb_S768x3072_S768x1024_0_1024) (ldB m hO c t 1024 inb_S1x3072_S1x1024_0_1024)))
    (ldWin m hO t hw scM0_1 (k0_pay8 (k0_pay7 x (ldW m hO c t 2048 inb_S768x3072_S768x1024_0_2048) (ldB m hO c t 2048 inb_S1x3072_S1x1024_0_2048))))
    (scM0_2.view.readCov (padPieces (k0_pay6 x (ldW m hO c t 2048 inb_S768x3072_S768x1024_0_2048) (ldB m hO c t 2048 inb_S1x3072_S1x1024_0_2048)))
      (Rect.unit (s := S1332x8x128) ![0, 0, 0] S1332x8x128.size inb_S1332x8x128_S1332x8x128_0_0_0).toLoadRect)
    (ldTap m hO c t) (ldLb m hO c t) (ldWo m hO c t) (ldBo m hO c t)

end Cert.KBody

end
-- ==== Proof.KBodyEq.lean ====
/- The printed body's result is the uniform one. -/
module

public import proofs.«01_k».proof.Proof.KBody

@[expose] public section

set_option maxRecDepth 100000

noncomputable section

namespace Cert.KBody

open Idealize.ShloMosaic Idealize.ShloMosaic.TcCoe Idealize.ShloMosaic.Tactic
open Cert.KernelIdeal Cert.KernelIdeal.Gen

variable {F : FTy → Type} [FloatOps F] [Named F]

/-- What the run leaves in the result's block at a point is the one store of the uniform body. -/
theorem outsAt0_eq (m : (ℓ : Loc nD τ sig) → Buf (Elt F) ℓ) (hO : Ok m) (hH : Hyps m hO) (c : Dev nD) (t : Fin (cfgM m hO).N)
    (hw : ∀ r k, k0_chk1 (tw m (grid0.coords t) r k)) :
    outsAt0 m hO hH c t = VO0_7.read (Elt F) (VO0_7.writes (Elt F) VO0_7.junk
      [⟨Rect.unit (s := S1x1024x768) ![0, 0, 0] S1x1024x768.size inb_S1x1024x768_S1x1024x768_0_0_0, bodyAt m hO c t hw⟩]) := by
  sl_kernel_rfl

end Cert.KBody

end
-- ==== Proof.Spec.lean ====
/- The attention step written once, element by element, over the extended reals: what both the kernel and the
   reference compute, as a function of the argument arrays read at their coordinates. -/
module

public import Idealize.ShloMosaic.PureOps.Ideal
public import Idealize.ShloMosaic.Lib.ValueIdxCore

@[expose] public section

noncomputable section

open scoped BigOperators

namespace Cert.Spec

open Idealize.ShloMosaic

/-- The arguments, each read at its coordinates; `route b r t` is the t-th region that region `r` of image `b` attends to. -/
structure Args where
  route : Fin 16 → Fin 16 → Fin 4 → Fin 16
  x : Fin 16 → Fin 1024 → Fin 768 → EReal
  W : Fin 768 → Fin 2304 → EReal
  bias : Fin 2304 → EReal
  Wo : Fin 768 → Fin 768 → EReal
  bo : Fin 768 → EReal
  lw : Fin 768 → Fin 5 → Fin 5 → EReal
  lb : Fin 768 → EReal

/-- The scale of the scores: the inverse of the square root of the head's width. -/
def scale : EReal := (((Real.sqrt 96)⁻¹ : ℝ) : EReal)

/-- The token at place `p` of region `r`: the image is cut into 4 × 4 regions of 8 × 8 tokens. -/
def tok (r : Fin 16) (p : Fin 64) : Fin 1024 :=
  ⟨(r.val / 4 * 8 + p.val / 8) * 32 + (r.val % 4 * 8 + p.val % 8), by omega⟩

/-- The region a token lies in. -/
def regionOf (n : Fin 1024) : Fin 16 := ⟨n.val / 256 * 4 + n.val % 32 / 8, by omega⟩

/-- A token's place in its region. -/
def placeOf (n : Fin 1024) : Fin 64 := ⟨n.val / 32 % 8 * 8 + n.val % 8, by omega⟩

/-- A token is the one at its place of its region. -/
theorem tok_region_place (n : Fin 1024) : tok (regionOf n) (placeOf n) = n := by
  apply Fin.ext; simp only [tok, regionOf, placeOf]; omega

/-- A channel of head `h`. -/
def chan (h : Fin 8) (l : Fin 96) : Fin 768 := ⟨h.val * 96 + l.val, by omega⟩

/-- The head of a channel. -/
def headOf (ch : Fin 768) : Fin 8 := ⟨ch.val / 96, by omega⟩

/-- A channel's place in its head. -/
def laneOf (ch : Fin 768) : Fin 96 := ⟨ch.val % 96, by omega⟩

/-- The column of the joint projection holding section `s` (query, key, value) of a channel. -/
def col (s : Fin 3) (ch : Fin 768) : Fin 2304 := ⟨s.val * 768 + ch.val, by omega⟩

namespace Args

variable (A : Args)

/-- The joint projection of a token. -/
def proj (b : Fin 16) (n : Fin 1024) (o : Fin 2304) : EReal := (∑ c : Fin 768, A.x b n c * A.W c o) + A.bias o

/-- The token of the `j`-th key that region `r` attends to: 64 tokens of each of its four routed regions. -/
def keyTok (b r : Fin 16) (j : Fin 256) : Fin 1024 :=
  tok (A.route b r ⟨j.val / 64, by omega⟩) ⟨j.val % 64, by omega⟩

/-- A token's score against its region's `j`-th key, in head `h`. -/
def score (b r : Fin 16) (h : Fin 8) (p : Fin 64) (j : Fin 256) : EReal :=
  ∑ l : Fin 96, A.proj b (tok r p) (col 0 (chan h l)) * scale * A.proj b (A.keyTok b r j) (col 1 (chan h l))

/-- The greatest score of a token in a head. -/
def top (b r : Fin 16) (h : Fin 8) (p : Fin 64) : EReal :=
  (Finset.univ : Finset (Fin 256)).fold max ⊥ fun j => A.score b r h p j

/-- The exponential of a score less the greatest. -/
def expo (b r : Fin 16) (h : Fin 8) (p : Fin 64) (j : Fin 256) : EReal :=
  Ideal.exp (A.score b r h p j - A.top b r h p)

/-- The attention weight of a key. -/
def prob (b r : Fin 16) (h : Fin 8) (p : Fin 64) (j : Fin 256) : EReal :=
  Ideal.div (A.expo b r h p j) (∑ j' : Fin 256, A.expo b r h p j')

/-- The attention's result at a token and channel. -/
def att (b r : Fin 16) (p : Fin 64) (ch : Fin 768) : EReal :=
  ∑ j : Fin 256, A.prob b r (headOf ch) p j * A.proj b (A.keyTok b r j) (col 2 ch)

/-- The values laid out as the image with a border of two zeros, at row `y` and column `x` of the bordered image. -/
def bordered (b : Fin 16) (y x : ℕ) (ch : Fin 768) : EReal :=
  if h : (2 ≤ y ∧ y < 34) ∧ (2 ≤ x ∧ x < 34) then
    A.proj b ⟨(y - 2) * 32 + (x - 2), by omega⟩ (col 2 ch)
  else 0

/-- The 5 × 5 depthwise convolution of the values at a token and channel, its bias added. -/
def lepe (b : Fin 16) (n : Fin 1024) (ch : Fin 768) : EReal :=
  (∑ dy : Fin 5, ∑ dx : Fin 5, A.bordered b (n.val / 32 + dy.val) (n.val % 32 + dx.val) ch * A.lw ch dy dx) + A.lb ch

/-- The result at a token and output channel: the projection of the attention plus the convolution. -/
def out (b : Fin 16) (n : Fin 1024) (o : Fin 768) : EReal :=
  (∑ ch : Fin 768, (A.att b (regionOf n) (placeOf n) ch + A.lepe b n ch) * A.Wo ch o) + A.bo o

open Idealize.ShloMosaic.ValueIdx in
/-- The argument arrays hold these arguments. -/
structure Reads (x0 : (⟨3, ![16, 8, 16]⟩ : Shape).Idx → BitVec 32) (x1 : (⟨3, ![16, 1024, 768]⟩ : Shape).Idx → EReal)
    (x2 : (⟨2, ![768, 2304]⟩ : Shape).Idx → EReal) (x3 : (⟨1, ![2304]⟩ : Shape).Idx → EReal)
    (x4 : (⟨2, ![768, 768]⟩ : Shape).Idx → EReal) (x5 : (⟨1, ![768]⟩ : Shape).Idx → EReal)
    (x6 : (⟨4, ![768, 1, 5, 5]⟩ : Shape).Idx → EReal) (x7 : (⟨1, ![768]⟩ : Shape).Idx → EReal) : Prop where
  route : ∀ (b r : Fin 16) (t : Fin 4), x0 (ix3 b (⟨t.val, by omega⟩ : Fin 8) r) = BitVec.ofNat 32 (A.route b r t).val
  x : ∀ b n c, x1 (ix3 b n c) = A.x b n c
  W : ∀ c o, x2 (ix2 c o) = A.W c o
  bias : ∀ o, x3 (ix1 o) = A.bias o
  Wo : ∀ c o, x4 (ix2 c o) = A.Wo c o
  bo : ∀ o, x5 (ix1 o) = A.bo o
  lw : ∀ c dy dx, x6 (ix4 c 0 dy dx) = A.lw c dy dx
  lb : ∀ c, x7 (ix1 c) = A.lb c

end Args

open Idealize.ShloMosaic.ValueIdx in
/-- Argument arrays whose routes name regions hold arguments. -/
theorem exists_reads (x0 : (⟨3, ![16, 8, 16]⟩ : Shape).Idx → BitVec 32) (x1 : (⟨3, ![16, 1024, 768]⟩ : Shape).Idx → EReal)
    (x2 : (⟨2, ![768, 2304]⟩ : Shape).Idx → EReal) (x3 : (⟨1, ![2304]⟩ : Shape).Idx → EReal)
    (x4 : (⟨2, ![768, 768]⟩ : Shape).Idx → EReal) (x5 : (⟨1, ![768]⟩ : Shape).Idx → EReal)
    (x6 : (⟨4, ![768, 1, 5, 5]⟩ : Shape).Idx → EReal) (x7 : (⟨1, ![768]⟩ : Shape).Idx → EReal)
    (h : ∀ y : (⟨3, ![16, 8, 16]⟩ : Shape).Idx, (y 1).val < 4 → (x0 y).toNat < 16) :
    ∃ A : Args, A.Reads x0 x1 x2 x3 x4 x5 x6 x7 :=
  ⟨{ route := fun b r t => ⟨(x0 (ix3 b (⟨t.val, by omega⟩ : Fin 8) r)).toNat, h _ t.isLt⟩
     x := fun b n c => x1 (ix3 b n c)
     W := fun c o => x2 (ix2 c o)
     bias := fun o => x3 (ix1 o)
     Wo := fun c o => x4 (ix2 c o)
     bo := fun o => x5 (ix1 o)
     lw := fun c dy dx => x6 (ix4 c 0 dy dx)
     lb := fun c => x7 (ix1 c) },
   { route := fun _ _ _ => (BitVec.ofNat_toNat _ _).trans (by simp) |>.symm
     x := fun _ _ _ => rfl
     W := fun _ _ => rfl
     bias := fun _ => rfl
     Wo := fun _ _ => rfl
     bo := fun _ => rfl
     lw := fun _ _ _ => rfl
     lb := fun _ => rfl }⟩

end Cert.Spec

end
-- ==== Proof.Lane.lean ====
/- Channels padded head by head from 96 to 128 lanes: the padded lanes hold zero and change no sum. -/
module

public import proofs.«01_k».proof.Proof.Spec

@[expose] public section

noncomputable section

open scoped BigOperators

namespace Cert.Lane

open Cert.Spec

/-- The padded column of lane `l` of head `h`. -/
def pc (h : Fin 8) (l : Fin 128) : Fin 1024 := ⟨h.val * 128 + l.val, by omega⟩

/-- A family over the channels, zero on the padded lanes. -/
def lane (f : Fin 768 → EReal) (h : Fin 8) (l : Fin 128) : EReal :=
  if hl : l.val < 96 then f (chan h ⟨l.val, hl⟩) else 0

/-- A lane that is a channel holds the channel's value. -/
theorem lane_of_lt (f : Fin 768 → EReal) (h : Fin 8) (l : Fin 128) (hl : l.val < 96) : lane f h l = f (chan h ⟨l.val, hl⟩) :=
  dif_pos hl

/-- A padded lane holds zero. -/
theorem lane_of_ge (f : Fin 768 → EReal) (h : Fin 8) (l : Fin 128) (hl : ¬ l.val < 96) : lane f h l = 0 := dif_neg hl

/-- Every padded column is a lane of a head. -/
theorem exists_pc (o : Fin 1024) : ∃ h l, o = pc h l :=
  ⟨⟨o.val / 128, by omega⟩, ⟨o.val % 128, by omega⟩, Fin.ext (by simp only [pc]; omega)⟩

/-- A sum over a head's lanes whose padded terms vanish is the sum over its channels. -/
theorem sum_head (F : Fin 128 → EReal) (G : Fin 96 → EReal) (h1 : ∀ l : Fin 96, F ⟨l.val, by omega⟩ = G l)
    (h0 : ∀ l : Fin 128, ¬ l.val < 96 → F l = 0) : ∑ l, F l = ∑ l, G l := by
  have e : ∑ l : Fin (96 + 32), F l = ∑ l, G l := by
    rw [Fin.sum_univ_add, Finset.sum_eq_zero (s := (Finset.univ : Finset (Fin 32)))
      (fun l _ => h0 _ (by simp)), add_zero]
    exact Finset.sum_congr rfl fun l _ => h1 l
  exact e

/-- A sum over the padded columns, head by head. -/
theorem sum_pc (F : Fin 1024 → EReal) : ∑ c, F c = ∑ h : Fin 8, ∑ l : Fin 128, F (pc h l) := by
  have e : ∑ c : Fin (8 * 128), F c = ∑ h : Fin 8, ∑ l : Fin 128, F (pc h l) := by
    rw [← Equiv.sum_comp finProdFinEquiv, Fintype.sum_prod_type]
    refine Finset.sum_congr rfl fun h _ => Finset.sum_congr rfl fun l _ => congrArg F (Fin.ext ?_)
    show l.val + 128 * h.val = h.val * 128 + l.val
    omega
  exact e

/-- A sum over the channels, head by head. -/
theorem sum_chan (G : Fin 768 → EReal) : ∑ c, G c = ∑ h : Fin 8, ∑ l : Fin 96, G (chan h l) := by
  have e : ∑ c : Fin (8 * 96), G c = ∑ h : Fin 8, ∑ l : Fin 96, G (chan h l) := by
    rw [← Equiv.sum_comp finProdFinEquiv, Fintype.sum_prod_type]
    refine Finset.sum_congr rfl fun h _ => Finset.sum_congr rfl fun l _ => congrArg G (Fin.ext ?_)
    show l.val + 96 * h.val = h.val * 96 + l.val
    omega
  exact e

/-- A sum over the padded columns whose padded terms vanish is the sum over the channels. -/
theorem sum_padded (F : Fin 1024 → EReal) (G : Fin 768 → EReal)
    (h1 : ∀ (h : Fin 8) (l : Fin 96), F (pc h ⟨l.val, by omega⟩) = G (chan h l))
    (h0 : ∀ (h : Fin 8) (l : Fin 128), ¬ l.val < 96 → F (pc h l) = 0) : ∑ c, F c = ∑ c, G c := by
  rw [sum_pc, sum_chan]
  exact Finset.sum_congr rfl fun h _ => sum_head _ _ (h1 h) (h0 h)

/-- A sum over the taps, row by row. -/
theorem sum_taps (F : Fin 25 → EReal) :
    ∑ s, F s = ∑ dy : Fin 5, ∑ dx : Fin 5, F ⟨dy.val * 5 + dx.val, by omega⟩ := by
  have e : ∑ s : Fin (5 * 5), F s = ∑ dy : Fin 5, ∑ dx : Fin 5, F ⟨dy.val * 5 + dx.val, by omega⟩ := by
    rw [← Equiv.sum_comp finProdFinEquiv, Fintype.sum_prod_type]
    refine Finset.sum_congr rfl fun h _ => Finset.sum_congr rfl fun l _ => congrArg F (Fin.ext ?_)
    show l.val + 5 * h.val = h.val * 5 + l.val
    omega
  exact e

theorem scale_nonneg : 0 ≤ scale := EReal.coe_nonneg.mpr (inv_nonneg.mpr (Real.sqrt_nonneg 96))

/-- The scale is a real number, so it distributes over every sum. -/
theorem sum_mul_scale {n : ℕ} (f : Fin n → EReal) : (∑ k, f k) * scale = ∑ k, f k * scale := by
  have h : ∀ s : Finset (Fin n), (∑ k ∈ s, f k) * scale = ∑ k ∈ s, f k * scale := fun s => by
    induction s using Finset.induction_on with
    | empty => simp
    | insert a s ha ih =>
      rw [Finset.sum_insert ha, Finset.sum_insert ha,
        EReal.right_distrib_of_nonneg_of_ne_top scale_nonneg (EReal.coe_ne_top _), ih]
  exact h _

end Cert.Lane

end
-- ==== Proof.Idx.lean ====
/- Indices by their coordinates: positions in row-major order, and an index told by its coordinates. -/
module

public import Idealize.ShloMosaic.Lib.ValueIdxRank6
public import Idealize.ShloMosaic.Lib.Pipeline.Value

@[expose] public section

namespace Cert.Pos

open Idealize.ShloMosaic Idealize.ShloMosaic.ValueIdx

variable {n0 n1 n2 n3 n4 n5 : Nat}

/-- Row-major position of an index of two coordinates. -/
theorem pos2 (a : Fin n0) (b : Fin n1) :
    ((⟨2, ![n0, n1]⟩ : Shape).rowMajor (ix2 a b)).val = a.val * n1 + b.val := Shape.rowMajor_val_two _

/-- Row-major position of an index of three coordinates. -/
theorem pos3 (a : Fin n0) (b : Fin n1) (c : Fin n2) :
    ((⟨3, ![n0, n1, n2]⟩ : Shape).rowMajor (ix3 a b c)).val = (a.val * n1 + b.val) * n2 + c.val :=
  Shape.rowMajor_val_three _

/-- Row-major position of an index of four coordinates. -/
theorem pos4 (a : Fin n0) (b : Fin n1) (c : Fin n2) (d : Fin n3) :
    ((⟨4, ![n0, n1, n2, n3]⟩ : Shape).rowMajor (ix4 a b c d)).val
      = ((a.val * n1 + b.val) * n2 + c.val) * n3 + d.val := Shape.rowMajor_val_four _

/-- Row-major position of an index of five coordinates. -/
theorem pos5 (a : Fin n0) (b : Fin n1) (c : Fin n2) (d : Fin n3) (e : Fin n4) :
    ((⟨5, ![n0, n1, n2, n3, n4]⟩ : Shape).rowMajor (ix5 a b c d e)).val
      = (((a.val * n1 + b.val) * n2 + c.val) * n3 + d.val) * n4 + e.val := Shape.rowMajor_val_five _

/-- Row-major position of an index of six coordinates. -/
theorem pos6 (a : Fin n0) (b : Fin n1) (c : Fin n2) (d : Fin n3) (e : Fin n4) (f : Fin n5) :
    ((⟨6, ![n0, n1, n2, n3, n4, n5]⟩ : Shape).rowMajor (ix6 a b c d e f)).val
      = ((((a.val * n1 + b.val) * n2 + c.val) * n3 + d.val) * n4 + e.val) * n5 + f.val := Shape.rowMajor_val_six _

/-- An index of two coordinates is told by them. -/
theorem at2 {j : (⟨2, ![n0, n1]⟩ : Shape).Idx} {a : Fin n0} {b : Fin n1}
    (h0 : (j 0).val = a.val) (h1 : (j 1).val = b.val) : j = ix2 a b := by
  rw [eq_ix2 j]; rw [show j 0 = a from Fin.ext h0, show j 1 = b from Fin.ext h1]; rfl

/-- An index of three coordinates is told by them. -/
theorem at3 {j : (⟨3, ![n0, n1, n2]⟩ : Shape).Idx} {a : Fin n0} {b : Fin n1} {c : Fin n2}
    (h0 : (j 0).val = a.val) (h1 : (j 1).val = b.val) (h2 : (j 2).val = c.val) : j = ix3 a b c := by
  rw [eq_ix3 j]; rw [show j 0 = a from Fin.ext h0, show j 1 = b from Fin.ext h1, show j 2 = c from Fin.ext h2]; rfl

/-- An index of four coordinates is told by them. -/
theorem at4 {j : (⟨4, ![n0, n1, n2, n3]⟩ : Shape).Idx} {a : Fin n0} {b : Fin n1} {c : Fin n2} {d : Fin n3}
    (h0 : (j 0).val = a.val) (h1 : (j 1).val = b.val) (h2 : (j 2).val = c.val) (h3 : (j 3).val = d.val) :
    j = ix4 a b c d := by
  rw [eq_ix4 j]
  rw [show j 0 = a from Fin.ext h0, show j 1 = b from Fin.ext h1, show j 2 = c from Fin.ext h2,
    show j 3 = d from Fin.ext h3]; rfl

/-- An index of five coordinates is told by them. -/
theorem at5 {j : (⟨5, ![n0, n1, n2, n3, n4]⟩ : Shape).Idx} {a : Fin n0} {b : Fin n1} {c : Fin n2} {d : Fin n3}
    {e : Fin n4} (h0 : (j 0).val = a.val) (h1 : (j 1).val = b.val) (h2 : (j 2).val = c.val) (h3 : (j 3).val = d.val)
    (h4 : (j 4).val = e.val) : j = ix5 a b c d e := by
  rw [eq_ix5 j]
  rw [show j 0 = a from Fin.ext h0, show j 1 = b from Fin.ext h1, show j 2 = c from Fin.ext h2,
    show j 3 = d from Fin.ext h3, show j 4 = e from Fin.ext h4]; rfl

/-- An index of six coordinates is told by them. -/
theorem at6 {j : (⟨6, ![n0, n1, n2, n3, n4, n5]⟩ : Shape).Idx} {a : Fin n0} {b : Fin n1} {c : Fin n2} {d : Fin n3}
    {e : Fin n4} {f : Fin n5} (h0 : (j 0).val = a.val) (h1 : (j 1).val = b.val) (h2 : (j 2).val = c.val)
    (h3 : (j 3).val = d.val) (h4 : (j 4).val = e.val) (h5 : (j 5).val = f.val) : j = ix6 a b c d e f := by
  rw [eq_ix6 j]
  rw [show j 0 = a from Fin.ext h0, show j 1 = b from Fin.ext h1, show j 2 = c from Fin.ext h2,
    show j 3 = d from Fin.ext h3, show j 4 = e from Fin.ext h4, show j 5 = f from Fin.ext h5]; rfl

end Cert.Pos

end
-- ==== Proof.KRead.lean ====
/- The kernel's uniform body read element by element over the extended reals. -/
module

public import proofs.«01_k».proof.Proof.KBody
public import proofs.«01_k».proof.Proof.Lane
public import proofs.«01_k».proof.Proof.Idx
public import Idealize.ShloMosaic.Lib.Pointwise.ShapeOpsCore
public import Idealize.ShloMosaic.Lib.KernelVsHost
public import Idealize.ShloMosaic.Lib.MatmulPlain

@[expose] public section

set_option maxRecDepth 8192

noncomputable section

open scoped BigOperators

namespace Cert.KRead

open Idealize.ShloMosaic hiding ix1 ix2 ix3 ix4 ix5 ix6 eq_ix1 eq_ix2 eq_ix3 eq_ix4 eq_ix5 eq_ix6
open Idealize.ShloMosaic.ValueIdx Cert.KernelIdeal Cert.KernelIdeal.Gen Cert.Spec Cert.Pos Cert.Lane Cert.KBody

/-- The zero pattern is zero. -/
theorem ofBits_zero : Ideal.ofBits .f32 0x00000000#32 = 0 := by
  simp [Ideal.ofBits, Ideal.ieee]

/-- The pattern of negative infinity is the least extended real. -/
theorem ofBits_bot : Ideal.ofBits .f32 0xFF800000#32 = ⊥ := by
  simp [Ideal.ofBits, Ideal.ieee]

/-- Rounding to the narrow format changes no extended real. -/
theorem trunc_id {s : Shape} (x : FVec Ideal s .f32) (h : FTy.bf16.bits < FTy.f32.bits) :
    (truncf .bf16 x h : s.Idx → EReal) = x := rfl

/-- The projection at a token and column. -/
theorem pay6_at (x : FVec Ideal S1x1024x768 .f32) (w : FVec Ideal S768x1024 .bf16) (b : FVec Ideal S1x1024 .f32)
    (n o : Fin 1024) :
    k0_pay6 (F := Ideal) x w b (ix2 n o) = (∑ c : Fin 768, x (ix3 0 n c) * w (ix2 c o)) + b (ix2 0 o) := by
  unfold k0_pay6
  show FloatOps.matmul (DotDims.plain 1024 768 1024) none (k0_pay3 (F := Ideal) x)
    (shapeCast S768x1024 w shapeCasts_S768x1024_S768x1024) (constant S1024x1024 .f32 0x00000000#32) (ix2 n o)
    + broadcastTo S1024x1024 (shapeCast S1x1024 b shapeCasts_S1x1024_S1x1024) broadcasts_S1x1024_S1024x1024 (ix2 n o) = _
  rw [Ideal.matmul_plain_apply, shapeCast_self, shapeCast_self]
  rw [broadcastTo_apply b _ (ix2 n o) (ix2 0 o) (fun a => by match a with | ⟨0, _⟩ => rfl | ⟨1, _⟩ => rfl)]
  show Ideal.ofBits .f32 0x00000000#32 + _ + _ = _
  rw [ofBits_zero, zero_add]
  refine congrArg (· + _) (Finset.sum_congr rfl fun c _ => congrArg (· * _) ?_)
  unfold k0_pay3
  exact shapeCast_apply x _ _ _ (by rw [pos3, pos2]; show (0 * 1024 + n.val) * 768 + c.val = _; omega)

/-- The projection as the image of windows reads it. -/
theorem grid_at (v : FVec Ideal S1024x1024 .bf16) (ri : Fin 4) (yi : Fin 8) (rj : Fin 4) (xj : Fin 8) (o : Fin 1024) :
    shapeCast S4x8x4x8x1024 v shapeCasts_S1024x1024_S4x8x4x8x1024 (ix5 ri yi rj xj o)
      = v (ix2 (⟨(ri.val * 8 + yi.val) * 32 + (rj.val * 8 + xj.val), by omega⟩ : Fin 1024) o) :=
  shapeCast_apply v _ _ _ (by rw [pos2, pos5]; dsimp only; omega)

/-- The queries' array is the projection cut into windows. -/
theorem pay4_eq (x : FVec Ideal S1x1024x768 .f32) (w : FVec Ideal S768x1024 .bf16) (b : FVec Ideal S1x1024 .f32) :
    k0_pay4 (F := Ideal) x w b = shapeCast S4x8x4x8x1024 (k0_pay6 (F := Ideal) x w b) shapeCasts_S1024x1024_S4x8x4x8x1024 := rfl

/-- The keys' array is the projection cut into windows. -/
theorem pay5_eq (x : FVec Ideal S1x1024x768 .f32) (w : FVec Ideal S768x1024 .bf16) (b : FVec Ideal S1x1024 .f32) :
    k0_pay5 (F := Ideal) x w b = shapeCast S4x8x4x8x1024 (k0_pay6 (F := Ideal) x w b) shapeCasts_S1024x1024_S4x8x4x8x1024 := by
  unfold k0_pay5; exact shapeCast_self _ _

/-- The values' array is the projection cut into windows. -/
theorem pay8_eq (x : FVec Ideal S1x1024x768 .f32) (w : FVec Ideal S768x1024 .bf16) (b : FVec Ideal S1x1024 .f32) :
    k0_pay8 (k0_pay7 (F := Ideal) x w b) = shapeCast S4x8x4x8x1024 (k0_pay6 (F := Ideal) x w b) shapeCasts_S1024x1024_S4x8x4x8x1024 := by
  unfold k0_pay8; exact shapeCast_self _ _

/-- A window's queries at a place. -/
theorem qwin_at (q : FVec Ideal S4x8x4x8x1024 .bf16) (r : Fin 16) (p : Fin 64) (o : Fin 1024) :
    qwin q r (ix2 p o) = q (ix5 (⟨r.val / 4, by omega⟩ : Fin 4) (⟨p.val / 8, by omega⟩ : Fin 8) (⟨r.val % 4, by omega⟩ : Fin 4)
      (⟨p.val % 8, by omega⟩ : Fin 8) o) := by
  unfold qwin
  refine (shapeCast_apply _ _ _ (ix3 (⟨p.val / 8, by omega⟩ : Fin 8) (⟨p.val % 8, by omega⟩ : Fin 8) o)
    (by rw [pos3, pos2]; dsimp only; omega)).trans ?_
  refine (shapeCast_apply _ _ _ (ix5 (0 : Fin 1) (⟨p.val / 8, by omega⟩ : Fin 8) (0 : Fin 1) (⟨p.val % 8, by omega⟩ : Fin 8) o)
    (by rw [pos3, pos5]; dsimp only [Fin.val_zero]; omega)).trans ?_
  refine extractStridedSlice_apply _ q _ _ _ fun a => ?_
  match a with
  | ⟨0, _⟩ => rfl
  | ⟨1, _⟩ => exact (Nat.zero_add _).symm
  | ⟨2, _⟩ => rfl
  | ⟨3, _⟩ => exact (Nat.zero_add _).symm
  | ⟨4, _⟩ => exact (Nat.zero_add _).symm

/-- A loaded window at a place. -/
theorem flat_at (v : FVec Ideal S1x8x1x8x1024 .bf16) (p : Fin 64) (o : Fin 1024) :
    flat v (ix2 p o) = v (ix5 (0 : Fin 1) (⟨p.val / 8, by omega⟩ : Fin 8) (0 : Fin 1) (⟨p.val % 8, by omega⟩ : Fin 8) o) := by
  unfold flat
  refine (shapeCast_apply _ _ _ (ix3 (⟨p.val / 8, by omega⟩ : Fin 8) (⟨p.val % 8, by omega⟩ : Fin 8) o)
    (by rw [pos3, pos2]; dsimp only; omega)).trans ?_
  exact shapeCast_apply _ _ _ _ (by rw [pos3, pos5]; dsimp only [Fin.val_zero]; omega)

/-- Four loaded windows one under another, at a place. -/
theorem cat4_at (L : Fin 4 → FVec Ideal S1x8x1x8x1024 .bf16) (j : Fin 256) (o : Fin 1024) :
    cat4 L (ix2 j o) = flat (L ⟨j.val / 64, by omega⟩) (ix2 (⟨j.val % 64, by omega⟩ : Fin 64) o) := by
  exact concatenate_ofFn_apply (s₁ := S64x1024) (0 : Fin S256x1024.rank) (fun n : Fin 4 => flat (L n))
    concatenates_S64x1024_S64x1024_S64x1024_S64x1024_S256x1024_d0 rfl 64 rfl (ix2 j o) ⟨j.val / 64, by omega⟩ rfl
    (ix2 (⟨j.val % 64, by omega⟩ : Fin 64) o) rfl (fun b hb => by
      match b with
      | ⟨0, _⟩ => exact absurd rfl hb
      | ⟨1, _⟩ => rfl)

/-- The windows laid back as the image, at a token. -/
theorem img_at (a : Fin 16 → FVec Ideal S64x1024 .bf16) (n o : Fin 1024) :
    imgOf a (ix2 n o) = a (regionOf n) (ix2 (placeOf n) o) := by
  unfold imgOf
  refine (concatenate_ofFn_apply (s₁ := S8x1024) (0 : Fin S1024x1024.rank) (Cert.KBody.piece a) _ rfl 8 rfl (ix2 n o)
    ⟨n.val / 8, by omega⟩ rfl (ix2 (⟨n.val % 8, by omega⟩ : Fin 8) o) rfl (fun b hb => by
      match b with
      | ⟨0, _⟩ => exact absurd rfl hb
      | ⟨1, _⟩ => rfl)).trans ?_
  unfold Cert.KBody.piece
  refine (extractStridedSlice_apply _ _ _ _ (ix2 (placeOf n) o) fun b => ?_).trans ?_
  · match b with
    | ⟨0, _⟩ => show n.val / 32 % 8 * 8 + n.val % 8 = n.val / 8 / 4 % 8 * 8 + n.val % 8; omega
    | ⟨1, _⟩ => exact (Nat.zero_add _).symm
  · exact congrFun (congrArg a (Fin.ext (by show n.val / 8 / 32 * 4 + n.val / 8 % 4 = n.val / 256 * 4 + n.val % 32 / 8; omega))) _

/-- The scores of a head at a query and key, before scaling. -/
theorem score_at (q : FVec Ideal S64x1024 .bf16) (k : FVec Ideal S256x1024 .bf16) (h : Fin 8) (p : Fin 64) (j : Fin 256) :
    KBody.score q k h (ix2 p j) = ∑ l : Fin 128, q (ix2 p (pc h l)) * k (ix2 j (pc h l)) := by
  unfold KBody.score
  refine (Ideal.matmul_transposedRhs_apply (M := 64) (K := 128) (N := 256) none _ _ _ p j).trans ?_
  show Ideal.ofBits .f32 0x00000000#32 + _ = _
  rw [ofBits_zero, zero_add]
  refine Finset.sum_congr rfl fun l _ => ?_
  refine congrArg₂ (· * ·) (extractStridedSlice_apply _ q _ _ _ fun b => ?_) (extractStridedSlice_apply _ k _ _ _ fun b => ?_)
  · match b with
    | ⟨0, _⟩ => exact (Nat.zero_add _).symm
    | ⟨1, _⟩ => rfl
  · match b with
    | ⟨0, _⟩ => exact (Nat.zero_add _).symm
    | ⟨1, _⟩ => rfl

/-- The scores scaled. -/
theorem scaled_at (s : FVec Ideal S64x256 .f32) (i : S64x256.Idx) : scaled s i = s i * scale := by
  show s i * Named.named κ "scale" 0x3DD105EC#32 = _
  exact congrArg (s i * ·) (IdealRules.named_const.ideal_named_scalar _ _ _ _ rfl)

/-- A column of a value per row, at a place. -/
theorem bcol_at (v : FVec Ideal S64 .f32) (p : Fin 64) (j : Fin 256) :
    broadcastTo S64x256 (shapeCast S64x1 v shapeCasts_S64_S64x1) broadcasts_S64x1_S64x256 (ix2 p j) = v (ix1 p) := by
  refine (broadcastTo_apply _ _ (ix2 p j) (ix2 p (0 : Fin 1)) (fun a => by match a with | ⟨0, _⟩ => rfl | ⟨1, _⟩ => rfl)).trans ?_
  refine shapeCast_apply _ _ _ _ ?_
  rw [pos2, Shape.rowMajor_val_one]
  show p.val = p.val * 1 + 0; omega

/-- The exponentials at a place. -/
theorem expo_at (s : FVec Ideal S64x256 .f32) (p : Fin 64) (S : Fin 256 → EReal) (hS : ∀ j, scaled s (ix2 p j) = S j) (j : Fin 256) :
    KBody.expo s (ix2 p j) = Ideal.exp (S j - (Finset.univ : Finset (Fin 256)).fold max ⊥ S) := by
  unfold KBody.expo
  show Ideal.exp (scaled s (ix2 p j) - broadcastTo S64x256 (shapeCast S64x1 _ shapeCasts_S64_S64x1) broadcasts_S64x1_S64x256 (ix2 p j)) = _
  rw [bcol_at, hS]
  refine congrArg (fun z => Ideal.exp (S j - z)) ?_
  refine (Ideal.multiReduction_maximumf_single (φ := .f32) (a := (1 : Fin S64x256.rank)) (scaled s) _ reduces_S64x256_S64 _ _ (ix1 p)).trans ?_
  rw [← ofBits_bot]
  exact congrArg (Finset.fold max _ · _) (funext fun k : Fin 256 => (congrArg (scaled s) (at2 rfl rfl)).trans (hS k))

/-- The weights at a place. -/
theorem soft_at (s : FVec Ideal S64x256 .f32) (p : Fin 64) (E : Fin 256 → EReal) (hE : ∀ j, KBody.expo s (ix2 p j) = E j) (j : Fin 256) :
    soft s (ix2 p j) = Ideal.div (E j) (∑ k, E k) := by
  unfold soft
  show Ideal.div (KBody.expo s (ix2 p j)) (broadcastTo S64x256 (shapeCast S64x1 _ shapeCasts_S64_S64x1) broadcasts_S64x1_S64x256 (ix2 p j)) = _
  rw [bcol_at, hE]
  exact congrArg (Ideal.div _) <| (Ideal.multiReduction_add_single (φ := .f32) (a := (1 : Fin S64x256.rank)) (KBody.expo s) _
    reduces_S64x256_S64 _ _ (ix1 p)).trans (Finset.sum_congr rfl fun k _ => (congrArg (KBody.expo s) (at2 rfl rfl)).trans (hE k))

/-- A head's result at a query and lane. -/
theorem headOut_at (q : FVec Ideal S64x1024 .bf16) (k v : FVec Ideal S256x1024 .bf16) (h : Fin 8) (p : Fin 64) (l : Fin 128) :
    headOut q k v h (ix2 p l) = ∑ j : Fin 256, soft (KBody.score q k h) (ix2 p j) * v (ix2 j (pc h l)) := by
  unfold headOut
  refine (Ideal.matmul_plain_apply (M := 64) (K := 256) (N := 128) none _ _ _ p l).trans ?_
  show Ideal.ofBits .f32 0x00000000#32 + _ = _
  rw [ofBits_zero, zero_add]
  refine Finset.sum_congr rfl fun j _ => congrArg (_ * ·) (extractStridedSlice_apply _ v _ _ _ fun b => ?_)
  match b with
  | ⟨0, _⟩ => exact (Nat.zero_add _).symm
  | ⟨1, _⟩ => rfl

/-- A window's attention at a place and lane is its head's result. -/
theorem attOf_at (q : FVec Ideal S64x1024 .bf16) (k v : FVec Ideal S256x1024 .bf16) (h : Fin 8) (p : Fin 64) (l : Fin 128) :
    attOf q k v (ix2 p (pc h l)) = headOut q k v h (ix2 p l) := by
  unfold attOf
  exact concatenate_ofFn_apply (s₁ := S64x128) (1 : Fin S64x1024.rank) (fun n : Fin 8 => headOut q k v n)
    concatenates_S64x128_S64x128_S64x128_S64x128_S64x128_S64x128_S64x128_S64x128_S64x1024_d1 rfl 128 rfl (ix2 p (pc h l)) h
    (by show (h.val * 128 + l.val) / 128 = h.val; omega)
    (ix2 p l) (by show l.val = (h.val * 128 + l.val) % 128; omega) (fun b hb => by
      match b with
      | ⟨0, _⟩ => rfl
      | ⟨1, _⟩ => exact absurd rfl hb)

/-- The sum of a list of vectors added one by one, at a place. -/
theorem foldl_at {s : Shape} {N : ℕ} (f : Fin N → FVec Ideal s .f32) (z : FVec Ideal s .f32) (i : s.Idx) :
    ((List.ofFn f).foldl addf z) i = z i + ∑ k, f k i := by
  have e : ∀ (L : List (FVec Ideal s .f32)) (z : FVec Ideal s .f32), (L.foldl addf z) i = z i + (L.map (· i)).sum := fun L => by
    induction L with
    | nil => intro z; simp
    | cons a L ih =>
      intro z
      rw [List.foldl_cons, ih, List.map_cons, List.sum_cons, ← add_assoc]; rfl
  rw [e, List.map_ofFn, List.sum_ofFn]; rfl

/-- Every tap's slice lies in the padded image. -/
theorem tap_slices (s : Fin 25) : S1332x8x128.Slices ![s.val / 5 * 36 + s.val % 5, 0, 0] S1152x8x128 := by revert s; decide

/-- The convolution over the flat padded image at a row. -/
theorem conv_at (P : FVec Ideal S1332x8x128 .bf16) (w : Fin 25 → FVec Ideal S1x8x128 .f32) (lb : FVec Ideal S1x8x128 .f32)
    (n : Fin 1152) (h : Fin 8) (l : Fin 128) :
    conv P w lb (ix3 n h l) = lb (ix3 0 h l) + ∑ s : Fin 25,
      P (ix3 (⟨n.val + (s.val / 5 * 36 + s.val % 5), by omega⟩ : Fin 1332) h l) * w s (ix3 0 h l) := by
  have hb : ∀ v : FVec Ideal S1x8x128 .f32, broadcastTo S1152x8x128 (shapeCast S1x8x128 (shapeCast S8x128 v shapeCasts_S1x8x128_S8x128)
      shapeCasts_S8x128_S1x8x128) broadcasts_S1x8x128_S1152x8x128 (ix3 n h l) = v (ix3 0 h l) := fun v => by
    refine (broadcastTo_apply _ _ (ix3 n h l) (ix3 (0 : Fin 1) h l) (fun a => by
      match a with | ⟨0, _⟩ => rfl | ⟨1, _⟩ => rfl | ⟨2, _⟩ => rfl)).trans ?_
    rw [shapeCast_shapeCast]
  unfold conv
  rw [foldl_at]
  refine congrArg₂ (· + ·) ?_ (Finset.sum_congr rfl fun s _ => ?_)
  · show Ideal.ofBits .f32 0x00000000#32 + _ = _
    rw [ofBits_zero, zero_add]; exact hb lb
  · unfold tapMul
    have hs := extractStridedSlice_apply (t := S1152x8x128) ![s.val / 5 * 36 + s.val % 5, 0, 0] P (tap_slices s) (ix3 n h l)
      (ix3 (⟨n.val + (s.val / 5 * 36 + s.val % 5), by omega⟩ : Fin 1332) h l)
    refine congrArg₂ (· * ·) (hs fun b => ?_) (hb (w s))
    match b with
    | ⟨0, _⟩ => exact Nat.add_comm _ _
    | ⟨1, _⟩ => exact (Nat.zero_add _).symm
    | ⟨2, _⟩ => exact (Nat.zero_add _).symm

/-- The bordered rows cut back to the image's rows. -/
theorem crop_at (C : FVec Ideal S1152x8x128 .f32) (n : Fin 1024) (h : Fin 8) (l : Fin 128) :
    shapeCast S1024x1024 (extractStridedSlice S32x32x8x128 ![0, 0, 0, 0] (shapeCast S32x36x8x128 C
      shapeCasts_S1152x8x128_S32x36x8x128) slices_S32x36x8x128_o0_0_0_0_S32x32x8x128) shapeCasts_S32x32x8x128_S1024x1024 (ix2 n (pc h l))
      = C (ix3 (⟨n.val / 32 * 36 + n.val % 32, by omega⟩ : Fin 1152) h l) := by
  have e1 := shapeCast_apply (extractStridedSlice S32x32x8x128 ![0, 0, 0, 0] (shapeCast S32x36x8x128 C
    shapeCasts_S1152x8x128_S32x36x8x128) slices_S32x36x8x128_o0_0_0_0_S32x32x8x128) shapeCasts_S32x32x8x128_S1024x1024
    (ix2 n (pc h l)) (ix4 (⟨n.val / 32, by omega⟩ : Fin 32) (⟨n.val % 32, by omega⟩ : Fin 32) h l)
    (by rw [pos4, pos2]; dsimp only [pc]; omega)
  have e2 := extractStridedSlice_apply ![0, 0, 0, 0] (shapeCast S32x36x8x128 C
    shapeCasts_S1152x8x128_S32x36x8x128) slices_S32x36x8x128_o0_0_0_0_S32x32x8x128
    (ix4 (⟨n.val / 32, by omega⟩ : Fin 32) (⟨n.val % 32, by omega⟩ : Fin 32) h l)
    (ix4 (⟨n.val / 32, by omega⟩ : Fin 32) (⟨n.val % 32, by omega⟩ : Fin 36) h l) fun b => by
      match b with
      | ⟨0, _⟩ => exact (Nat.zero_add _).symm
      | ⟨1, _⟩ => exact (Nat.zero_add _).symm
      | ⟨2, _⟩ => exact (Nat.zero_add _).symm
      | ⟨3, _⟩ => exact (Nat.zero_add _).symm
  have e3 := shapeCast_apply C shapeCasts_S1152x8x128_S32x36x8x128
    (ix4 (⟨n.val / 32, by omega⟩ : Fin 32) (⟨n.val % 32, by omega⟩ : Fin 36) h l)
    (ix3 (⟨n.val / 32 * 36 + n.val % 32, by omega⟩ : Fin 1152) h l) (by rw [pos4, pos3])
  exact e1.trans (e2.trans e3)

/-- The convolution at a token and lane. -/
theorem lepe_at (P : FVec Ideal S1332x8x128 .bf16) (w : Fin 25 → FVec Ideal S1x8x128 .f32) (lb : FVec Ideal S1x8x128 .f32)
    (n : Fin 1024) (h : Fin 8) (l : Fin 128) :
    KBody.lepe P w lb (ix2 n (pc h l)) = conv P w lb (ix3 (⟨n.val / 32 * 36 + n.val % 32, by omega⟩ : Fin 1152) h l) := by
  unfold KBody.lepe
  exact (congrFun (trunc_id _ _) _).trans (crop_at (conv P w lb) n h l)

/-- The output projection at a token and channel. -/
theorem pay2_at (e a : FVec Ideal S1024x1024 .bf16) (wo : FVec Ideal S1024x768 .bf16) (bo : FVec Ideal S1x768 .f32)
    (n : Fin 1024) (o : Fin 768) :
    k0_pay2 (F := Ideal) e a wo bo (ix3 0 n o) = (∑ c : Fin 1024, (a (ix2 n c) + e (ix2 n c)) * wo (ix2 c o)) + bo (ix2 0 o) := by
  unfold k0_pay2
  refine (shapeCast_apply _ _ _ (ix2 n o) (by rw [pos3, pos2]; show _ = (0 * 1024 + n.val) * 768 + o.val; omega)).trans ?_
  show FloatOps.matmul (DotDims.plain 1024 1024 768) none (addf a e)
    (shapeCast S1024x768 wo shapeCasts_S1024x768_S1024x768) (constant S1024x768 .f32 0x00000000#32) (ix2 n o)
    + broadcastTo S1024x768 (shapeCast S1x768 bo shapeCasts_S1x768_S1x768) broadcasts_S1x768_S1024x768 (ix2 n o) = _
  rw [Ideal.matmul_plain_apply, shapeCast_self, shapeCast_self]
  rw [broadcastTo_apply bo _ (ix2 n o) (ix2 0 o) (fun a => by match a with | ⟨0, _⟩ => rfl | ⟨1, _⟩ => rfl)]
  show Ideal.ofBits .f32 0x00000000#32 + _ + _ = _
  rw [ofBits_zero, zero_add]
  rfl

end Cert.KRead

end
-- ==== Proof.KSpec.lean ====
/- The kernel's uniform body over padded operands is the attention step written once. -/
module

public import proofs.«01_k».proof.Proof.KRead

@[expose] public section

set_option maxRecDepth 8192

noncomputable section

open scoped BigOperators

namespace Cert.KSpec

open Idealize.ShloMosaic hiding ix1 ix2 ix3 ix4 ix5 ix6 eq_ix1 eq_ix2 eq_ix3 eq_ix4 eq_ix5 eq_ix6
open Idealize.ShloMosaic.ValueIdx Cert.KernelIdeal Cert.KernelIdeal.Gen Cert.Spec Cert.Pos Cert.Lane Cert.KBody Cert.KRead

variable (A : Args) (b : Fin 16)

/-- A section of the projection over padded weights is the padded projection. -/
theorem proj_at (x : FVec Ideal S1x1024x768 .f32) (w : FVec Ideal S768x1024 .bf16) (v : FVec Ideal S1x1024 .f32) (s : Fin 3)
    (hx : ∀ n c, x (ix3 0 n c) = A.x b n c) (hw : ∀ c h l, w (ix2 c (pc h l)) = lane (fun ch => A.W c (col s ch)) h l)
    (hv : ∀ h l, v (ix2 0 (pc h l)) = lane (fun ch => A.bias (col s ch)) h l) (n : Fin 1024) (h : Fin 8) (l : Fin 128) :
    k0_pay6 (F := Ideal) x w v (ix2 n (pc h l)) = lane (fun ch => A.proj b n (col s ch)) h l := by
  rw [pay6_at, hv]
  by_cases hl : l.val < 96
  · rw [lane_of_lt _ _ _ hl, lane_of_lt _ _ _ hl]
    refine congrArg (· + _) (Finset.sum_congr rfl fun c _ => ?_)
    rw [hx, hw, lane_of_lt _ _ _ hl]
  · rw [lane_of_ge _ _ _ hl, lane_of_ge _ _ _ hl, add_zero]
    refine Finset.sum_eq_zero fun c _ => ?_
    rw [hw, lane_of_ge _ _ _ hl, mul_zero]

/-- A window's attention over padded operands is the padded attention. -/
theorem att_at (r : Fin 16) (q : FVec Ideal S64x1024 .bf16) (k v : FVec Ideal S256x1024 .bf16)
    (hq : ∀ p h l, q (ix2 p (pc h l)) = lane (fun ch => A.proj b (tok r p) (col 0 ch)) h l)
    (hk : ∀ j h l, k (ix2 j (pc h l)) = lane (fun ch => A.proj b (A.keyTok b r j) (col 1 ch)) h l)
    (hv : ∀ j h l, v (ix2 j (pc h l)) = lane (fun ch => A.proj b (A.keyTok b r j) (col 2 ch)) h l)
    (p : Fin 64) (h : Fin 8) (l : Fin 128) : attOf q k v (ix2 p (pc h l)) = lane (fun ch => A.att b r p ch) h l := by
  have hs : ∀ j, scaled (KBody.score q k h) (ix2 p j) = A.score b r h p j := fun j => by
    rw [scaled_at, score_at, sum_head (fun l => q (ix2 p (pc h l)) * k (ix2 j (pc h l)))
      (fun l => A.proj b (tok r p) (col 0 (chan h l)) * A.proj b (A.keyTok b r j) (col 1 (chan h l)))
      (fun l => by rw [hq, hk, lane_of_lt _ _ _ l.isLt, lane_of_lt _ _ _ l.isLt])
      (fun l hl => by rw [hq, lane_of_ge _ _ _ hl, zero_mul]), sum_mul_scale]
    exact Finset.sum_congr rfl fun l _ => mul_right_comm _ _ _
  have he : ∀ j, KBody.expo (KBody.score q k h) (ix2 p j) = A.expo b r h p j := fun j => expo_at _ p _ hs j
  rw [attOf_at, headOut_at]
  by_cases hl : l.val < 96
  · rw [lane_of_lt _ _ _ hl]
    unfold Args.att
    have hh : headOf (chan h ⟨l.val, hl⟩) = h := Fin.ext (by simp only [chan, headOf]; omega)
    refine Finset.sum_congr rfl fun j _ => ?_
    rw [soft_at _ p _ he, hv, lane_of_lt _ _ _ hl, hh]
    rfl
  · rw [lane_of_ge _ _ _ hl]
    refine Finset.sum_eq_zero fun j _ => ?_
    rw [hv, lane_of_ge _ _ _ hl, mul_zero]

/-- The convolution over the padded image is the padded convolution. -/
theorem lepe_at' (P : FVec Ideal S1332x8x128 .bf16) (w : Fin 25 → FVec Ideal S1x8x128 .f32) (lb : FVec Ideal S1x8x128 .f32)
    (hP : ∀ (q : Fin 1332) h l, P (ix3 q h l) = lane (fun ch => A.bordered b (q.val / 36) (q.val % 36) ch) h l)
    (hw : ∀ (s : Fin 25) h l, w s (ix3 0 h l)
      = lane (fun ch => A.lw ch (⟨s.val / 5, by omega⟩ : Fin 5) (⟨s.val % 5, by omega⟩ : Fin 5)) h l)
    (hb : ∀ h l, lb (ix3 0 h l) = lane A.lb h l) (n : Fin 1024) (h : Fin 8) (l : Fin 128) :
    KBody.lepe P w lb (ix2 n (pc h l)) = lane (fun ch => A.lepe b n ch) h l := by
  rw [lepe_at, conv_at, hb]
  by_cases hl : l.val < 96
  · rw [lane_of_lt _ _ _ hl, lane_of_lt _ _ _ hl, add_comm, sum_taps]
    refine congrArg (· + _) (Finset.sum_congr rfl fun dy _ => Finset.sum_congr rfl fun dx _ => ?_)
    rw [hP, hw, lane_of_lt _ _ _ hl, lane_of_lt _ _ _ hl]
    have h1 : (n.val / 32 * 36 + n.val % 32 + ((dy.val * 5 + dx.val) / 5 * 36 + (dy.val * 5 + dx.val) % 5)) / 36 = n.val / 32 + dy.val := by omega
    have h2 : (n.val / 32 * 36 + n.val % 32 + ((dy.val * 5 + dx.val) / 5 * 36 + (dy.val * 5 + dx.val) % 5)) % 36 = n.val % 32 + dx.val := by omega
    have h3 : (⟨(dy.val * 5 + dx.val) / 5, by omega⟩ : Fin 5) = dy := Fin.ext (by show (dy.val * 5 + dx.val) / 5 = dy.val; omega)
    have h4 : (⟨(dy.val * 5 + dx.val) % 5, by omega⟩ : Fin 5) = dx := Fin.ext (by show (dy.val * 5 + dx.val) % 5 = dx.val; omega)
    dsimp only
    rw [h1, h2, h3, h4]
  · rw [lane_of_ge _ _ _ hl, lane_of_ge _ _ _ hl, zero_add]
    refine Finset.sum_eq_zero fun s _ => ?_
    rw [hw, lane_of_ge _ _ _ hl, mul_zero]

/-- The body's result over padded operands is the attention step's. -/
theorem body_at (q : FVec Ideal S4x8x4x8x1024 .bf16) (K V : Fin 16 → Fin 4 → FVec Ideal S1x8x1x8x1024 .bf16)
    (P : FVec Ideal S1332x8x128 .bf16) (w : Fin 25 → FVec Ideal S1x8x128 .f32) (lb : FVec Ideal S1x8x128 .f32)
    (wo : FVec Ideal S1024x768 .bf16) (bo : FVec Ideal S1x768 .f32)
    (hq : ∀ (r : Fin 16) (p : Fin 64) h l, qwin q r (ix2 p (pc h l)) = lane (fun ch => A.proj b (tok r p) (col 0 ch)) h l)
    (hK : ∀ (r : Fin 16) (k : Fin 4) (p : Fin 64) h l,
      flat (K r k) (ix2 p (pc h l)) = lane (fun ch => A.proj b (tok (A.route b r k) p) (col 1 ch)) h l)
    (hV : ∀ (r : Fin 16) (k : Fin 4) (p : Fin 64) h l,
      flat (V r k) (ix2 p (pc h l)) = lane (fun ch => A.proj b (tok (A.route b r k) p) (col 2 ch)) h l)
    (hP : ∀ (q : Fin 1332) h l, P (ix3 q h l) = lane (fun ch => A.bordered b (q.val / 36) (q.val % 36) ch) h l)
    (hw : ∀ (s : Fin 25) h l, w s (ix3 0 h l)
      = lane (fun ch => A.lw ch (⟨s.val / 5, by omega⟩ : Fin 5) (⟨s.val % 5, by omega⟩ : Fin 5)) h l)
    (hb : ∀ h l, lb (ix3 0 h l) = lane A.lb h l)
    (hwo : ∀ h l o, wo (ix2 (pc h l) o) = lane (fun ch => A.Wo ch o) h l) (hbo : ∀ o, bo (ix2 0 o) = A.bo o)
    (n : Fin 1024) (o : Fin 768) : body q K V P w lb wo bo (ix3 0 n o) = A.out b n o := by
  have ha : (![winAtt q K V 0, winAtt q K V 1, winAtt q K V 2, winAtt q K V 3, winAtt q K V 4, winAtt q K V 5,
    winAtt q K V 6, winAtt q K V 7, winAtt q K V 8, winAtt q K V 9, winAtt q K V 10, winAtt q K V 11, winAtt q K V 12,
    winAtt q K V 13, winAtt q K V 14, winAtt q K V 15] : Fin 16 → FVec Ideal S64x1024 .bf16) = winAtt q K V := by
    funext r; fin_cases r <;> rfl
  have hatt : ∀ h l, winAtt q K V (regionOf n) (ix2 (placeOf n) (pc h l)) = lane (fun ch => A.att b (regionOf n) (placeOf n) ch) h l :=
    fun h l => att_at A b (regionOf n) _ _ _ (hq _) (fun j h l => by rw [cat4_at, hK]; rfl)
      (fun j h l => by rw [cat4_at, hV]; rfl) (placeOf n) h l
  unfold body
  rw [ha, pay2_at, hbo]
  refine congrArg (· + _) (sum_padded _ _ (fun h l => ?_) fun h l hl => ?_)
  · rw [img_at, hatt, lepe_at' A b P w lb hP hw hb, hwo, lane_of_lt _ _ _ l.isLt, lane_of_lt _ _ _ l.isLt, lane_of_lt _ _ _ l.isLt]
  · rw [hwo, lane_of_ge _ _ _ hl, mul_zero]

end Cert.KSpec

end
-- ==== Proof.HostRead.lean ====
/- What the host operations before the launch leave in the call's operands: the weights padded head by head. -/
module

public import proofs.«01_k».proof.Proof.Gen.KernelIdeal.Frame.Runs
public import proofs.«01_k».proof.Proof.Lane
public import proofs.«01_k».proof.Proof.Idx
public import Idealize.ShloMosaic.Lib.Pointwise.ShapeOpsCore
public import Idealize.ShloMosaic.Lib.KernelVsHost
public import Idealize.ShloMosaic.Lib.StableHlo.RunRead

@[expose] public section

set_option maxRecDepth 8192

noncomputable section

namespace Cert.HostRead

open Idealize.ShloMosaic hiding ix1 ix2 ix3 ix4 ix5 ix6 eq_ix1 eq_ix2 eq_ix3 eq_ix4 eq_ix5 eq_ix6
open Idealize.ShloMosaic.ValueIdx Idealize.ShloMosaic.TcCoe
open Cert.KernelIdeal Cert.KernelIdeal.Gen Cert.Spec Cert.Pos Cert.Lane

/-- The padding's value. -/
def zero : FVec Ideal S_ .f32 := sitofp .f32 (constantI S_ 32 0#32)

/-- The padding's value is zero. -/
theorem zero_at (i : S_.Idx) : zero i = 0 := by
  show (((0#32 : BitVec 32).toInt : ℝ) : EReal) = 0
  simp

/-- The joint projection's weights, padded. -/
def padW (x : FVec Ideal S768x2304 .f32) : FVec Ideal S768x3072 .bf16 :=
  truncf .bf16 (shapeCast S768x3072 (pad S768x24x128 ![0, 0, 0] ![0, 0, 32] ![0, 0, 0]
    (shapeCast S768x24x96 x shapeCasts_S768x2304_S768x24x96) zero pads_S768x24x96_S768x24x128_000_000_0320 h_S_)
    shapeCasts_S768x24x128_S768x3072) bitsLt_bf16_f32

/-- The joint projection's bias, padded. -/
def padB (x : FVec Ideal S2304 .f32) : FVec Ideal S1x3072 .f32 :=
  shapeCast S1x3072 (shapeCast S3072 (pad S24x128 ![0, 0] ![0, 32] ![0, 0] (shapeCast S24x96 x shapeCasts_S2304_S24x96) zero
    pads_S24x96_S24x128_000_0320 h_S_) shapeCasts_S24x128_S3072) shapeCasts_S3072_S1x3072

/-- The output projection's weights, padded. -/
def padO (x : FVec Ideal S768x768 .f32) : FVec Ideal S1024x768 .bf16 :=
  truncf .bf16 (shapeCast S1024x768 (pad S8x128x768 ![0, 0, 0] ![0, 32, 0] ![0, 0, 0]
    (shapeCast S8x96x768 x shapeCasts_S768x768_S8x96x768) zero pads_S8x96x768_S8x128x768_000_0320_000 h_S_)
    shapeCasts_S8x128x768_S1024x768) bitsLt_bf16_f32

/-- The convolution's taps, padded. -/
def padT (x : FVec Ideal S768x1x5x5 .f32) : FVec Ideal S25x8x128 .f32 :=
  shapeCast S25x8x128 (shapeCast S25x1024 (pad S25x8x128 ![0, 0, 0] ![0, 0, 32] ![0, 0, 0]
    (shapeCast S25x8x96 (transpose S25x768 [1, 0] (shapeCast S768x25 x shapeCasts_S768x1x5x5_S768x25)
      transposes_S768x25_S25x768_1_0) shapeCasts_S25x768_S25x8x96) zero pads_S25x8x96_S25x8x128_000_000_0320 h_S_)
    shapeCasts_S25x8x128_S25x1024) shapeCasts_S25x1024_S25x8x128

/-- The convolution's bias, padded. -/
def padL (x : FVec Ideal S768 .f32) : FVec Ideal S1x8x128 .f32 :=
  shapeCast S1x8x128 (shapeCast S1024 (pad S8x128 ![0, 0] ![0, 32] ![0, 0] (shapeCast S8x96 x shapeCasts_S768_S8x96) zero
    pads_S8x96_S8x128_000_0320 h_S_) shapeCasts_S8x128_S1024) shapeCasts_S1024_S1x8x128

variable (m : (ℓ : Loc nD τ sig) → Buf (Elt Ideal) ℓ) (c : Dev nD)

/-- The call's second operand. -/
theorem V_v3 : V m c main_v3 = padW (m ((c : Thread nD τ).loc main_arg2)) := by
  unfold V; after_reads_simp; rfl

/-- The call's third operand. -/
theorem V_v7 : V m c main_v7 = padB (m ((c : Thread nD τ).loc main_arg3)) := by
  unfold V; after_reads_simp; rfl

/-- The call's fourth operand. -/
theorem V_v17 : V m c main_v17 = padT (m ((c : Thread nD τ).loc main_arg6)) := by
  unfold V; after_reads_simp; rfl

/-- The call's fifth operand. -/
theorem V_v21 : V m c main_v21 = padL (m ((c : Thread nD τ).loc main_arg7)) := by
  unfold V; after_reads_simp; rfl

/-- The call's sixth operand. -/
theorem V_v11 : V m c main_v11 = padO (m ((c : Thread nD τ).loc main_arg4)) := by
  unfold V; after_reads_simp; rfl

/-- The call's seventh operand. -/
theorem V_v22 : V m c main_v22 = shapeCast S1x768 (m ((c : Thread nD τ).loc main_arg5)) shapeCasts_S768_S1x768 := by
  unfold V; after_reads_simp; rfl

/-- The padded weights at a section's lane. -/
theorem padW_at (x : FVec Ideal S768x2304 .f32) (k : Fin 768) (s : Fin 3) (h : Fin 8) (l : Fin 128) (o : Fin 3072)
    (ho : o.val = s.val * 1024 + (h.val * 128 + l.val)) :
    padW x (ix2 k o) = lane (fun ch => x (ix2 k (col s ch))) h l := by
  have e1 := shapeCast_apply (pad S768x24x128 ![0, 0, 0] ![0, 0, 32] ![0, 0, 0]
    (shapeCast S768x24x96 x shapeCasts_S768x2304_S768x24x96) zero pads_S768x24x96_S768x24x128_000_000_0320 h_S_)
    shapeCasts_S768x24x128_S768x3072 (ix2 k o) (ix3 k (⟨s.val * 8 + h.val, by omega⟩ : Fin 24) l)
    (by rw [pos3, pos2]; dsimp only; omega)
  refine Eq.trans e1 ?_
  by_cases hl : l.val < 96
  · rw [lane_of_lt _ _ _ hl]
    refine (pad_apply_of_inside _ _ _ _ _ _ _ _ (ix3 k (⟨s.val * 8 + h.val, by omega⟩ : Fin 24) (⟨l.val, hl⟩ : Fin 96)) fun a => ?_).trans ?_
    · match a with
      | ⟨0, _⟩ => show k.val = 0 + k.val * 1; omega
      | ⟨1, _⟩ => show s.val * 8 + h.val = 0 + (s.val * 8 + h.val) * 1; omega
      | ⟨2, _⟩ => show l.val = 0 + l.val * 1; omega
    · exact shapeCast_apply _ _ _ _ (by rw [pos3, pos2]; dsimp only [col, chan]; omega)
  · rw [lane_of_ge _ _ _ hl, ← zero_at (Shape.Idx.first h_S_)]
    refine pad_apply_of_not_inside _ _ _ _ _ _ _ _ 2 ?_
    show ¬(0 ≤ l.val ∧ (l.val - 0) % 1 = 0 ∧ (l.val - 0) / 1 < 96)
    omega

/-- The padded bias at a section's lane. -/
theorem padB_at (x : FVec Ideal S2304 .f32) (s : Fin 3) (h : Fin 8) (l : Fin 128) (o : Fin 3072)
    (ho : o.val = s.val * 1024 + (h.val * 128 + l.val)) :
    padB x (ix2 0 o) = lane (fun ch => x (ix1 (col s ch))) h l := by
  unfold padB
  refine (shapeCast_apply _ _ (ix2 (0 : Fin 1) o) (ix1 o)
    (by rw [pos2, Shape.rowMajor_val_one]; exact (fun k : ℕ => (by omega : o.val = 0 * k + o.val)) _)).trans ?_
  refine (shapeCast_apply _ _ (ix1 o) (ix2 (⟨s.val * 8 + h.val, by omega⟩ : Fin 24) l)
    (by rw [pos2, Shape.rowMajor_val_one]; show (s.val * 8 + h.val) * 128 + l.val = o.val; omega)).trans ?_
  by_cases hl : l.val < 96
  · rw [lane_of_lt _ _ _ hl]
    refine (pad_apply_of_inside _ _ _ _ _ _ _ _ (ix2 (⟨s.val * 8 + h.val, by omega⟩ : Fin 24) (⟨l.val, hl⟩ : Fin 96)) fun a => ?_).trans ?_
    · match a with
      | ⟨0, _⟩ => show s.val * 8 + h.val = 0 + (s.val * 8 + h.val) * 1; omega
      | ⟨1, _⟩ => show l.val = 0 + l.val * 1; omega
    · exact shapeCast_apply _ _ _ _ (by
        rw [pos2, Shape.rowMajor_val_one]; show s.val * 768 + (h.val * 96 + l.val) = (s.val * 8 + h.val) * 96 + l.val; omega)
  · rw [lane_of_ge _ _ _ hl, ← zero_at (Shape.Idx.first h_S_)]
    refine pad_apply_of_not_inside _ _ _ _ _ _ _ _ 1 ?_
    show ¬(0 ≤ l.val ∧ (l.val - 0) % 1 = 0 ∧ (l.val - 0) / 1 < 96)
    omega

/-- The padded output weights at a lane. -/
theorem padO_at (x : FVec Ideal S768x768 .f32) (h : Fin 8) (l : Fin 128) (o : Fin 768) :
    padO x (ix2 (pc h l) o) = lane (fun ch => x (ix2 ch o)) h l := by
  have e1 := shapeCast_apply (pad S8x128x768 ![0, 0, 0] ![0, 32, 0] ![0, 0, 0]
    (shapeCast S8x96x768 x shapeCasts_S768x768_S8x96x768) zero pads_S8x96x768_S8x128x768_000_0320_000 h_S_)
    shapeCasts_S8x128x768_S1024x768 (ix2 (pc h l) o) (ix3 h l o) (by rw [pos3, pos2]; rfl)
  refine Eq.trans e1 ?_
  by_cases hl : l.val < 96
  · rw [lane_of_lt _ _ _ hl]
    refine (pad_apply_of_inside _ _ _ _ _ _ _ _ (ix3 h (⟨l.val, hl⟩ : Fin 96) o) fun a => ?_).trans ?_
    · match a with
      | ⟨0, _⟩ => show h.val = 0 + h.val * 1; omega
      | ⟨1, _⟩ => show l.val = 0 + l.val * 1; omega
      | ⟨2, _⟩ => show o.val = 0 + o.val * 1; omega
    · exact shapeCast_apply _ _ _ _ (by rw [pos3, pos2]; rfl)
  · rw [lane_of_ge _ _ _ hl, ← zero_at (Shape.Idx.first h_S_)]
    refine pad_apply_of_not_inside _ _ _ _ _ _ _ _ 1 ?_
    show ¬(0 ≤ l.val ∧ (l.val - 0) % 1 = 0 ∧ (l.val - 0) / 1 < 96)
    omega

/-- The padded taps at a lane. -/
theorem padT_at (x : FVec Ideal S768x1x5x5 .f32) (s : Fin 25) (h : Fin 8) (l : Fin 128) :
    padT x (ix3 s h l) = lane (fun ch => x (ix4 ch 0 (⟨s.val / 5, by omega⟩ : Fin 5) (⟨s.val % 5, by omega⟩ : Fin 5))) h l := by
  unfold padT
  rw [shapeCast_shapeCast]
  by_cases hl : l.val < 96
  · rw [lane_of_lt _ _ _ hl]
    refine (pad_apply_of_inside _ _ _ _ _ _ _ _ (ix3 s h (⟨l.val, hl⟩ : Fin 96)) fun a => ?_).trans ?_
    · match a with
      | ⟨0, _⟩ => show s.val = 0 + s.val * 1; omega
      | ⟨1, _⟩ => show h.val = 0 + h.val * 1; omega
      | ⟨2, _⟩ => show l.val = 0 + l.val * 1; omega
    refine (shapeCast_apply _ _ _ (ix2 s (chan h ⟨l.val, hl⟩)) (by
      rw [pos3, pos2]; show s.val * 768 + (h.val * 96 + l.val) = (s.val * 8 + h.val) * 96 + l.val; omega)).trans ?_
    refine (transpose_apply _ _ _ _ (ix2 (chan h ⟨l.val, hl⟩) s) fun a => ?_).trans ?_
    · match a with
      | ⟨0, _⟩ => rfl
      | ⟨1, _⟩ => rfl
    · exact shapeCast_apply _ _ _ _ (by
        rw [pos4, pos2]; show (((h.val * 96 + l.val) * 1 + 0) * 5 + s.val / 5) * 5 + s.val % 5 = (h.val * 96 + l.val) * 25 + s.val; omega)
  · rw [lane_of_ge _ _ _ hl, ← zero_at (Shape.Idx.first h_S_)]
    refine pad_apply_of_not_inside _ _ _ _ _ _ _ _ 2 ?_
    show ¬(0 ≤ l.val ∧ (l.val - 0) % 1 = 0 ∧ (l.val - 0) / 1 < 96)
    omega

/-- The padded convolution bias at a lane. -/
theorem padL_at (x : FVec Ideal S768 .f32) (h : Fin 8) (l : Fin 128) :
    padL x (ix3 0 h l) = lane (fun ch => x (ix1 ch)) h l := by
  unfold padL
  refine (shapeCast_apply _ _ (ix3 (0 : Fin 1) h l) (ix1 (pc h l))
    (by rw [pos3, Shape.rowMajor_val_one]; show h.val * 128 + l.val = (0 * 8 + h.val) * 128 + l.val; omega)).trans ?_
  refine (shapeCast_apply _ _ (ix1 (pc h l)) (ix2 h l) (by rw [pos2, Shape.rowMajor_val_one]; rfl)).trans ?_
  by_cases hl : l.val < 96
  · rw [lane_of_lt _ _ _ hl]
    refine (pad_apply_of_inside _ _ _ _ _ _ _ _ (ix2 h (⟨l.val, hl⟩ : Fin 96)) fun a => ?_).trans ?_
    · match a with
      | ⟨0, _⟩ => show h.val = 0 + h.val * 1; omega
      | ⟨1, _⟩ => show l.val = 0 + l.val * 1; omega
    · exact shapeCast_apply _ _ _ _ (by rw [pos2, Shape.rowMajor_val_one]; rfl)
  · rw [lane_of_ge _ _ _ hl, ← zero_at (Shape.Idx.first h_S_)]
    refine pad_apply_of_not_inside _ _ _ _ _ _ _ _ 1 ?_
    show ¬(0 ≤ l.val ∧ (l.val - 0) % 1 = 0 ∧ (l.val - 0) / 1 < 96)
    omega

/-- The output bias as a row. -/
theorem rowO_at (x : FVec Ideal S768 .f32) (o : Fin 768) : shapeCast S1x768 x shapeCasts_S768_S1x768 (ix2 0 o) = x (ix1 o) :=
  shapeCast_apply _ _ _ _ (by rw [pos2, Shape.rowMajor_val_one]; show o.val = 0 * 768 + o.val; omega)

end Cert.HostRead

end
-- ==== Proof.KLoads.lean ====
/- What the body's loads read: the point's image, the padded weights, and the windows the routing table names. -/
module

public import proofs.«01_k».proof.Proof.KBodyEq
public import proofs.«01_k».proof.Proof.KSpec
public import proofs.«01_k».proof.Proof.HostRead
public import proofs.«01_k».proof.Proof.IdealRange
public import Idealize.ShloMosaic.Lib.VecWindow

@[expose] public section

set_option maxRecDepth 8192

noncomputable section

namespace Cert.KLoads

open Idealize.ShloMosaic hiding ix1 ix2 ix3 ix4 ix5 ix6 eq_ix1 eq_ix2 eq_ix3 eq_ix4 eq_ix5 eq_ix6
open Idealize.ShloMosaic.ValueIdx Idealize.ShloMosaic.TcCoe
open Cert.KernelIdeal Cert.KernelIdeal.Gen Cert.Spec Cert.Pos Cert.Lane Cert.KBody

variable (m : (ℓ : Loc nD τ sig) → Buf (Elt Ideal) ℓ) (hO : Ok m) (c : Dev nD) (t : Fin (cfgM m hO).N)

/-- The image a point works on. -/
def img : Fin 16 := grid0.coords t 0

/-- The point's block of the images is its image. -/
theorem blk0 (n : Fin 1024) (k : Fin 768) :
    iblk m hO c 0 t (ix3 0 n k) = V m c main_arg1 (ix3 (img m hO t) n k) := by
  unfold iblk
  refine congrArg (V m c main_arg1) (at3 ?_ ?_ ?_)
  · show (BitVec.ofNat 32 (grid0.coords t 0).val).toNat * 1 + 1 * 0 = (grid0.coords t 0).val
    have : (grid0.coords t 0).val < 16 := (grid0.coords t 0).isLt
    rw [BitVec.toNat_ofNat]; omega
  · show 0 * 1024 + 1 * n.val = n.val; omega
  · show 0 * 768 + 1 * k.val = k.val; omega

/-- The block of the projection's weights is the whole array. -/
theorem blk1 (y : S768x3072.Idx) : iblk m hO c 1 t y = V m c main_v3 y := by
  unfold iblk
  refine congrArg (V m c main_v3) (funext fun a => Fin.ext ?_)
  match a with
  | ⟨0, _⟩ => show 0 * 768 + 1 * (y 0).val = (y 0).val; omega
  | ⟨1, _⟩ => show 0 * 3072 + 1 * (y 1).val = (y 1).val; omega

/-- The block of the projection's bias is the whole array. -/
theorem blk2 (y : S1x3072.Idx) : iblk m hO c 2 t y = V m c main_v7 y := by
  unfold iblk
  refine congrArg (V m c main_v7) (funext fun a => Fin.ext ?_)
  match a with
  | ⟨0, _⟩ => show 0 * 1 + 1 * (y 0).val = (y 0).val; omega
  | ⟨1, _⟩ => show 0 * 3072 + 1 * (y 1).val = (y 1).val; omega

/-- The block of the taps is the whole array. -/
theorem blk3 (y : S25x8x128.Idx) : iblk m hO c 3 t y = V m c main_v17 y := by
  unfold iblk
  refine congrArg (V m c main_v17) (funext fun a => Fin.ext ?_)
  match a with
  | ⟨0, _⟩ => show 0 * 25 + 1 * (y 0).val = (y 0).val; omega
  | ⟨1, _⟩ => show 0 * 8 + 1 * (y 1).val = (y 1).val; omega
  | ⟨2, _⟩ => show 0 * 128 + 1 * (y 2).val = (y 2).val; omega

/-- The block of the convolution's bias is the whole array. -/
theorem blk4 (y : S1x8x128.Idx) : iblk m hO c 4 t y = V m c main_v21 y := by
  unfold iblk
  refine congrArg (V m c main_v21) (funext fun a => Fin.ext ?_)
  match a with
  | ⟨0, _⟩ => show 0 * 1 + 1 * (y 0).val = (y 0).val; omega
  | ⟨1, _⟩ => show 0 * 8 + 1 * (y 1).val = (y 1).val; omega
  | ⟨2, _⟩ => show 0 * 128 + 1 * (y 2).val = (y 2).val; omega

/-- The block of the output projection's weights is the whole array. -/
theorem blk5 (y : S1024x768.Idx) : iblk m hO c 5 t y = V m c main_v11 y := by
  unfold iblk
  refine congrArg (V m c main_v11) (funext fun a => Fin.ext ?_)
  match a with
  | ⟨0, _⟩ => show 0 * 1024 + 1 * (y 0).val = (y 0).val; omega
  | ⟨1, _⟩ => show 0 * 768 + 1 * (y 1).val = (y 1).val; omega

/-- The block of the output projection's bias is the whole array. -/
theorem blk6 (y : S1x768.Idx) : iblk m hO c 6 t y = V m c main_v22 y := by
  unfold iblk
  refine congrArg (V m c main_v22) (funext fun a => Fin.ext ?_)
  match a with
  | ⟨0, _⟩ => show 0 * 1 + 1 * (y 0).val = (y 0).val; omega
  | ⟨1, _⟩ => show 0 * 768 + 1 * (y 1).val = (y 1).val; omega

/-- The image's load. -/
theorem ldX_at (n : Fin 1024) (k : Fin 768) : ldX m hO c t (ix3 0 n k) = V m c main_arg1 (ix3 (img m hO t) n k) := by
  unfold ldX
  rw [View.readAt_full]
  exact (congrFun ((hs0_0 m hO t).read_unread (iblk m hO c 0 t)) _).trans (blk0 m hO c t n k)

/-- The load of a section of the projection's weights. -/
theorem ldW_at (o : ℕ) (h : ∀ a, ![0, o] a + S768x1024.size a ≤ S768x3072.size a) (k : Fin 768) (j : Fin 1024) (o' : Fin 3072)
    (ho : o'.val = o + j.val) : ldW m hO c t o h (ix2 k j) = V m c main_v3 (ix2 k o') := by
  unfold ldW
  rw [View.readAt_apply]
  refine (congrFun ((hs0_1 m hO t).read_unread (iblk m hO c 1 t)) _).trans ((blk1 m hO c t _).trans ?_)
  refine congrArg (V m c main_v3) (at2 ?_ ?_)
  · show 0 + 1 * k.val = k.val; omega
  · show o + 1 * j.val = o'.val; omega

/-- The load of a section of the projection's bias. -/
theorem ldB_at (o : ℕ) (h : ∀ a, ![0, o] a + S1x1024.size a ≤ S1x3072.size a) (j : Fin 1024) (o' : Fin 3072)
    (ho : o'.val = o + j.val) : ldB m hO c t o h (ix2 0 j) = V m c main_v7 (ix2 0 o') := by
  unfold ldB
  rw [View.readAt_apply]
  refine (congrFun ((hs0_2 m hO t).read_unread (iblk m hO c 2 t)) _).trans ((blk2 m hO c t _).trans ?_)
  refine congrArg (V m c main_v7) (at2 ?_ ?_)
  · rfl
  · show o + 1 * j.val = o'.val; omega

/-- The load of a tap. -/
theorem ldTap_at (s : Fin 25) (h : Fin 8) (l : Fin 128) : ldTap m hO c t s (ix3 0 h l) = V m c main_v17 (ix3 s h l) := by
  unfold ldTap
  rw [View.readAt_apply]
  refine (congrFun ((hs0_3 m hO t).read_unread (iblk m hO c 3 t)) _).trans ((blk3 m hO c t _).trans ?_)
  refine congrArg (V m c main_v17) (at3 ?_ ?_ ?_)
  · rfl
  · show 0 + 1 * h.val = h.val; omega
  · show 0 + 1 * l.val = l.val; omega

/-- The load of the convolution's bias. -/
theorem ldLb_at (y : S1x8x128.Idx) : ldLb m hO c t y = V m c main_v21 y := by
  unfold ldLb
  rw [View.readAt_full]
  exact (congrFun ((hs0_4 m hO t).read_unread (iblk m hO c 4 t)) y).trans (blk4 m hO c t y)

/-- The load of the output projection's weights. -/
theorem ldWo_at (y : S1024x768.Idx) : ldWo m hO c t y = V m c main_v11 y := by
  unfold ldWo
  rw [View.readAt_full]
  exact (congrFun ((hs0_5 m hO t).read_unread (iblk m hO c 5 t)) y).trans (blk5 m hO c t y)

/-- The load of the output projection's bias. -/
theorem ldBo_at (y : S1x768.Idx) : ldBo m hO c t y = V m c main_v22 y := by
  unfold ldBo
  rw [View.readAt_full]
  exact (congrFun ((hs0_6 m hO t).read_unread (iblk m hO c 6 t)) y).trans (blk6 m hO c t y)

/-- The place of a window's gather: the named region's row and column of windows. -/
theorem off2_at (n : Fin 16) : k0_off2 (BitVec.ofNat 32 n.val) = ![n.val / 4, 0, n.val % 4, 0, 0] := by
  revert n; decide +kernel

/-- A window's load reads the region the routing table names. -/
theorem ldWin_at (hw : ∀ r k, k0_chk1 (tw m (grid0.coords t) r k)) (M : Memref sig .tc .vmem S4x8x4x8x1024 .bf16)
    (X : FVec Ideal S4x8x4x8x1024 .bf16) (r : Fin 16) (k : Fin 4) (n : Fin 16)
    (hn : tw m (grid0.coords t) r k = BitVec.ofNat 32 n.val) (y x : Fin 8) (o : Fin 1024) :
    ldWin m hO t hw M X r k (ix5 0 y 0 x o) = X (ix5 (⟨n.val / 4, by omega⟩ : Fin 4) y (⟨n.val % 4, by omega⟩ : Fin 4) x o) := by
  unfold ldWin
  rw [View.readAt_apply, View.read_writes_full]
  have e : k0_off2 (tw m (grid0.coords t) r k) = ![n.val / 4, 0, n.val % 4, 0, 0] := by rw [hn, off2_at]
  refine congrArg X (at5 ?_ ?_ ?_ ?_ ?_)
  · show k0_off2 (tw m (grid0.coords t) r k) 0 + 1 * 0 = _; rw [e]; rfl
  · show k0_off2 (tw m (grid0.coords t) r k) 1 + 1 * y.val = _; rw [e]; show 0 + 1 * y.val = y.val; omega
  · show k0_off2 (tw m (grid0.coords t) r k) 2 + 1 * 0 = _; rw [e]; rfl
  · show k0_off2 (tw m (grid0.coords t) r k) 3 + 1 * x.val = _; rw [e]; show 0 + 1 * x.val = x.val; omega
  · show k0_off2 (tw m (grid0.coords t) r k) 4 + 1 * o.val = _; rw [e]; show 0 + 1 * o.val = o.val; omega

/-- The table's word for a region's route. -/
theorem tw_at (i : grid0.Coords) (r : Fin 16) (k : Fin 4) :
    tw m i r k = m (((0 : Dev nD) : Thread nD τ).loc main_arg0) (ix3 (show Fin 16 from i 0) (⟨k.val, by omega⟩ : Fin 8) r) := by
  have key : ∀ f : TbBuf0 (F := Ideal) (0 : Dev nD) tbM0_0, f = m (((0 : Dev nD) : Thread nD τ).loc main_arg0) →
      tbM0_0.view.readAt (Elt Ideal) (Rect.unit (s := S16x8x16) (toff i r k) S1x1x1.size (toff_inb i r k)).toLoadRect f
        (Shape.Idx.first (numel1_S1x1x1.symm ▸ Nat.one_pos))
        = m (((0 : Dev nD) : Thread nD τ).loc main_arg0) (ix3 (show Fin 16 from i 0) (⟨k.val, by omega⟩ : Fin 8) r) := by
    rintro f rfl
    rw [View.readAt_apply]
    have hi : ∀ n : Fin 16, (Scalar.indexCast (BitVec.ofNat 32 n.val)).toNat = n.val := by decide +kernel
    refine congrArg (m (((0 : Dev nD) : Thread nD τ).loc main_arg0)) (at3 ?_ ?_ ?_)
    · show (Scalar.indexCast (BitVec.ofNat 32 (i 0).val)).toNat + 1 * 0 = _
      exact hi (show Fin 16 from i 0)
    · rfl
    · rfl
  exact key (tbl m 0) (V_main_arg0 m 0)

/-- Under the pieces before, the value every piece at the place gives. -/
theorem canon_hit {S : Shape} (L L' : List (View.Piece (Elt Ideal) S .bf16)) (y : S.Idx) (v : EReal)
    (hc : ∃ p ∈ L, y ∈ p.1.set) (h : ∀ p ∈ L, ∀ x, p.1.emb x = y → p.2 x = v) : View.canon (L ++ L') y = v := by
  induction L with
  | nil => obtain ⟨p, hp, _⟩ := hc; exact absurd hp List.not_mem_nil
  | cons p L ih =>
    by_cases hm : y ∈ p.1.set
    · obtain ⟨x, rfl⟩ := p.1.exists_idx_of_mem hm
      rw [List.cons_append, show p.1.idx x = p.1.emb x from rfl, View.canon_cons_emb]
      exact h p List.mem_cons_self x rfl
    · rw [List.cons_append, View.canon_cons_of_not_mem _ _ hm]
      obtain ⟨q, hq, hy⟩ := hc
      rcases List.mem_cons.mp hq with rfl | hq'
      · exact absurd hy hm
      · exact ih ⟨q, hq', hy⟩ fun p' hp' => h p' (List.mem_cons_of_mem _ hp')

/-- Off the pieces before, the value the later ones give. -/
theorem canon_miss {S : Shape} (L L' : List (View.Piece (Elt Ideal) S .bf16)) (y : S.Idx)
    (h : ∀ p ∈ L, y ∉ p.1.set) : View.canon (L ++ L') y = View.canon L' y := by
  induction L with
  | nil => rfl
  | cons p L ih =>
    rw [List.cons_append, View.canon_cons_of_not_mem _ _ (h p List.mem_cons_self)]
    exact ih fun q hq => h q (List.mem_cons_of_mem _ hq)

/-- A row of the values lies in the values. -/
theorem row_slices (k : Fin 32) : S1024x8x128.Slices ![(31 - k.val) * 32, 0, 0] S32x8x128 := by
  revert k; decide

/-- A row of the values, as the store into the padded image has it. -/
theorem row_at (v : FVec Ideal S1024x1024 .bf16) (k : Fin 32) (hs : S1024x8x128.Slices ![(31 - k.val) * 32, 0, 0] S32x8x128)
    (x : Fin 32) (h : Fin 8) (l : Fin 128) :
    shapeCast S32x8x128 (extractStridedSlice S32x8x128 ![(31 - k.val) * 32, 0, 0]
      (shapeCast S1024x8x128 v shapeCasts_S1024x1024_S1024x8x128) hs) shapeCasts_S32x8x128_S32x8x128 (ix3 x h l)
      = v (ix2 (⟨(31 - k.val) * 32 + x.val, by omega⟩ : Fin 1024) (pc h l)) := by
  rw [shapeCast_self]
  have e1 := extractStridedSlice_apply (t := S32x8x128) ![(31 - k.val) * 32, 0, 0] (shapeCast S1024x8x128 v shapeCasts_S1024x1024_S1024x8x128) hs
    (ix3 x h l) (ix3 (⟨(31 - k.val) * 32 + x.val, by omega⟩ : Fin 1024) h l) fun b => by
      match b with
      | ⟨0, _⟩ => rfl
      | ⟨1, _⟩ => exact (Nat.zero_add _).symm
      | ⟨2, _⟩ => exact (Nat.zero_add _).symm
  have e2 := shapeCast_apply v shapeCasts_S1024x1024_S1024x8x128 (ix3 (⟨(31 - k.val) * 32 + x.val, by omega⟩ : Fin 1024) h l)
    (ix2 (⟨(31 - k.val) * 32 + x.val, by omega⟩ : Fin 1024) (pc h l)) (by rw [pos2, pos3]; dsimp only [pc]; omega)
  exact e1.trans e2

/-- The padded image holds the values' image with a border of zeros. -/
theorem pad_at (A : Args) (b : Fin 16) (v : FVec Ideal S1024x1024 .bf16)
    (hv : ∀ n h l, v (ix2 n (pc h l)) = lane (fun ch => A.proj b n (col 2 ch)) h l) (q : Fin 1332) (h : Fin 8) (l : Fin 128) :
    View.canon (padPieces (F := Ideal) v) (ix3 q h l) = lane (fun ch => A.bordered b (q.val / 36) (q.val % 36) ch) h l := by
  unfold padPieces
  by_cases hq : (2 ≤ q.val / 36 ∧ q.val / 36 < 34) ∧ (2 ≤ q.val % 36 ∧ q.val % 36 < 34)
  · have hval : lane (fun ch => A.bordered b (q.val / 36) (q.val % 36) ch) h l
        = v (ix2 (⟨(q.val / 36 - 2) * 32 + (q.val % 36 - 2), by omega⟩ : Fin 1024) (pc h l)) := by
      rw [hv]
      refine congrArg (fun f => lane f h l) (funext fun ch => ?_)
      unfold Args.bordered
      exact dif_pos hq
    rw [hval]
    refine canon_hit _ _ _ _ ⟨_, (List.mem_ofFn).mpr ⟨⟨33 - q.val / 36, by omega⟩, rfl⟩, ?_⟩ fun p hp => ?_
    · have hmem : ∀ inb, ix3 q h l ∈ (Rect.unit (s := S1332x8x128) ![(31 - (33 - q.val / 36)) * 36 + 74, 0, 0] S32x8x128.size inb).set := by
        intro inb
        refine Rect.mem_set_unit.mpr fun a => ?_
        match a with
        | ⟨0, _⟩ =>
          show (31 - (33 - q.val / 36)) * 36 + 74 ≤ q.val ∧ q.val < (31 - (33 - q.val / 36)) * 36 + 74 + 32
          omega
        | ⟨1, _⟩ => show 0 ≤ h.val ∧ h.val < 0 + 8; omega
        | ⟨2, _⟩ => show 0 ≤ l.val ∧ l.val < 0 + 128; omega
      exact hmem fun a => by
        match a with
        | ⟨0, _⟩ => show (31 - (33 - q.val / 36)) * 36 + 74 + 32 ≤ 1332; omega
        | ⟨1, _⟩ => exact le_refl 8
        | ⟨2, _⟩ => exact le_refl 128
    · obtain ⟨k, rfl⟩ := (List.mem_ofFn).mp hp
      intro x hx
      have h0 : (31 - k.val) * 36 + 74 + 1 * (x 0).val = q.val := congrArg (fun z : S1332x8x128.Idx => (z 0).val) hx
      have h1 : 0 + 1 * (x 1).val = h.val := congrArg (fun z : S1332x8x128.Idx => (z 1).val) hx
      have h2 : 0 + 1 * (x 2).val = l.val := congrArg (fun z : S1332x8x128.Idx => (z 2).val) hx
      have hx0 : (x 0).val < 32 := (x 0).isLt
      have ex : x = ix3 (⟨(x 0).val, hx0⟩ : Fin 32) h l := at3 rfl (by omega) (by omega)
      rw [ex]
      refine (row_at v k (row_slices k) ⟨(x 0).val, hx0⟩ h l).trans ?_
      refine congrArg (fun z => v (ix2 z (pc h l))) (Fin.ext ?_)
      show (31 - k.val) * 32 + (x 0).val = (q.val / 36 - 2) * 32 + (q.val % 36 - 2)
      omega
  · have hval : lane (fun ch => A.bordered b (q.val / 36) (q.val % 36) ch) h l = 0 := by
      have hb : ∀ ch, A.bordered b (q.val / 36) (q.val % 36) ch = 0 := fun ch => by
        unfold Args.bordered; exact dif_neg hq
      unfold lane
      split
      · exact hb _
      · rfl
    rw [hval, canon_miss]
    · refine (congrFun (View.canon_cons_unit_zero (by funext a; fin_cases a <;> rfl) _ _ _) _).trans ?_
      unfold k0_pay9
      rw [shapeCast_self]
      show Ideal.ofBits .bf16 0x0000#16 = 0
      simp [Ideal.ofBits, Ideal.ieee]
    · intro p hp hm
      obtain ⟨k, rfl⟩ := (List.mem_ofFn).mp hp
      have h0 := Rect.mem_set_unit (inb := fun a => by
        match a with
        | ⟨0, _⟩ => show (31 - k.val) * 36 + 74 + 32 ≤ 1332; omega
        | ⟨1, _⟩ => exact le_refl 8
        | ⟨2, _⟩ => exact le_refl 128) |>.mp hm 0
      have h0' : (31 - k.val) * 36 + 74 ≤ q.val ∧ q.val < (31 - k.val) * 36 + 74 + 32 := h0
      omega

/-- What a point's body works on: the routes and arrays of the arguments, at the core's launch contents. -/
def Holds (A : Args) : Prop :=
  A.Reads (m (((0 : Dev nD) : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

variable {A : Args} (hA : Holds m c A)
include hA

/-- The image's load reads the image. -/
theorem ldX_spec (n : Fin 1024) (k : Fin 768) : ldX m hO c t (ix3 0 n k) = A.x (img m hO t) n k := by
  rw [ldX_at, V_main_arg1]; exact hA.x _ _ _

/-- A section of the projection's weights, each head's columns padded by zeros. -/
theorem ldW_spec (s : Fin 3) (o : ℕ) (ho : o = s.val * 1024) (h : ∀ a, ![0, o] a + S768x1024.size a ≤ S768x3072.size a)
    (k : Fin 768) (hd : Fin 8) (l : Fin 128) :
    ldW m hO c t o h (ix2 k (pc hd l)) = lane (fun ch => A.W k (col s ch)) hd l := by
  rw [ldW_at m hO c t o h k (pc hd l) ⟨s.val * 1024 + (hd.val * 128 + l.val), by omega⟩ (by show s.val * 1024 + (hd.val * 128 + l.val) = o + (hd.val * 128 + l.val); omega), HostRead.V_v3]
  refine (HostRead.padW_at _ k s hd l _ rfl).trans ?_
  exact congrArg (fun f => lane f hd l) (funext fun ch => hA.W _ _)

/-- A section of the projection's bias, each head's columns padded by zeros. -/
theorem ldB_spec (s : Fin 3) (o : ℕ) (ho : o = s.val * 1024) (h : ∀ a, ![0, o] a + S1x1024.size a ≤ S1x3072.size a)
    (hd : Fin 8) (l : Fin 128) :
    ldB m hO c t o h (ix2 0 (pc hd l)) = lane (fun ch => A.bias (col s ch)) hd l := by
  rw [ldB_at m hO c t o h (pc hd l) ⟨s.val * 1024 + (hd.val * 128 + l.val), by omega⟩ (by show s.val * 1024 + (hd.val * 128 + l.val) = o + (hd.val * 128 + l.val); omega), HostRead.V_v7]
  refine (HostRead.padB_at _ s hd l _ rfl).trans ?_
  exact congrArg (fun f => lane f hd l) (funext fun ch => hA.bias _)

/-- The payload of a section's projection is the padded projection. -/
theorem pay6_spec (s : Fin 3) (o : ℕ) (ho : o = s.val * 1024) (h : ∀ a, ![0, o] a + S768x1024.size a ≤ S768x3072.size a)
    (h' : ∀ a, ![0, o] a + S1x1024.size a ≤ S1x3072.size a) (n : Fin 1024) (hd : Fin 8) (l : Fin 128) :
    k0_pay6 (ldX m hO c t) (ldW m hO c t o h) (ldB m hO c t o h') (ix2 n (pc hd l))
      = lane (fun ch => A.proj (img m hO t) n (col s ch)) hd l :=
  KSpec.proj_at A (img m hO t) _ _ _ s (ldX_spec m hO c t hA) (ldW_spec m hO c t hA s o ho h) (ldB_spec m hO c t hA s o ho h') n hd l

/-- The table's word is the route. -/
theorem tw_spec (r : Fin 16) (k : Fin 4) :
    tw m (grid0.coords t) r k = BitVec.ofNat 32 (A.route (img m hO t) r k).val :=
  (tw_at m (grid0.coords t) r k).trans (hA.route _ _ _)

/-- The window of a route, flattened, holds the routed region's tokens. -/
theorem win_spec (hw : ∀ r k, k0_chk1 (tw m (grid0.coords t) r k)) (M : Memref sig .tc .vmem S4x8x4x8x1024 .bf16)
    (v : FVec Ideal S1024x1024 .bf16) (s : Fin 3)
    (hv : ∀ n h l, v (ix2 n (pc h l)) = lane (fun ch => A.proj (img m hO t) n (col s ch)) h l)
    (hs : S1024x1024.ShapeCasts S4x8x4x8x1024) (r : Fin 16) (k : Fin 4) (p : Fin 64) (h : Fin 8) (l : Fin 128) :
    flat (ldWin m hO t hw M (shapeCast S4x8x4x8x1024 v hs) r k) (ix2 p (pc h l))
      = lane (fun ch => A.proj (img m hO t) (tok (A.route (img m hO t) r k) p) (col s ch)) h l := by
  rw [KRead.flat_at, ldWin_at m hO t hw M _ r k (A.route (img m hO t) r k) (tw_spec m hO c t hA r k), KRead.grid_at, ← hv]
  rfl

/-- The body's result at a point is the result on its image. -/
theorem bodyAt_spec (hw : ∀ r k, k0_chk1 (tw m (grid0.coords t) r k)) (n : Fin 1024) (o : Fin 768) :
    bodyAt m hO c t hw (ix3 0 n o) = A.out (img m hO t) n o := by
  unfold bodyAt
  dsimp only
  rw [KRead.pay4_eq, KRead.pay5_eq, KRead.pay8_eq]
  refine KSpec.body_at A (img m hO t) _ _ _ _ _ _ _ _ ?_ ?_ ?_ ?_ ?_ ?_ ?_ ?_ n o
  · intro r p h l
    rw [KRead.qwin_at, KRead.grid_at]
    exact pay6_spec m hO c t hA 0 0 rfl _ _ _ h l
  · exact win_spec m hO c t hA hw _ _ 1 (pay6_spec m hO c t hA 1 1024 rfl _ _) _
  · exact win_spec m hO c t hA hw _ _ 2 (pay6_spec m hO c t hA 2 2048 rfl _ _) _
  · intro q h l
    rw [View.readCov_eq_canon']
    refine Eq.trans ?_ (pad_at A (img m hO t) _ (pay6_spec m hO c t hA 2 2048 rfl inb_S768x3072_S768x1024_0_2048 inb_S1x3072_S1x1024_0_2048) q h l)
    refine congrArg _ (at3 ?_ ?_ ?_)
    · show 0 + 1 * q.val = q.val; omega
    · show 0 + 1 * h.val = h.val; omega
    · show 0 + 1 * l.val = l.val; omega
  · intro s h l
    rw [ldTap_at, HostRead.V_v17]
    refine (HostRead.padT_at _ s h l).trans ?_
    exact congrArg (fun f => lane f h l) (funext fun ch => hA.lw _ _ _)
  · intro h l
    rw [ldLb_at, HostRead.V_v21]
    refine (HostRead.padL_at _ h l).trans ?_
    exact congrArg (fun f => lane f h l) (funext fun ch => hA.lb _)
  · intro h l o
    rw [ldWo_at, HostRead.V_v11]
    refine (HostRead.padO_at _ h l o).trans ?_
    exact congrArg (fun f => lane f h l) (funext fun ch => hA.Wo _ _)
  · intro o
    rw [ldBo_at, HostRead.V_v22]
    exact (HostRead.rowO_at _ o).trans (hA.bo _)

/-- The block a point writes back holds the result on its image. -/
theorem outs_spec (hH : Hyps m hO) (hw : ∀ r k, k0_chk1 (tw m (grid0.coords t) r k)) (n : Fin 1024) (o : Fin 768) :
    outsAt0 m hO hH c t (ix3 0 n o) = A.out (img m hO t) n o := by
  rw [outsAt0_eq m hO hH c t hw, View.read_writes_full]
  exact bodyAt_spec m hO c t hA hw n o

end Cert.KLoads

end
-- ==== Proof.RefRead.lean ====
/- The reference read element by element: its result at a token and channel is the specification's. -/
module

public import proofs.«01_k».proof.Proof.Gen.ReferenceIdeal.Read
public import proofs.«01_k».proof.Proof.Spec
public import proofs.«01_k».proof.Proof.Idx
public import Idealize.ShloMosaic.Lib.Pointwise.ShapeOpsCore
public import Idealize.ShloMosaic.Lib.KernelVsHost

@[expose] public section

noncomputable section

open scoped BigOperators

namespace Cert.RefRead

open Idealize.ShloMosaic hiding ix1 ix2 ix3 ix4 ix5 ix6 eq_ix1 eq_ix2 eq_ix3 eq_ix4 eq_ix5 eq_ix6
open Idealize.ShloMosaic.ValueIdx Cert.ReferenceIdeal Cert.ReferenceIdeal.Gen Cert.Spec Cert.Pos
open Cert.ReferenceIdeal.Read

variable {A : Args}
  {x0 : (⟨S16x8x16, .i32⟩ : BufTy).Contents (Elt Ideal)} {x1 : (⟨S16x1024x768, .f32⟩ : BufTy).Contents (Elt Ideal)}
  {x2 : (⟨S768x2304, .f32⟩ : BufTy).Contents (Elt Ideal)} {x3 : (⟨S2304, .f32⟩ : BufTy).Contents (Elt Ideal)}
  {x4 : (⟨S768x768, .f32⟩ : BufTy).Contents (Elt Ideal)} {x5 : (⟨S768, .f32⟩ : BufTy).Contents (Elt Ideal)}
  {x6 : (⟨S768x1x5x5, .f32⟩ : BufTy).Contents (Elt Ideal)} {x7 : (⟨S768, .f32⟩ : BufTy).Contents (Elt Ideal)}
  (hA : A.Reads x0 x1 x2 x3 x4 x5 x6 x7)

/-- The constant under the root is 96. -/
theorem ofBits_96 : Ideal.ofBits .f32 0x42C00000#32 = ((96 : ℝ) : EReal) := by
  simp [Ideal.ofBits, Ideal.ieee, -EReal.coe_mul]; norm_num

/-- The zero pattern is zero. -/
theorem ofBits_zero : Ideal.ofBits .f32 0x00000000#32 = 0 := by
  simp [Ideal.ofBits, Ideal.ieee]

/-- The pattern of negative infinity is the least extended real. -/
theorem ofBits_bot : Ideal.ofBits .f32 0xFF800000#32 = ⊥ := by
  simp [Ideal.ofBits, Ideal.ieee]

/-- The reference's scale is the inverse of the root of 96. -/
theorem v0_at (i : S_.Idx) : val_main_v0 (F := Ideal) i = scale := by
  show Ideal.rsqrt (Ideal.ofBits .f32 0x42C00000#32) = scale
  rw [ofBits_96, Ideal.rsqrt_coe, if_neg (by norm_num), if_neg (by norm_num)]
  rfl

/-- The tokens cut into regions. -/
theorem v4_at (b r : Fin 16) (p : Fin 64) (c : Fin 768) :
    val_main_v4 x1 (ix4 b r p c) = x1 (ix3 b (tok r p) c) := by
  unfold val_main_v4
  refine (shapeCast_apply _ _ _ (ix6 b (⟨r.val / 4, by omega⟩ : Fin 4) (⟨r.val % 4, by omega⟩ : Fin 4)
    (⟨p.val / 8, by omega⟩ : Fin 8) (⟨p.val % 8, by omega⟩ : Fin 8) c) ?_).trans ?_
  · rw [pos6, pos4]; dsimp only; omega
  rw [val_main_v3_apply, show idx_main_v3 (ix6 b (⟨r.val / 4, by omega⟩ : Fin 4) (⟨r.val % 4, by omega⟩ : Fin 4)
    (⟨p.val / 8, by omega⟩ : Fin 8) (⟨p.val % 8, by omega⟩ : Fin 8) c) = ix6 b (⟨r.val / 4, by omega⟩ : Fin 4)
    (⟨p.val / 8, by omega⟩ : Fin 8) (⟨r.val % 4, by omega⟩ : Fin 4) (⟨p.val % 8, by omega⟩ : Fin 8) c from
      at6 rfl rfl rfl rfl rfl rfl]
  unfold val_main_v2
  refine (shapeCast_apply _ _ _ (ix4 b (⟨r.val / 4 * 8 + p.val / 8, by omega⟩ : Fin 32)
    (⟨r.val % 4 * 8 + p.val % 8, by omega⟩ : Fin 32) c) ?_).trans ?_
  · rw [pos4, pos6]; dsimp only; omega
  unfold val_main_v1
  refine shapeCast_apply _ _ _ _ ?_
  rw [pos3, pos4]; dsimp only [tok]; omega

include hA

/-- The joint projection. -/
theorem v8_at (b r : Fin 16) (p : Fin 64) (o : Fin 2304) :
    val_main_v8 x1 x2 x3 (ix4 b r p o) = A.proj b (tok r p) o := by
  rw [val_main_v8_apply, val_main_v5_apply, val_main_v7_apply, val_main_v6_apply]
  rw [show idx_main_v6 (idx_main_v7 (ix4 b r p o)) = ix1 o from eq_ix1 _, hA.bias]
  refine congrArg (· + _) (Finset.sum_congr rfl fun k _ => ?_)
  rw [show lidx_main_v5 (ix4 b r p o) k = ix4 b r p k from at4 rfl rfl rfl rfl,
    show ridx_main_v5 (ix4 b r p o) k = ix2 k o from at2 rfl rfl, v4_at, hA.x, hA.W]

/-- The queries. -/
theorem v9_at (b r : Fin 16) (p : Fin 64) (ch : Fin 768) :
    val_main_v9 x1 x2 x3 (ix4 b r p ch) = A.proj b (tok r p) (col 0 ch) := by
  rw [val_main_v9_apply, ← v8_at hA]
  exact congrArg _ (at4 rfl rfl rfl (by show ch.val = 0 * 768 + ch.val; omega))

/-- The keys. -/
theorem v10_at (b r : Fin 16) (p : Fin 64) (ch : Fin 768) :
    val_main_v10 x1 x2 x3 (ix4 b r p ch) = A.proj b (tok r p) (col 1 ch) := by
  rw [val_main_v10_apply, ← v8_at hA]
  exact congrArg _ (at4 rfl rfl rfl (by show 768 + ch.val = 1 * 768 + ch.val; omega))

/-- The values. -/
theorem v11_at (b r : Fin 16) (p : Fin 64) (ch : Fin 768) :
    val_main_v11 x1 x2 x3 (ix4 b r p ch) = A.proj b (tok r p) (col 2 ch) := by
  rw [val_main_v11_apply, ← v8_at hA]
  exact congrArg _ (at4 rfl rfl rfl (by show 1536 + ch.val = 2 * 768 + ch.val; omega))

/-- The routes, as the gathers of the keys read them. -/
theorem v18_at (b r : Fin 16) (t : Fin 4) : val_main_v18 x0 (ix3 b r t) = BitVec.ofNat 32 (A.route b r t).val := by
  have h : val_main_v13 x0 (ix3 b r t) = BitVec.ofNat 32 (A.route b r t).val := by
    rw [val_main_v13_apply, val_main_v12_apply, ← hA.route]
    exact congrArg x0 (at3 (by simp [idx_main_v12, idx_main_v13]) (by simp [idx_main_v12, idx_main_v13]) (by simp [idx_main_v12, idx_main_v13]))
  rw [val_main_v18_apply, val_main_v15_apply, val_main_v17_apply, h, val_main_v14_apply, val_main_v16_apply,
    val_main_c_apply, val_main_c_0_apply]
  generalize A.route b r t = n
  revert n; decide

/-- The routes, as the gathers of the values read them. -/
theorem v26_at (b r : Fin 16) (t : Fin 4) : val_main_v26 x0 (ix3 b r t) = BitVec.ofNat 32 (A.route b r t).val :=
  v18_at hA b r t

omit hA in
/-- A gather of regions at an index: the region the table names, its token and channel kept. -/
theorem gather_at (K : S16x16x64x768.Idx → EReal) (I : IVec S16x16x4x1 32) (b r : Fin 16) (t : Fin 4) (p : Fin 64)
    (c : Fin 768) (n : Fin 16) (hn : I (ix4 b r t 0) = BitVec.ofNat 32 n.val) :
    Host.gather gather_S16x16x64x768_S16x16x4x1_S16x16x4x64x768_34_1_0_0_1_3_1164768 K I (ix5 b r t p c)
      = K (ix4 b n p c) := by
  unfold Host.gather
  refine congrArg K (at4 ?_ ?_ ?_ ?_)
  · show GatherDims.start gather_S16x16x64x768_S16x16x4x1_S16x16x4x64x768_34_1_0_0_1_3_1164768 (ix5 b r t p c) I 0
      + GatherDims.batchCoord gather_S16x16x64x768_S16x16x4x1_S16x16x4x64x768_34_1_0_0_1_3_1164768 (ix5 b r t p c) 0
      + GatherDims.offCoord gather_S16x16x64x768_S16x16x4x1_S16x16x4x64x768_34_1_0_0_1_3_1164768 (ix5 b r t p c) 0 = b.val
    have hs : GatherDims.start gather_S16x16x64x768_S16x16x4x1_S16x16x4x64x768_34_1_0_0_1_3_1164768 (ix5 b r t p c) I 0 = 0 := by
      unfold GatherDims.start; exact dif_neg (by decide)
    rw [hs, GatherDims.offCoord_eq_zero _ _ _ (by decide), Nat.zero_add, Nat.add_zero]
    unfold GatherDims.batchCoord
    exact (dif_pos (by decide)).trans rfl
  · show GatherDims.start gather_S16x16x64x768_S16x16x4x1_S16x16x4x64x768_34_1_0_0_1_3_1164768 (ix5 b r t p c) I 1
      + GatherDims.batchCoord gather_S16x16x64x768_S16x16x4x1_S16x16x4x64x768_34_1_0_0_1_3_1164768 (ix5 b r t p c) 1
      + GatherDims.offCoord gather_S16x16x64x768_S16x16x4x1_S16x16x4x64x768_34_1_0_0_1_3_1164768 (ix5 b r t p c) 1 = n.val
    rw [GatherDims.batchCoord_eq_zero _ _ _ (by decide), GatherDims.offCoord_eq_zero _ _ _ (by decide)]
    simp only [Nat.add_zero]
    unfold GatherDims.start
    rw [dif_pos (by decide)]
    have hsi : ∀ k, GatherDims.siIdx gather_S16x16x64x768_S16x16x4x1_S16x16x4x64x768_34_1_0_0_1_3_1164768 (ix5 b r t p c) k
        = ix4 b r t 0 := fun k => by
      have : k = ⟨0, by decide⟩ := Fin.ext (by have := k.isLt; revert this; show k.val < 1 → k.val = 0; omega)
      subst this
      exact at4 rfl rfl rfl rfl
    rw [hsi, hn]
    show min (BitVec.ofNat 32 n.val).toInt.toNat 15 = n.val
    clear hn
    revert n; decide
  · show GatherDims.start gather_S16x16x64x768_S16x16x4x1_S16x16x4x64x768_34_1_0_0_1_3_1164768 (ix5 b r t p c) I 2
      + GatherDims.batchCoord gather_S16x16x64x768_S16x16x4x1_S16x16x4x64x768_34_1_0_0_1_3_1164768 (ix5 b r t p c) 2
      + GatherDims.offCoord gather_S16x16x64x768_S16x16x4x1_S16x16x4x64x768_34_1_0_0_1_3_1164768 (ix5 b r t p c) 2 = p.val
    have hs : GatherDims.start gather_S16x16x64x768_S16x16x4x1_S16x16x4x64x768_34_1_0_0_1_3_1164768 (ix5 b r t p c) I 2 = 0 := by
      unfold GatherDims.start; exact dif_neg (by decide)
    rw [hs, GatherDims.batchCoord_eq_zero _ _ _ (by decide), Nat.zero_add]
    unfold GatherDims.offCoord
    exact (dif_pos (by decide)).trans rfl
  · show GatherDims.start gather_S16x16x64x768_S16x16x4x1_S16x16x4x64x768_34_1_0_0_1_3_1164768 (ix5 b r t p c) I 3
      + GatherDims.batchCoord gather_S16x16x64x768_S16x16x4x1_S16x16x4x64x768_34_1_0_0_1_3_1164768 (ix5 b r t p c) 3
      + GatherDims.offCoord gather_S16x16x64x768_S16x16x4x1_S16x16x4x64x768_34_1_0_0_1_3_1164768 (ix5 b r t p c) 3 = c.val
    have hs : GatherDims.start gather_S16x16x64x768_S16x16x4x1_S16x16x4x64x768_34_1_0_0_1_3_1164768 (ix5 b r t p c) I 3 = 0 := by
      unfold GatherDims.start; exact dif_neg (by decide)
    rw [hs, GatherDims.batchCoord_eq_zero _ _ _ (by decide), Nat.zero_add]
    unfold GatherDims.offCoord
    exact (dif_pos (by decide)).trans rfl

/-- The gathered keys. -/
theorem v21_at (b r : Fin 16) (j : Fin 256) (c : Fin 768) :
    val_main_v21 x0 x1 x2 x3 (ix4 b r j c) = A.proj b (A.keyTok b r j) (col 1 c) := by
  rw [val_main_v21_apply]
  rw [show idx_main_v21 (ix4 b r j c) = ix5 b r (⟨j.val / 64, by omega⟩ : Fin 4) (⟨j.val % 64, by omega⟩ : Fin 64) c from
    at5 (by show (((b.val * 16 + r.val) * 256 + j.val) * 768 + c.val) / 3145728 = b.val; omega)
      (by show (((b.val * 16 + r.val) * 256 + j.val) * 768 + c.val) / 196608 % 16 = r.val; omega)
      (by show (((b.val * 16 + r.val) * 256 + j.val) * 768 + c.val) / 49152 % 4 = j.val / 64; omega)
      (by show (((b.val * 16 + r.val) * 256 + j.val) * 768 + c.val) / 768 % 64 = j.val % 64; omega)
      (by show (((b.val * 16 + r.val) * 256 + j.val) * 768 + c.val) % 768 = c.val; omega)]
  unfold val_main_v20
  rw [gather_at _ _ _ _ _ _ _ (A.route b r ⟨j.val / 64, by omega⟩), v10_at hA]
  · rfl
  rw [val_main_v19_apply, ← v18_at hA]
  exact congrArg _ (at3 rfl rfl rfl)

/-- The gathered values. -/
theorem v29_at (b r : Fin 16) (j : Fin 256) (c : Fin 768) :
    val_main_v29 x0 x1 x2 x3 (ix4 b r j c) = A.proj b (A.keyTok b r j) (col 2 c) := by
  rw [val_main_v29_apply]
  rw [show idx_main_v29 (ix4 b r j c) = ix5 b r (⟨j.val / 64, by omega⟩ : Fin 4) (⟨j.val % 64, by omega⟩ : Fin 64) c from
    at5 (by show (((b.val * 16 + r.val) * 256 + j.val) * 768 + c.val) / 3145728 = b.val; omega)
      (by show (((b.val * 16 + r.val) * 256 + j.val) * 768 + c.val) / 196608 % 16 = r.val; omega)
      (by show (((b.val * 16 + r.val) * 256 + j.val) * 768 + c.val) / 49152 % 4 = j.val / 64; omega)
      (by show (((b.val * 16 + r.val) * 256 + j.val) * 768 + c.val) / 768 % 64 = j.val % 64; omega)
      (by show (((b.val * 16 + r.val) * 256 + j.val) * 768 + c.val) % 768 = c.val; omega)]
  unfold val_main_v28
  rw [gather_at _ _ _ _ _ _ _ (A.route b r ⟨j.val / 64, by omega⟩), v11_at hA]
  · rfl
  rw [val_main_v27_apply, ← v26_at hA]
  exact congrArg _ (at3 rfl rfl rfl)

/-- The scaled queries, by heads. -/
theorem v37_at (b r : Fin 16) (h : Fin 8) (p : Fin 64) (l : Fin 96) :
    val_main_v37 x1 x2 x3 (ix5 b r h p l) = A.proj b (tok r p) (col 0 (chan h l)) * scale := by
  rw [val_main_v37_apply, val_main_v31_apply, val_main_v30_apply, val_main_v36_apply, v0_at, ← v9_at hA]
  refine congrArg (· * scale) (congrArg _ (at4 (by show ((((b.val * 16 + r.val) * 64 + p.val) * 8 + h.val) * 96 + l.val) / 786432 = b.val; omega)
    (by show ((((b.val * 16 + r.val) * 64 + p.val) * 8 + h.val) * 96 + l.val) / 49152 % 16 = r.val; omega) (by show ((((b.val * 16 + r.val) * 64 + p.val) * 8 + h.val) * 96 + l.val) / 768 % 64 = p.val; omega)
    (by show ((((b.val * 16 + r.val) * 64 + p.val) * 8 + h.val) * 96 + l.val) % 768 = h.val * 96 + l.val; omega)))

/-- The gathered keys, by heads. -/
theorem v33_at (b r : Fin 16) (h : Fin 8) (j : Fin 256) (l : Fin 96) :
    val_main_v33 x0 x1 x2 x3 (ix5 b r h j l) = A.proj b (A.keyTok b r j) (col 1 (chan h l)) := by
  rw [val_main_v33_apply, val_main_v32_apply, ← v21_at hA]
  refine congrArg _ (at4 (by show ((((b.val * 16 + r.val) * 256 + j.val) * 8 + h.val) * 96 + l.val) / 3145728 = b.val; omega)
    (by show ((((b.val * 16 + r.val) * 256 + j.val) * 8 + h.val) * 96 + l.val) / 196608 % 16 = r.val; omega) (by show ((((b.val * 16 + r.val) * 256 + j.val) * 8 + h.val) * 96 + l.val) / 768 % 256 = j.val; omega)
    (by show ((((b.val * 16 + r.val) * 256 + j.val) * 8 + h.val) * 96 + l.val) % 768 = h.val * 96 + l.val; omega))

/-- The gathered values, by heads. -/
theorem v35_at (b r : Fin 16) (h : Fin 8) (j : Fin 256) (l : Fin 96) :
    val_main_v35 x0 x1 x2 x3 (ix5 b r h j l) = A.proj b (A.keyTok b r j) (col 2 (chan h l)) := by
  rw [val_main_v35_apply, val_main_v34_apply, ← v29_at hA]
  refine congrArg _ (at4 (by show ((((b.val * 16 + r.val) * 256 + j.val) * 8 + h.val) * 96 + l.val) / 3145728 = b.val; omega)
    (by show ((((b.val * 16 + r.val) * 256 + j.val) * 8 + h.val) * 96 + l.val) / 196608 % 16 = r.val; omega) (by show ((((b.val * 16 + r.val) * 256 + j.val) * 8 + h.val) * 96 + l.val) / 768 % 256 = j.val; omega)
    (by show ((((b.val * 16 + r.val) * 256 + j.val) * 8 + h.val) * 96 + l.val) % 768 = h.val * 96 + l.val; omega))

/-- The scores. -/
theorem v38_at (b r : Fin 16) (h : Fin 8) (p : Fin 64) (j : Fin 256) :
    val_main_v38 x0 x1 x2 x3 (ix5 b r h p j) = A.score b r h p j := by
  rw [val_main_v38_apply]
  refine Finset.sum_congr rfl fun l _ => ?_
  rw [show lidx_main_v38 (ix5 b r h p j) l = ix5 b r h p l from at5 rfl rfl rfl rfl rfl,
    show ridx_main_v38 (ix5 b r h p j) l = ix5 b r h j l from at5 rfl rfl rfl rfl rfl, v37_at hA, v33_at hA]

/-- The greatest score. -/
theorem v41_at (b r : Fin 16) (h : Fin 8) (p : Fin 64) :
    val_main_v41 x0 x1 x2 x3 (ix4 b r h p) = A.top b r h p := by
  rw [val_main_v41_apply, val_main_v40_apply]
  show max (Ideal.ofBits .f32 0xFF800000#32) (Host.reduce (max : EReal → EReal → EReal) (val_main_v38 x0 x1 x2 x3)
    (val_main_cst_3 (F := Ideal)) reducesTo_S16x16x8x64x256_S16x16x8x64_d4 h_S_ (ix4 b r h p)) = _
  rw [ofBits_bot, max_eq_right bot_le,
    Host.reduce_eq_fold_single _ _ _ _ (show S16x16x8x64x256.Reduces [4] S16x16x8x64 by decide)]
  have e : ∀ j : Fin 256, (val_main_v38 x0 x1 x2 x3)
      ((show S16x16x8x64x256.Reduces [4] S16x16x8x64 by decide).lift (ix4 b r h p) j) = A.score b r h p j := fun j => by
    rw [← v38_at hA]; exact congrArg _ (at5 rfl rfl rfl rfl rfl)
  unfold Args.top
  rw [← ofBits_bot]
  exact congrArg (Finset.fold max _ · _) (funext e)

/-- The exponentials. -/
theorem v45_at (b r : Fin 16) (h : Fin 8) (p : Fin 64) (j : Fin 256) :
    val_main_v45 x0 x1 x2 x3 (ix5 b r h p j) = A.expo b r h p j := by
  rw [val_main_v45_apply, val_main_v44_apply, v38_at hA, val_main_v43_apply, val_main_v42_apply,
    show idx_main_v42 (idx_main_v43 (ix5 b r h p j)) = ix4 b r h p from at4 rfl rfl rfl rfl, v41_at hA]
  rfl

/-- The weights. -/
theorem v49_at (b r : Fin 16) (h : Fin 8) (p : Fin 64) (j : Fin 256) :
    val_main_v49 x0 x1 x2 x3 (ix5 b r h p j) = A.prob b r h p j := by
  rw [val_main_v49_apply, v45_at hA, val_main_v48_apply, val_main_v47_apply,
    show idx_main_v47 (idx_main_v48 (ix5 b r h p j)) = ix4 b r h p from at4 rfl rfl rfl rfl, val_main_v46_apply]
  show Ideal.div _ (Ideal.ofBits .f32 0x00000000#32 + _) = _
  rw [ofBits_zero, zero_add]
  refine congrArg (Ideal.div _) (Finset.sum_congr rfl fun k _ => ?_)
  rw [← v45_at hA]
  exact congrArg _ (at5 rfl rfl rfl rfl rfl)

/-- The attention's results, by heads. -/
theorem v50_at (b r : Fin 16) (h : Fin 8) (p : Fin 64) (l : Fin 96) :
    val_main_v50 x0 x1 x2 x3 (ix5 b r h p l) = ∑ j : Fin 256, A.prob b r h p j * A.proj b (A.keyTok b r j) (col 2 (chan h l)) := by
  rw [val_main_v50_apply]
  refine Finset.sum_congr rfl fun j _ => ?_
  rw [show lidx_main_v50 (ix5 b r h p l) j = ix5 b r h p j from at5 rfl rfl rfl rfl rfl,
    show ridx_main_v50 (ix5 b r h p l) j = ix5 b r h j l from at5 rfl rfl rfl rfl rfl, v49_at hA, v35_at hA]

/-- The attention's results. -/
theorem v52_at (b r : Fin 16) (p : Fin 64) (ch : Fin 768) :
    val_main_v52 x0 x1 x2 x3 (ix4 b r p ch) = A.att b r p ch := by
  rw [val_main_v52_apply, val_main_v51_apply,
    show idx_main_v51 (idx_main_v52 (ix4 b r p ch)) = ix5 b r (headOf ch) p (laneOf ch) from
      at5 (by show (((b.val * 16 + r.val) * 64 + p.val) * 768 + ch.val) / 786432 = b.val; omega) (by show (((b.val * 16 + r.val) * 64 + p.val) * 768 + ch.val) / 49152 % 16 = r.val; omega)
        (by show (((b.val * 16 + r.val) * 64 + p.val) * 768 + ch.val) / 96 % 8 = ch.val / 96; omega) (by show (((b.val * 16 + r.val) * 64 + p.val) * 768 + ch.val) / 768 % 64 = p.val; omega)
        (by show (((b.val * 16 + r.val) * 64 + p.val) * 768 + ch.val) % 96 = ch.val % 96; omega), v50_at hA,
    show chan (headOf ch) (laneOf ch) = ch from Fin.ext (by simp only [chan, headOf, laneOf]; omega)]
  rfl

/-- The values as an image. -/
theorem v55_at (b : Fin 16) (y x : Fin 32) (c : Fin 768) :
    val_main_v55 x1 x2 x3 (ix4 b y x c) = A.proj b (⟨y.val * 32 + x.val, by omega⟩ : Fin 1024) (col 2 c) := by
  unfold val_main_v55
  refine (shapeCast_apply _ _ _ (ix6 b (⟨y.val / 8, by omega⟩ : Fin 4) (⟨y.val % 8, by omega⟩ : Fin 8)
    (⟨x.val / 8, by omega⟩ : Fin 4) (⟨x.val % 8, by omega⟩ : Fin 8) c) ?_).trans ?_
  · rw [pos6, pos4]; dsimp only; omega
  rw [val_main_v54_apply, show idx_main_v54 (ix6 b (⟨y.val / 8, by omega⟩ : Fin 4) (⟨y.val % 8, by omega⟩ : Fin 8)
    (⟨x.val / 8, by omega⟩ : Fin 4) (⟨x.val % 8, by omega⟩ : Fin 8) c) = ix6 b (⟨y.val / 8, by omega⟩ : Fin 4)
    (⟨x.val / 8, by omega⟩ : Fin 4) (⟨y.val % 8, by omega⟩ : Fin 8) (⟨x.val % 8, by omega⟩ : Fin 8) c from
      at6 rfl rfl rfl rfl rfl rfl]
  unfold val_main_v53
  refine (shapeCast_apply _ _ _ (ix4 b (⟨y.val / 8 * 4 + x.val / 8, by omega⟩ : Fin 16)
    (⟨y.val % 8 * 8 + x.val % 8, by omega⟩ : Fin 64) c) ?_).trans ?_
  · rw [pos4, pos6]; dsimp only; omega
  rw [v11_at hA]
  refine congrArg (A.proj b · _) (Fin.ext ?_)
  simp only [tok]; omega

omit hA in
/-- The border's value is zero. -/
theorem pad_zero : val_main_call0_v0 (F := Ideal) (Shape.Idx.first h_S_) = 0 := by
  show (((0#32 : BitVec 32).toInt : ℝ) : EReal) = 0
  simp

/-- The values as a bordered image. -/
theorem v56_at (b : Fin 16) (y x : Fin 36) (c : Fin 768) :
    val_main_v56 x1 x2 x3 (ix4 b y x c) = A.bordered b y.val x.val c := by
  unfold val_main_v56
  by_cases h : (2 ≤ y.val ∧ y.val < 34) ∧ (2 ≤ x.val ∧ x.val < 34)
  · refine (pad_apply_of_inside _ _ _ _ _ _ _ _ (ix4 b (⟨y.val - 2, by omega⟩ : Fin 32) (⟨x.val - 2, by omega⟩ : Fin 32) c)
      fun a => match a with
      | ⟨0, _⟩ => by show b.val = 0 + b.val * 1; omega
      | ⟨1, _⟩ => by show y.val = 2 + (y.val - 2) * 1; omega
      | ⟨2, _⟩ => by show x.val = 2 + (x.val - 2) * 1; omega
      | ⟨3, _⟩ => by show c.val = 0 + c.val * 1; omega).trans ?_
    rw [v55_at hA, Args.bordered, dif_pos h]
  · rw [Args.bordered, dif_neg h, ← pad_zero]
    by_cases hy : 2 ≤ y.val ∧ y.val < 34
    · refine pad_apply_of_not_inside _ _ _ _ _ _ _ _ 2 ?_
      show ¬(2 ≤ x.val ∧ (x.val - 2) % 1 = 0 ∧ (x.val - 2) / 1 < 32)
      omega
    · refine pad_apply_of_not_inside _ _ _ _ _ _ _ _ 1 ?_
      show ¬(2 ≤ y.val ∧ (y.val - 2) % 1 = 0 ∧ (y.val - 2) / 1 < 32)
      omega

omit hA in
/-- One product of the convolution: the image moved by `dy`, `dx`, times the tap. -/
def tap (P : S16x36x36x768.Idx → EReal) (x6 : S768x1x5x5.Idx → EReal) (dy dx : Fin 5) : S16x32x32x768.Idx → EReal :=
  mulf (F := Ideal) (φ := .f32) (extractStridedSlice S16x32x32x768 ![0, dy.val, dx.val, 0] P (by revert dy dx; decide))
    (broadcastInDim S16x32x32x768 ![0, 1, 2, 3] bcast_S1x1x1x768_S16x32x32x768_0_1_2_3
      (broadcastInDim S1x1x1x768 ![3] bcast_S768_S1x1x1x768_3
        (shapeCast _ (extractStridedSlice S768x1x1x1 ![0, 0, dy.val, dx.val] x6 (by revert dy dx; decide)) shapeCasts_S768x1x1x1_S768)))

omit hA in
/-- One product of the convolution at an index. -/
theorem tap_at (P : S16x36x36x768.Idx → EReal) (x6 : S768x1x5x5.Idx → EReal) (dy dx : Fin 5) (b : Fin 16) (y x : Fin 32)
    (c : Fin 768) : tap P x6 dy dx (ix4 b y x c)
      = P (ix4 b (⟨y.val + dy.val, by omega⟩ : Fin 36) (⟨x.val + dx.val, by omega⟩ : Fin 36) c) * x6 (ix4 c 0 dy dx) := by
  unfold tap
  refine congrArg₂ (fun u v : EReal => u * v) (extractStridedSlice_apply _ _ _ _ _ fun a => match a with
    | ⟨0, _⟩ => by show b.val = 0 + b.val; omega
    | ⟨1, _⟩ => by show y.val + dy.val = dy.val + y.val; omega
    | ⟨2, _⟩ => by show x.val + dx.val = dx.val + x.val; omega
    | ⟨3, _⟩ => by show c.val = 0 + c.val; omega) ?_
  refine (broadcastInDim_apply _ _ _ _ (ix4 0 0 0 c) fun a => match a with
    | ⟨0, _⟩ => rfl | ⟨1, _⟩ => rfl | ⟨2, _⟩ => rfl | ⟨3, _⟩ => rfl).trans ?_
  refine (broadcastInDim_apply _ _ _ _ (ix1 c) fun a => match a with | ⟨0, _⟩ => rfl).trans ?_
  refine (shapeCast_apply _ _ _ (ix4 c 0 0 0) ?_).trans ?_
  · refine ((Shape.rowMajor_val_four _).trans ?_).trans (Shape.rowMajor_val_one _).symm
    show ((c.val * 1 + 0) * 1 + 0) * 1 + 0 = c.val
    omega
  exact extractStridedSlice_apply _ _ _ _ _ fun a => match a with
    | ⟨0, _⟩ => by show c.val = 0 + c.val; omega
    | ⟨1, _⟩ => rfl
    | ⟨2, _⟩ => rfl
    | ⟨3, _⟩ => rfl

omit hA in
/-- The convolution is the sum of its products. -/
theorem v230_eq (i : S16x32x32x768.Idx) :
    val_main_v230 x1 x2 x3 x6 i = ∑ dy : Fin 5, ∑ dx : Fin 5, tap (val_main_v56 x1 x2 x3) x6 dy dx i := by
  simp only [Fin.sum_univ_five, ← add_assoc]
  rw [val_main_v230_apply, val_main_v223_apply, val_main_v216_apply, val_main_v209_apply, val_main_v202_apply, val_main_v195_apply, val_main_v188_apply, val_main_v181_apply, val_main_v174_apply, val_main_v167_apply, val_main_v160_apply, val_main_v153_apply, val_main_v146_apply, val_main_v139_apply, val_main_v132_apply, val_main_v125_apply, val_main_v118_apply, val_main_v111_apply, val_main_v104_apply, val_main_v97_apply, val_main_v90_apply, val_main_v83_apply, val_main_v76_apply, val_main_v69_apply]
  iterate 24 (refine congrArg₂ (fun u v : EReal => u + v) ?_ rfl)
  rfl

/-- The convolution with its bias. -/
theorem v233_at (b : Fin 16) (y x : Fin 32) (c : Fin 768) :
    val_main_v233 x1 x2 x3 x6 x7 (ix4 b y x c) = A.lepe b (⟨y.val * 32 + x.val, by omega⟩ : Fin 1024) c := by
  rw [val_main_v233_apply, v230_eq, val_main_v232_apply, val_main_v231_apply]
  rw [show idx_main_v231 (idx_main_v232 (ix4 b y x c)) = ix1 c from eq_ix1 _, hA.lb]
  refine congrArg (· + _) (Finset.sum_congr rfl fun dy _ => Finset.sum_congr rfl fun dx _ => ?_)
  rw [tap_at, v56_at hA, hA.lw]
  refine congrArg (· * _) ?_
  show A.bordered b (y.val + dy.val) (x.val + dx.val) c = A.bordered b _ _ c
  congr 1 <;> dsimp only <;> omega

/-- The convolution, by regions. -/
theorem v236_at (b r : Fin 16) (p : Fin 64) (c : Fin 768) :
    val_main_v236 x1 x2 x3 x6 x7 (ix4 b r p c) = A.lepe b (tok r p) c := by
  unfold val_main_v236
  refine (shapeCast_apply _ _ _ (ix6 b (⟨r.val / 4, by omega⟩ : Fin 4) (⟨r.val % 4, by omega⟩ : Fin 4)
    (⟨p.val / 8, by omega⟩ : Fin 8) (⟨p.val % 8, by omega⟩ : Fin 8) c) ?_).trans ?_
  · rw [pos6, pos4]; dsimp only; omega
  rw [val_main_v235_apply, show idx_main_v235 (ix6 b (⟨r.val / 4, by omega⟩ : Fin 4) (⟨r.val % 4, by omega⟩ : Fin 4)
    (⟨p.val / 8, by omega⟩ : Fin 8) (⟨p.val % 8, by omega⟩ : Fin 8) c) = ix6 b (⟨r.val / 4, by omega⟩ : Fin 4)
    (⟨p.val / 8, by omega⟩ : Fin 8) (⟨r.val % 4, by omega⟩ : Fin 4) (⟨p.val % 8, by omega⟩ : Fin 8) c from
      at6 rfl rfl rfl rfl rfl rfl]
  unfold val_main_v234
  refine (shapeCast_apply _ _ _ (ix4 b (⟨r.val / 4 * 8 + p.val / 8, by omega⟩ : Fin 32)
    (⟨r.val % 4 * 8 + p.val % 8, by omega⟩ : Fin 32) c) ?_).trans ?_
  · rw [pos4, pos6]; dsimp only; omega
  exact v233_at hA _ _ _ _

/-- The result by regions. -/
theorem v241_at (b r : Fin 16) (p : Fin 64) (o : Fin 768) :
    val_main_v241 x0 x1 x2 x3 x4 x5 x6 x7 (ix4 b r p o)
      = (∑ ch : Fin 768, (A.att b r p ch + A.lepe b (tok r p) ch) * A.Wo ch o) + A.bo o := by
  rw [val_main_v241_apply, val_main_v238_apply, val_main_v240_apply, val_main_v239_apply]
  rw [show idx_main_v239 (idx_main_v240 (ix4 b r p o)) = ix1 o from eq_ix1 _, hA.bo]
  refine congrArg (· + _) (Finset.sum_congr rfl fun k _ => ?_)
  rw [show lidx_main_v238 (ix4 b r p o) k = ix4 b r p k from at4 rfl rfl rfl rfl,
    show ridx_main_v238 (ix4 b r p o) k = ix2 k o from at2 rfl rfl, val_main_v237_apply, v52_at hA, v236_at hA, hA.Wo]
  rfl

/-- The reference's result at a token and channel is the specification's. -/
theorem v245_at (b : Fin 16) (n : Fin 1024) (o : Fin 768) :
    val_main_v245 x0 x1 x2 x3 x4 x5 x6 x7 (ix3 b n o) = A.out b n o := by
  rw [val_main_v245_apply, show idx_main_v245 (ix3 b n o) = ix4 b (⟨n.val / 32, by omega⟩ : Fin 32)
    (⟨n.val % 32, by omega⟩ : Fin 32) o from at4 (by show ((b.val * 1024 + n.val) * 768 + o.val) / 786432 = b.val; omega)
      (by show ((b.val * 1024 + n.val) * 768 + o.val) / 24576 % 32 = n.val / 32; omega) (by show ((b.val * 1024 + n.val) * 768 + o.val) / 768 % 32 = n.val % 32; omega) (by show ((b.val * 1024 + n.val) * 768 + o.val) % 768 = o.val; omega)]
  unfold val_main_v244
  refine (shapeCast_apply _ _ _ (ix6 b (⟨n.val / 256, by omega⟩ : Fin 4) (⟨n.val / 32 % 8, by omega⟩ : Fin 8)
    (⟨n.val % 32 / 8, by omega⟩ : Fin 4) (⟨n.val % 8, by omega⟩ : Fin 8) o) ?_).trans ?_
  · rw [pos6, pos4]; dsimp only; omega
  rw [val_main_v243_apply, show idx_main_v243 (ix6 b (⟨n.val / 256, by omega⟩ : Fin 4) (⟨n.val / 32 % 8, by omega⟩ : Fin 8)
    (⟨n.val % 32 / 8, by omega⟩ : Fin 4) (⟨n.val % 8, by omega⟩ : Fin 8) o) = ix6 b (⟨n.val / 256, by omega⟩ : Fin 4)
    (⟨n.val % 32 / 8, by omega⟩ : Fin 4) (⟨n.val / 32 % 8, by omega⟩ : Fin 8) (⟨n.val % 8, by omega⟩ : Fin 8) o from
      at6 rfl rfl rfl rfl rfl rfl]
  unfold val_main_v242
  refine (shapeCast_apply _ _ _ (ix4 b (regionOf n) (placeOf n) o) ?_).trans ?_
  · rw [pos4, pos6]; dsimp only [regionOf, placeOf]; omega
  rw [v241_at hA, tok_region_place]
  rfl

end Cert.RefRead

end
-- ==== Proof.Join.lean ====
/- The kernel's run ends with the specification's result in its array, and so does the reference's. -/
module

public import proofs.«01_k».proof.Proof.KLoads
public import proofs.«01_k».proof.Proof.RefRead
public import proofs.«01_k».proof.Proof.Gen.KernelIdeal.Frame
public import proofs.«01_k».proof.Proof.Gen.ReferenceIdeal.Run
public import proofs.«01_k».proof.Proof.Gen.ReferenceIdeal.Read
public import Idealize.ShloMosaic.Lib.Pipeline.ValueKit.Geometry
public import Idealize.ShloMosaic.Lib.Quiescent

@[expose] public section

set_option maxRecDepth 8192

noncomputable section

namespace Cert.Join

open Idealize.ShloMosaic hiding ix1 ix2 ix3 ix4 ix5 ix6 eq_ix1 eq_ix2 eq_ix3 eq_ix4 eq_ix5 eq_ix6
open Idealize.ShloMosaic.ValueIdx Idealize.ShloMosaic.TcCoe
open Cert.KernelIdeal Cert.KernelIdeal.Gen Cert.Spec Cert.Pos Cert.Lane Cert.KBody Cert.KLoads

variable (m : (ℓ : Loc nD τ sig) → Buf (Elt Ideal) ℓ) (hO : Ok m) (hH : Hyps m hO) (c : Dev nD)

/-- The result array of the specification. -/
def outArr (A : Args) : S16x1024x768.Idx → EReal :=
  fun i => A.out (show Fin 16 from i 0) (show Fin 1024 from i 1) (show Fin 768 from i 2)

variable {A : Args} (hA : Holds m c A)

/-- The grid's coordinate at a point is the point. -/
theorem coords_at (t : Fin grid0.N) : (grid0.coords t 0).val = t.val := by
  revert t; decide +kernel

/-- The block of the result a point writes back is its image's. -/
theorem index_at (t : Fin grid0.N) (a : Fin 3) : cc0_transform_7 (grid0.coords t) a = ![t.val, 0, 0] a := by
  revert t a; decide +kernel

/-- The result's blocks along each axis. -/
theorem nblk_at (a : Fin 3) : ((cfgM m hO).win 7).nblk a = ![16, 1, 1] a := by
  match a with
  | ⟨0, _⟩ => show (16 + 1 - 1) / 1 = 16; rfl
  | ⟨1, _⟩ => show (1024 + 1024 - 1) / 1024 = 1; rfl
  | ⟨2, _⟩ => show (768 + 768 - 1) / 768 = 1; rfl

/-- The blocks written back cover the result. -/
theorem covers : ((cfgM m hO).win 7).Covers := by
  refine ⟨fun a => ?_, fun β => ⟨(⟨(β (0 : Fin 3)).val, ?_⟩ : Fin 16), flush0_7 (adm m hO) _, fun a => ⟨?_, Or.inl ?_⟩⟩⟩
  · match a with
    | ⟨0, _⟩ => exact (by decide : 0 < 1)
    | ⟨1, _⟩ => exact (by decide : 0 < 1024)
    | ⟨2, _⟩ => exact (by decide : 0 < 768)
  · exact lt_of_lt_of_eq (β (0 : Fin 3)).isLt (nblk_at m hO 0)
  · refine (index_at _ a).trans ?_
    match a with
    | ⟨0, _⟩ => rfl
    | ⟨1, _⟩ =>
      have h : (β (1 : Fin 3)).val < 1 := lt_of_lt_of_eq (β (1 : Fin 3)).isLt (nblk_at m hO 1)
      show 0 = (β (1 : Fin 3)).val
      omega
    | ⟨2, _⟩ =>
      have h : (β (2 : Fin 3)).val < 1 := lt_of_lt_of_eq (β (2 : Fin 3)).isLt (nblk_at m hO 2)
      show 0 = (β (2 : Fin 3)).val
      omega
  · rfl

/-- Where a point's block lies in the result. -/
theorem emb_at (t : Fin (cfgM m hO).N) (n : Fin 1024) (o : Fin 768) :
    (((cfgM m hO).win 7).blk t).view.emb (ix3 (0 : Fin 1) n o : S1x1024x768.Idx) = (ix3 (img m hO t) n o : S16x1024x768.Idx) := by
  refine at3 ?_ ?_ ?_
  · show cc0_transform_7 (grid0.coords t) 0 * 1 + 1 * 0 = (grid0.coords t 0).val
    rw [index_at, coords_at]; exact (fun k : ℕ => (by omega : k * 1 + 1 * 0 = k)) _
  · show cc0_transform_7 (grid0.coords t) 1 * 1024 + 1 * n.val = n.val
    rw [index_at]; exact (fun k : ℕ => (by omega : 0 * k + 1 * n.val = n.val)) _
  · show cc0_transform_7 (grid0.coords t) 2 * 768 + 1 * o.val = o.val
    rw [index_at]; exact (fun k : ℕ => (by omega : 0 * k + 1 * o.val = o.val)) _

/-- An index of a block is its token and channel. -/
theorem idx_block (y : S1x1024x768.Idx) : ∃ (n : Fin 1024) (o : Fin 768), y = ix3 (0 : Fin 1) n o := by
  have h0 : (y 0).val < 1 := (y 0).isLt
  exact ⟨y 1, y 2, at3 (by show (y 0).val = 0; omega) rfl rfl⟩

include hA in
/-- What a point writes back is the specification's result at the block's place. -/
theorem block_eq (hw : ∀ t : Fin (cfgM m hO).N, ∀ r k, k0_chk1 (tw m (grid0.coords t) r k)) (t : Fin (cfgM m hO).N)
    (y : S1x1024x768.Idx) : outsAt0 m hO hH c t y = outArr A ((((cfgM m hO).win 7).blk t).view.emb y) := by
  obtain ⟨n, o, rfl⟩ := idx_block y
  exact (outs_spec m hO c t hA hH (hw t) n o).trans (congrArg (outArr A) (emb_at m hO t n o)).symm

include hA in
/-- After the run the result array holds the specification's result. -/
theorem arr_eq (hw : ∀ t : Fin (cfgM m hO).N, ∀ r k, k0_chk1 (tw m (grid0.coords t) r k)) :
    (dats m hO hH 0 c).arrAt 7 (cfgM m hO).N = outArr A := by
  have G : ∀ (t : Fin (cfgM m hO).N) (y : (((cfgM m hO).win 7).xblock ((cfgM m hO).grid.coords t)).Idx),
      (dats m hO hH 0 c).after 7 t (((cfgM m hO).win 7).xinj ((cfgM m hO).grid.coords t) y)
        = outArr A ((((cfgM m hO).win 7).blk t).view.emb y) := fun t y => by
    rw [after0_7]
    exact block_eq m hO hH c hA hw t y
  exact (dats m hO hH 0 c).arrAt_eq_of_covers 7 (outArr A) (covers m hO) (fun t _ y => G t y) (Memref.isWhole_whole _)

end Cert.Join

end
-- ==== Proof.RoutePick.lean ====
/- Choosing the greatest scores: a stable sort's positions, and the rounds that take the greatest and mask it. -/
module

public import Idealize.ShloMosaic.PureOps.Ideal
public import Idealize.ShloMosaic.Lib.SortFacts
public import Idealize.ShloMosaic.Lib.PlanTiles.Rows

@[expose] public section

noncomputable section

namespace Cert.Pick

open Idealize.ShloMosaic

variable {n : ℕ} (f : Fin n → EReal)

/-- A place's score is greater than another's. -/
def gt (k j : Fin n) : Bool := Ideal.cmpTotal .gt (f k) (f j) == 1#1

/-- A place comes before another: its score is greater, or equal and it stands first. -/
def before (k j : Fin n) : Bool := decide (f j < f k ∨ (f k = f j ∧ k < j))

theorem gt_iff (k j : Fin n) : gt f k j = true ↔ f j < f k := by
  unfold gt Ideal.cmpTotal Ideal.cmp
  by_cases h : f j < f k <;> simp [h, CmpDirection.ordered]

theorem before_iff (k j : Fin n) : before f k j = true ↔ f j < f k ∨ (f k = f j ∧ k < j) := decide_eq_true_iff

/-- On places in their order a stable sort by score is the sort by the whole order. -/
theorem stableSort_eq (l : List (Fin n)) (hl : l.Pairwise (· < ·)) : stableSort (gt f) l = stableSort (before f) l := by
  induction l with
  | nil => rfl
  | cons a l ih =>
    have h := List.pairwise_cons.1 hl
    show insertBefore (gt f) a (stableSort (gt f) l) = insertBefore (before f) a (stableSort (before f) l)
    rw [ih h.2]
    refine insertBefore_congr _ _ a _ fun b hb => ?_
    have hab : a < b := h.1 b ((perm_stableSort _ l).mem_iff.1 hb)
    rw [Bool.eq_iff_iff, gt_iff, before_iff]
    exact ⟨Or.inl, fun h => h.elim id fun h => absurd h.2 (not_lt.2 hab.le)⟩

/-- The place of the score of a rank. -/
def pick (t : Fin n) : Fin n := sortedFrom (gt f) t

theorem pick_eq (t : Fin n) : pick f t = sortedFrom (before f) t := by
  have h : sortPositions n (gt f) = sortPositions n (before f) := stableSort_eq f _ (List.pairwise_lt_finRange n)
  unfold pick sortedFrom
  rw [List.get_of_eq h]
  rfl

theorem pick_injective : Function.Injective (pick f) := sortedFrom_injective _

theorem pick_surjective : Function.Surjective (pick f) := sortedFrom_surjective _

/-- A place of an earlier rank comes before one of a later rank. -/
theorem pick_before (s t : Fin n) (h : s < t) : f (pick f t) < f (pick f s) ∨ (f (pick f s) = f (pick f t) ∧ pick f s < pick f t) := by
  have hn : before f (pick f t) (pick f s) = false := by
    rw [pick_eq, pick_eq]
    refine sortedFrom_noInversion (before f) (before f) (fun a b hab => ?_) (fun _ _ h => h) (fun a b c hab hbc => ?_) s t h
    · rw [before_iff] at hab
      rw [← Bool.not_eq_true, before_iff]
      rintro (h | h) <;> rcases hab with h' | h'
      · exact absurd h (not_lt.2 h'.le)
      · rw [h'.1] at h; exact absurd h (lt_irrefl _)
      · rw [h.1] at h'; exact absurd h' (lt_irrefl _)
      · exact absurd h.2 (not_lt.2 h'.2.le)
    · rw [← Bool.not_eq_true, before_iff] at hab hbc ⊢
      push Not at hab hbc ⊢
      refine ⟨hab.1.trans hbc.1, fun e => ?_⟩
      have e1 : f a = f b := le_antisymm hab.1 (hbc.1.trans e.symm.le)
      exact (hbc.2 (e1.symm.trans e)).trans (hab.2 e1)
  rw [← Bool.not_eq_true, before_iff] at hn
  push Not at hn
  rcases lt_or_eq_of_le hn.1 with h1 | h1
  · exact Or.inl h1
  · refine Or.inr ⟨h1.symm, lt_of_le_of_ne (hn.2 h1) fun e => ?_⟩
    exact absurd (pick_injective f e) (ne_of_lt h)

/-- The scores with the places of the first `t` ranks masked. -/
def work (t : ℕ) (k : Fin n) : EReal := open Classical in if ∃ s : Fin n, s.val < t ∧ pick f s = k then ⊥ else f k

theorem work_zero : work f 0 = f := by
  funext k
  exact if_neg fun ⟨s, h, _⟩ => absurd h (Nat.not_lt_zero _)

theorem work_of_lt (t : ℕ) (s : Fin n) (h : s.val < t) : work f t (pick f s) = ⊥ := if_pos ⟨s, h, rfl⟩

theorem work_of_ge (t : ℕ) (s : Fin n) (h : t ≤ s.val) : work f t (pick f s) = f (pick f s) :=
  if_neg fun ⟨s', h', e⟩ => by rw [pick_injective f e] at h'; omega

/-- Masking one more place. -/
theorem work_succ (t : Fin n) (k : Fin n) : work f (t.val + 1) k = if k = pick f t then ⊥ else work f t.val k := by
  obtain ⟨s, rfl⟩ := pick_surjective f k
  by_cases h : s = t
  · subst h; rw [if_pos rfl, work_of_lt f _ s (Nat.lt_succ_self _)]
  · rw [if_neg fun e => h (pick_injective f e)]
    have hv : s.val ≠ t.val := fun e => h (Fin.ext e)
    rcases lt_or_ge s.val t.val with h' | h'
    · rw [work_of_lt f _ s h', work_of_lt f _ s (by omega)]
    · rw [work_of_ge f _ s h', work_of_ge f _ s (by omega)]

/-- The greatest of the scores left is the one of the next rank. -/
theorem max_work (t : Fin n) : (Finset.univ : Finset (Fin n)).fold max ⊥ (work f t.val) = f (pick f t) := by
  refine le_antisymm (Finset.fold_max_le _ |>.2 ⟨bot_le, fun k _ => ?_⟩)
    (Finset.le_fold_max _ |>.2 (Or.inr ⟨pick f t, Finset.mem_univ _, (work_of_ge f _ t le_rfl).ge⟩))
  obtain ⟨s, rfl⟩ := pick_surjective f k
  rcases lt_trichotomy s t with h | rfl | h
  · rw [work_of_lt f _ s h]; exact bot_le
  · rw [work_of_ge f _ s le_rfl]
  · rw [work_of_ge f _ s h.le]
    exact (pick_before f t s h).elim le_of_lt fun h => h.1.ge

/-- The first place whose score left is the greatest is the one of the next rank. -/
theorem pick_le (hf : ∀ k, f k ≠ ⊥) (t k : Fin n) (h : work f t.val k = f (pick f t)) : pick f t ≤ k := by
  obtain ⟨s, rfl⟩ := pick_surjective f k
  rcases lt_trichotomy s t with h' | rfl | h'
  · rw [work_of_lt f _ s h'] at h; exact absurd h.symm (hf _)
  · exact le_rfl
  · rw [work_of_ge f _ s h'.le] at h
    refine (pick_before f t s h').elim (fun h'' => ?_) fun h'' => h''.2.le
    rw [h] at h''; exact absurd h'' (lt_irrefl _)

/-- The least of words below half the range is the word of the least. -/
theorem fold_minsi {ι : Type} (s : Finset ι) (g : ι → ℕ) (z : ℕ) (hz : z < 2 ^ 31) (hg : ∀ i, g i < 2 ^ 31) :
    s.fold IntOp.minsi (BitVec.ofNat 32 z) (fun i => BitVec.ofNat 32 (g i)) = BitVec.ofNat 32 (s.fold min z g) ∧ s.fold min z g < 2 ^ 31 := by
  classical
  induction s using Finset.induction_on with
  | empty => exact ⟨rfl, hz⟩
  | insert a s ha ih =>
    rw [Finset.fold_insert ha, Finset.fold_insert ha, ih.1, Idealize.ShloMosaic.PlanTiles.minsi_word (hg a) ih.2, min_comm]
    exact ⟨rfl, lt_of_le_of_lt (min_le_left _ _) (hg a)⟩

/-- The least place, as a word, among those whose score left is the greatest. -/
theorem min_place (hn : n ≤ 16) (hf : ∀ k, f k ≠ ⊥) (t : Fin n) :
    (Finset.univ : Finset (Fin n)).fold IntOp.minsi 2147483647#32
      (fun k => open Classical in if work f t.val k = f (pick f t) then BitVec.ofNat 32 k.val else 16#32) = BitVec.ofNat 32 (pick f t).val := by
  classical
  have e := fold_minsi (Finset.univ : Finset (Fin n)) (fun k => if work f t.val k = f (pick f t) then k.val else 16) 2147483647
    (by norm_num) (fun k => by split_ifs <;> omega)
  have e2 : (Finset.univ : Finset (Fin n)).fold min 2147483647 (fun k => if work f t.val k = f (pick f t) then k.val else 16)
      = (pick f t).val := by
    refine le_antisymm (Finset.fold_min_le _ |>.2 (Or.inr ⟨pick f t, Finset.mem_univ _, ?_⟩))
      (Finset.le_fold_min _ |>.2 ⟨by have := (pick f t).isLt; omega, fun k _ => ?_⟩)
    · rw [if_pos (work_of_ge f _ t le_rfl)]
    · split_ifs with h
      · exact pick_le f hf t k h
      · have := (pick f t).isLt; omega
  rw [← e2, ← e.1]
  refine congrArg (Finset.fold _ _ · _) (funext fun k => ?_)
  split_ifs <;> rfl

end Cert.Pick

end
-- ==== Proof.RouteSpec.lean ====
/- The routing table written once, element by element: each region's mean query scored against each region's mean key,
   over the reals, and the four best regions of each. -/
module

public import proofs.«01_k».proof.Proof.RoutePick
public import proofs.«01_k».proof.Proof.Spec

@[expose] public section

noncomputable section

open scoped BigOperators

namespace Cert.RouteSpec

open Idealize.ShloMosaic Cert.Spec

/-- The arguments, real numbers, each read at its coordinates. -/
structure Reals where
  x : Fin 16 → Fin 1024 → Fin 768 → ℝ
  W : Fin 768 → Fin 2304 → ℝ
  bias : Fin 2304 → ℝ

namespace Reals

variable (A : Reals)

/-- The joint projection of a token. -/
def proj (b : Fin 16) (n : Fin 1024) (o : Fin 2304) : ℝ := (∑ c : Fin 768, A.x b n c * A.W c o) + A.bias o

/-- The mean of the projection over a region. -/
def mean (b r : Fin 16) (o : Fin 2304) : ℝ := (∑ p : Fin 64, A.proj b (tok r p) o) / 64

/-- A region's score against another. -/
def score (b i j : Fin 16) : ℝ := ∑ ch : Fin 768, A.mean b i (col 0 ch) * A.mean b j (col 1 ch)

/-- A region's scores. -/
def scores (b i : Fin 16) (j : Fin 16) : EReal := ((A.score b i j : ℝ) : EReal)

/-- Every score is above negative infinity. -/
theorem scores_ne_bot (b i j : Fin 16) : A.scores b i j ≠ ⊥ := EReal.coe_ne_bot _

/-- The word at row `t` of region `r`'s column of the table: the `t`-th best region, and zero past the fourth row. -/
def table (b : Fin 16) (t : Fin 8) (r : Fin 16) : BitVec 32 :=
  if t.val < 4 then BitVec.ofNat 32 (Pick.pick (A.scores b r) ⟨t.val, by omega⟩).val else 0#32

open Idealize.ShloMosaic.ValueIdx in
/-- The argument arrays hold these real numbers. -/
structure Reads (x0 : (⟨3, ![16, 1024, 768]⟩ : Shape).Idx → EReal) (x1 : (⟨2, ![768, 2304]⟩ : Shape).Idx → EReal)
    (x2 : (⟨1, ![2304]⟩ : Shape).Idx → EReal) : Prop where
  x : ∀ b n c, x0 (ix3 b n c) = ((A.x b n c : ℝ) : EReal)
  W : ∀ c o, x1 (ix2 c o) = ((A.W c o : ℝ) : EReal)
  bias : ∀ o, x2 (ix1 o) = ((A.bias o : ℝ) : EReal)

/-- A sum over the tokens of a region, told by the region each token lies in. -/
theorem sum_region (r : Fin 16) (g : Fin 1024 → ℝ) : ∑ n, (if regionOf n = r then 1 else 0) * g n = ∑ p, g (tok r p) := by
  simp only [ite_mul, one_mul, zero_mul]
  rw [← Finset.sum_filter]
  refine Finset.sum_nbij' placeOf (tok r) (fun _ _ => Finset.mem_univ _) (fun p _ => ?_) (fun n hn => ?_) (fun p _ => ?_) (fun n hn => ?_)
  · rw [Finset.mem_filter]; exact ⟨Finset.mem_univ _, Fin.ext (by simp only [tok, regionOf]; omega)⟩
  · rw [← (Finset.mem_filter.1 hn).2, tok_region_place]
  · exact Fin.ext (by simp only [tok, placeOf]; omega)
  · rw [← (Finset.mem_filter.1 hn).2, tok_region_place]

/-- The mean of the projection is the projection of the mean. -/
theorem mean_eq (b r : Fin 16) (o : Fin 2304) :
    (∑ c : Fin 768, ((∑ n : Fin 1024, (if regionOf n = r then 1 else 0) * A.x b n c) * (1 / 64)) * A.W c o) + A.bias o = A.mean b r o := by
  have h : ∀ c, ∑ n : Fin 1024, (if regionOf n = r then 1 else 0) * A.x b n c = ∑ p, A.x b (tok r p) c := fun c =>
    sum_region r fun n => A.x b n c
  simp only [h]
  unfold mean proj
  rw [Finset.sum_add_distrib, Finset.sum_comm, add_div]
  congr 1
  · rw [Finset.sum_div]
    refine Finset.sum_congr rfl fun c _ => ?_
    rw [← Finset.sum_mul]; ring
  · rw [Finset.sum_const, Finset.card_univ, Fintype.card_fin, nsmul_eq_mul]; norm_num

end Reals

/-- A sum of real numbers, read among the extended reals. -/
theorem coe_sum {ι : Type} (s : Finset ι) (g : ι → ℝ) : ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

open Idealize.ShloMosaic.ValueIdx in
/-- Argument arrays of finite elements hold real numbers. -/
theorem exists_reads (x0 : (⟨3, ![16, 1024, 768]⟩ : Shape).Idx → EReal) (x1 : (⟨2, ![768, 2304]⟩ : Shape).Idx → EReal)
    (x2 : (⟨1, ![2304]⟩ : Shape).Idx → EReal) (h0 : ∀ i, ∃ v : ℝ, x0 i = v) (h1 : ∀ i, ∃ v : ℝ, x1 i = v) (h2 : ∀ i, ∃ v : ℝ, x2 i = v) :
    ∃ A : Reals, A.Reads x0 x1 x2 := by
  choose y0 e0 using h0
  choose y1 e1 using h1
  choose y2 e2 using h2
  exact ⟨⟨fun b n c => y0 (ix3 b n c), fun c o => y1 (ix2 c o), fun o => y2 (ix1 o)⟩, fun _ _ _ => e0 _, fun _ _ => e1 _, fun _ => e2 _⟩

end Cert.RouteSpec

end
-- ==== Proof.RouteMean.lean ====
/- The routing kernel's means and scores read element by element: the region of a token from its number, the mean of the
   projection over a region, and a region's scores. -/
module

public import proofs.«01_k».proof.Proof.Gen.RouteIdeal.Skeleton
public import proofs.«01_k».proof.Proof.RouteSpec
public import proofs.«01_k».proof.Proof.Idx
public import Idealize.ShloMosaic.Lib.Pointwise.ShapeOpsCore
public import Idealize.ShloMosaic.Lib.KernelVsHost
public import Idealize.ShloMosaic.Lib.MatmulPlain

@[expose] public section

set_option maxRecDepth 8192

noncomputable section

open scoped BigOperators

namespace Cert.RouteMean

open Idealize.ShloMosaic hiding ix1 ix2 ix3 ix4 ix5 ix6 eq_ix1 eq_ix2 eq_ix3 eq_ix4 eq_ix5 eq_ix6
open Idealize.ShloMosaic.ValueIdx Cert.RouteIdeal Cert.RouteIdeal.Gen Cert.Spec Cert.Pos Cert.RouteSpec

/-- The sign of a word, as the kernel takes it. -/
def sign (w : BitVec 32) : BitVec 32 :=
  IntOp.subi ((IntOp.cmpi .sgt w 0#32).setWidth 32) ((IntOp.cmpi .slt w 0#32).setWidth 32)

/-- The quotient rounded down. -/
def floorDiv (w d : BitVec 32) : BitVec 32 :=
  Scalar.select (IntOp.andi (IntOp.cmpi .ne (sign w) (sign d)) (IntOp.cmpi .ne (IntOp.remsi .vector w d) 0#32))
    (IntOp.subi (IntOp.divsi .vector w d) 1#32) (IntOp.divsi .vector w d)

/-- The divisor of the columns, guarded against zero. -/
def width : BitVec 32 := Scalar.select (Scalar.cmpi .eq 32#32 0#32) 1#32 32#32

/-- The remainder that takes the divisor's sign. -/
def floorMod (w : BitVec 32) : BitVec 32 :=
  Scalar.select (IntOp.andi (IntOp.xori (IntOp.cmpi .slt (IntOp.remsi .vector w width) 0#32) (Scalar.cmpi .slt width 0#32))
      (IntOp.cmpi .ne (IntOp.remsi .vector w width) 0#32))
    (IntOp.addi (IntOp.remsi .vector w width) width) (IntOp.remsi .vector w width)

/-- The region of a token, from its number. -/
def regionWord (w : BitVec 32) : BitVec 32 := IntOp.addi (IntOp.muli (floorDiv w 256#32) 4#32) (floorDiv (floorMod w) 8#32)

/-- The word is the region's number. -/
theorem regionWord_eq : ∀ n : Fin 1024, regionWord (BitVec.ofNat 32 n.val) = BitVec.ofNat 32 (regionOf n).val := by
  decide +kernel

/-- Whether a token lies in a region, as the kernel computes it: one or zero. -/
def ind : S16x1024.Idx → EReal := fun i =>
  ((((IntOp.cmpi .eq (regionWord (iota .tc S16x1024 32 [1] iota_S16x1024_d1_w32 i)) (iota .tc S16x1024 32 [0] iota_S16x1024_d0_w32 i)).setWidth 32).toInt : ℝ) : EReal)

/-- The words of two regions agree only for equal regions. -/
theorem cmp_region : ∀ q r : Fin 16, ((IntOp.cmpi .eq (BitVec.ofNat 32 q.val) (BitVec.ofNat 32 r.val)).setWidth 32).toInt = if q = r then 1 else 0 := by
  decide +kernel

/-- The indicator at a region and token. -/
theorem ind_at (r : Fin 16) (n : Fin 1024) : ind (ix2 r n) = (((if regionOf n = r then 1 else 0 : ℝ)) : EReal) := by
  have e1 : iota .tc S16x1024 32 [1] iota_S16x1024_d1_w32 (ix2 r n) = BitVec.ofNat 32 n.val :=
    congrArg (BitVec.ofNat 32) (show 0 * 1024 + n.val = n.val by omega)
  have e0 : iota .tc S16x1024 32 [0] iota_S16x1024_d0_w32 (ix2 r n) = BitVec.ofNat 32 r.val :=
    congrArg (BitVec.ofNat 32) (show 0 * 16 + r.val = r.val by omega)
  unfold ind
  rw [e1, e0, regionWord_eq, cmp_region]
  split_ifs <;> simp

/-- The zero pattern is zero. -/
theorem ofBits_zero : Ideal.ofBits .f32 0x00000000#32 = 0 := by
  simp [Ideal.ofBits, Ideal.ieee]

/-- The pattern of one sixty-fourth. -/
theorem ofBits_inv : Ideal.ofBits .f32 0x3C800000#32 = ((1 / 64 : ℝ) : EReal) := by
  simp [Ideal.ofBits, Ideal.ieee, -EReal.coe_mul]; norm_num

/-- The tokens' array at a token and channel. -/
theorem pay2_at (x : FVec Ideal S1x1024x768 .f32) (n : Fin 1024) (c : Fin 768) :
    k0_pay2 (F := Ideal) x (ix2 n c) = x (ix3 0 n c) := by
  unfold k0_pay2
  exact shapeCast_apply x _ _ _ (by rw [pos3, pos2]; show (0 * 1024 + n.val) * 768 + c.val = _; omega)

/-- The projected means, over the kernel's own integers. -/
def means (v2 : FVec Ideal S1024x768 .bf16) (w : FVec Ideal S768x1536 .f32) (b : FVec Ideal S1x1536 .f32) : FVec Ideal S16x1536 .f32 :=
  k0_pay7 (F := Ideal) v2 k0_pay3 width k0_pay4 k0_pay5 k0_pay6 w b

/-- The projected means as two products. -/
theorem means_eq (v2 : FVec Ideal S1024x768 .bf16) (w : FVec Ideal S768x1536 .f32) (b : FVec Ideal S1x1536 .f32) (r : Fin 16) (o : Fin 1536) :
    means v2 w b (ix2 r o) = FloatOps.matmul (F := Ideal) (φ₁ := .f32) (φ₂ := .f32) (DotDims.plain 16 768 1536) (some .fp32)
        (fun i => FloatOps.matmul (F := Ideal) (φ₁ := .bf16) (φ₂ := .bf16) (DotDims.plain 16 1024 768) none ind v2 (fun _ => Ideal.ofBits .f32 0x00000000#32) i * Ideal.ofBits .f32 0x3C800000#32)
        (shapeCast S768x1536 w shapeCasts_S768x1536_S768x1536) (fun _ => Ideal.ofBits .f32 0x00000000#32) (ix2 r o)
      + broadcastTo S16x1536 (shapeCast S1x1536 b shapeCasts_S1x1536_S1x1536) broadcasts_S1x1536_S16x1536 (ix2 r o) := rfl

/-- The projected means at a region and column. -/
theorem means_at (v2 : FVec Ideal S1024x768 .bf16) (w : FVec Ideal S768x1536 .f32) (b : FVec Ideal S1x1536 .f32) (r : Fin 16) (o : Fin 1536)
    (X : Fin 1024 → Fin 768 → ℝ) (hX : ∀ n c, v2 (ix2 n c) = ((X n c : ℝ) : EReal)) (W : Fin 768 → ℝ) (hW : ∀ c, w (ix2 c o) = ((W c : ℝ) : EReal))
    (B : ℝ) (hB : b (ix2 0 o) = ((B : ℝ) : EReal)) :
    means v2 w b (ix2 r o)
      = (((∑ c : Fin 768, ((∑ n : Fin 1024, (if regionOf n = r then 1 else 0) * X n c) * (1 / 64)) * W c) + B : ℝ) : EReal) := by
  rw [means_eq, Ideal.matmul_plain_apply, shapeCast_self, shapeCast_self]
  rw [broadcastTo_apply b _ (ix2 r o) (ix2 0 o) (fun a => by match a with | ⟨0, _⟩ => rfl | ⟨1, _⟩ => rfl)]
  rw [ofBits_zero, zero_add, hB, EReal.coe_add, ← coe_sum]
  refine congrArg (· + _) (Finset.sum_congr rfl fun c _ => ?_)
  rw [Ideal.matmul_plain_apply, zero_add, hW, ofBits_inv, EReal.coe_mul, EReal.coe_mul, ← coe_sum]
  refine congrArg (fun z : EReal => z * _ * _) (Finset.sum_congr rfl fun n _ => ?_)
  rw [ind_at, hX, EReal.coe_mul]

/-- The scores at two regions. -/
theorem scores_at (v85 : FVec Ideal S16x1536 .f32) (v87 : FVec Ideal S16x768 .bf16) (Q K : Fin 16 → Fin 768 → ℝ)
    (hQ : ∀ i c, v87 (ix2 i c) = ((Q i c : ℝ) : EReal)) (hK : ∀ j (c : Fin 768), v85 (ix2 j (⟨768 + c.val, by omega⟩ : Fin 1536)) = ((K j c : ℝ) : EReal))
    (i j : Fin 16) : k0_pay9 (F := Ideal) v85 v87 (ix2 i j) = ((∑ c : Fin 768, Q i c * K j c : ℝ) : EReal) := by
  unfold k0_pay9
  refine (Ideal.matmul_transposedRhs_apply (M := 16) (K := 768) (N := 16) none _ _ _ i j).trans ?_
  show Ideal.ofBits .f32 0x00000000#32 + _ = _
  rw [ofBits_zero, zero_add, ← coe_sum]
  refine Finset.sum_congr rfl fun c _ => ?_
  rw [EReal.coe_mul]
  refine congrArg₂ (fun a b : EReal => a * b) (hQ i c) (Eq.trans (extractStridedSlice_apply _ v85 slices_S16x1536_o0_768_S16x768 _
    (ix2 j (⟨768 + c.val, by omega⟩ : Fin 1536)) fun b => ?_) (hK j c))
  match b with
  | ⟨0, _⟩ => exact (Nat.zero_add _).symm
  | ⟨1, _⟩ => rfl

/-- The queries at a region and channel. -/
theorem queries_at (v2 : FVec Ideal S1024x768 .bf16) (w : FVec Ideal S768x1536 .f32) (b : FVec Ideal S1x1536 .f32) (i : Fin 16) (c : Fin 768) :
    k0_pay8 (F := Ideal) v2 k0_pay3 width k0_pay4 k0_pay5 k0_pay6 w b (ix2 i c) = means v2 w b (ix2 i (⟨c.val, by omega⟩ : Fin 1536)) := by
  unfold k0_pay8
  refine extractStridedSlice_apply _ (means v2 w b) slices_S16x1536_o0_0_S16x768 _ _ fun b => ?_
  match b with
  | ⟨0, _⟩ => exact (Nat.zero_add _).symm
  | ⟨1, _⟩ => exact (Nat.zero_add _).symm

end Cert.RouteMean

end
-- ==== Proof.RouteTopk.lean ====
/- The routing kernel's selection read element by element: each round takes the least place of the greatest score and
   masks it, so the rounds name the best regions in order. -/
module

public import proofs.«01_k».proof.Proof.RouteMean
public import proofs.«01_k».proof.Proof.RoutePick
public import Idealize.ShloMosaic.Lib.Pointwise.SelectCore

@[expose] public section

set_option maxRecDepth 8192

noncomputable section

open scoped BigOperators

namespace Cert.RouteTopk

open Idealize.ShloMosaic hiding ix1 ix2 ix3 ix4 ix5 ix6 eq_ix1 eq_ix2 eq_ix3 eq_ix4 eq_ix5 eq_ix6
open Idealize.ShloMosaic.ValueIdx Cert.RouteIdeal Cert.RouteIdeal.Gen Cert.Spec Cert.Pos Cert.Pick

/-- The numbers of the regions along a row. -/
def places : IVec S16x16 32 := iota .tc S16x16 32 [1] iota_S16x16_d1_w32

/-- The greatest score of each row, at every place of the row. -/
def tops (s : FVec Ideal S16x16 .f32) : FVec Ideal S16x16 .f32 :=
  broadcastTo S16x16 (shapeCast S16x1 (multiReduction .maximumf [1] S16 s 0xFF800000#32 reduces_S16x16_S16 (.inl rfl) rfl) shapeCasts_S16_S16x1)
    broadcasts_S16x1_S16x16

/-- The least place of the greatest score of each row. -/
def chosen (s m : FVec Ideal S16x16 .f32) : IVec S16 32 :=
  multiReductionI .minsi [1] S16 (select (cmpf .oeq s m) places (broadcast S16x16 16#32)) 2147483647#32 reduces_S16x16_S16 rfl

/-- The scores with the chosen places masked. -/
def masked (s : FVec Ideal S16x16 .f32) : FVec Ideal S16x16 .f32 :=
  select (cmpi .eq places (broadcastTo S16x16 (shapeCast S16x1 (chosen s (tops s)) shapeCasts_S16_S16x1) broadcasts_S16x1_S16x16))
    (broadcast S16x16 (Named.named κ "mask" 0xF149F2CA#32)) s

/-- A value of each row, at a place of the row. -/
theorem row_at {α : Type} (v : S16.Idx → α) (p j : Fin 16) :
    broadcastTo S16x16 (shapeCast S16x1 v shapeCasts_S16_S16x1) broadcasts_S16x1_S16x16 (ix2 p j) = v (ix1 p) := by
  refine (broadcastTo_apply _ _ (ix2 p j) (ix2 p (0 : Fin 1)) (fun a => by match a with | ⟨0, _⟩ => rfl | ⟨1, _⟩ => rfl)).trans ?_
  refine shapeCast_apply _ _ _ _ ?_
  rw [pos2, Shape.rowMajor_val_one]
  show p.val = p.val * 1 + 0; omega

/-- The pattern of negative infinity is the least extended real. -/
theorem ofBits_bot : Ideal.ofBits .f32 0xFF800000#32 = ⊥ := by
  simp [Ideal.ofBits, Ideal.ieee]

/-- A region's number at a place. -/
theorem places_at (i k : Fin 16) : places (ix2 i k) = BitVec.ofNat 32 k.val :=
  congrArg (BitVec.ofNat 32) (show 0 * 16 + k.val = k.val by omega)

section Round

variable (s : FVec Ideal S16x16 .f32) (f : Fin 16 → Fin 16 → EReal) (hf : ∀ i k, f i k ≠ ⊥) (t : Fin 16)
  (hs : ∀ i k, s (ix2 i k) = work (f i) t.val k)

include hs

/-- The greatest score left in a row is the next pick's. -/
theorem tops_at (i k : Fin 16) : tops s (ix2 i k) = f i (pick (f i) t) := by
  unfold tops
  rw [row_at]
  refine (Ideal.multiReduction_maximumf_single (φ := .f32) (a := (1 : Fin S16x16.rank)) s _ reduces_S16x16_S16 _ _ (ix1 i)).trans ?_
  rw [← max_work (f i) t, ← ofBits_bot]
  exact congrArg (Finset.fold max _ · _) (funext fun k : Fin 16 => (congrArg s (at2 rfl rfl)).trans (hs i k))

include hf

/-- The round's choice in a row is the next pick. -/
theorem chosen_at (i : Fin 16) : chosen s (tops s) (ix1 i) = BitVec.ofNat 32 (pick (f i) t).val := by
  classical
  unfold chosen
  refine (multiReductionI_eq_fold .minsi _ _ reduces_S16x16_S16 rfl (ix1 i)).trans ?_
  refine (Shape.Reduces.fold_filter_drop_single (a := (1 : Fin S16x16.rank)) reduces_S16x16_S16 IntOp.minsi 2147483647#32 _ (ix1 i)).trans ?_
  refine Eq.trans ?_ (min_place (f i) (by norm_num) (hf i) t)
  refine congrArg (Finset.fold IntOp.minsi 2147483647#32 · (Finset.univ : Finset (Fin 16))) (funext fun k : Fin 16 => ?_)
  refine (congrArg (select (cmpf .oeq s (tops s)) places (broadcast S16x16 16#32)) (at2 (a := i) (b := k) rfl rfl)).trans ?_
  show Scalar.select (Ideal.cmp .oeq (s (ix2 i k)) (tops s (ix2 i k))) (places (ix2 i k)) 16#32 = _
  rw [hs, tops_at s f t hs, places_at]
  by_cases h : work (f i) t.val k = f i (pick (f i) t)
  · rw [if_pos h, h]; simp [Scalar.select, Ideal.cmp]
  · rw [if_neg h]; simp [Scalar.select, Ideal.cmp, h]

/-- The scores after the round are those left after the pick. -/
theorem masked_at (i k : Fin 16) : masked s (ix2 i k) = work (f i) (t.val + 1) k := by
  show Scalar.select (IntOp.cmpi .eq (places (ix2 i k))
    (broadcastTo S16x16 (shapeCast S16x1 (chosen s (tops s)) shapeCasts_S16_S16x1) broadcasts_S16x1_S16x16 (ix2 i k)))
    (Named.named κ "mask" 0xF149F2CA#32) (s (ix2 i k)) = _
  rw [row_at, chosen_at s f hf t hs, places_at, hs, work_succ]
  have hm : (Named.named κ "mask" 0xF149F2CA#32 : Ideal .f32) = (⊥ : EReal) := IdealRules.named_const.ideal_named_scalar _ _ _ _ rfl
  rw [hm]
  have hc : ∀ a b : Fin 16, IntOp.cmpi .eq (BitVec.ofNat 32 a.val) (BitVec.ofNat 32 b.val) = if a = b then 1#1 else 0#1 := by decide +kernel
  rw [hc]
  by_cases h : k = pick (f i) t
  · rw [if_pos h, if_pos h]; rfl
  · rw [if_neg h, if_neg h]; rfl

end Round

/-- The four rounds stacked, and four rows of zeros. -/
def stacked (s : FVec Ideal S16x16 .f32) : IVec S1x8x16 32 :=
  shapeCast S1x8x16 (concatenate S8x16 0 [⟨S1x16, shapeCast S1x16 (chosen s (tops s)) shapeCasts_S16_S1x16⟩,
    ⟨S1x16, shapeCast S1x16 (chosen (masked s) (tops (masked s))) shapeCasts_S16_S1x16⟩,
    ⟨S1x16, shapeCast S1x16 (chosen (masked (masked s)) (tops (masked (masked s)))) shapeCasts_S16_S1x16⟩,
    ⟨S1x16, shapeCast S1x16 (chosen (masked (masked (masked s))) (tops (masked (masked (masked s))))) shapeCasts_S16_S1x16⟩,
    ⟨S4x16, broadcast S4x16 0#32⟩] concatenates_S1x16_S1x16_S1x16_S1x16_S4x16_S8x16_d0) shapeCasts_S8x16_S1x8x16

/-- What the kernel stores is the four rounds stacked, over its scores. -/
theorem pay1_eq (v85 : FVec Ideal S16x1536 .f32) (v87 : FVec Ideal S16x768 .bf16) :
    k0_pay1 (F := Ideal) (iota .tc S16x16 32 [1] iota_S16x16_d1_w32) (k0_pay12 v85 v87) (k0_pay15 v85 v87) (k0_pay17 v85 v87) (k0_pay18 v85 v87) (k0_pay19 v85 v87)
      = stacked (k0_pay9 (F := Ideal) v85 v87) := rfl

/-- A row of the table told from a value per region. -/
theorem line_at (v : IVec S16 32) (z : Fin 1) (r : Fin 16) : shapeCast S1x16 v shapeCasts_S16_S1x16 (ix2 z r) = v (ix1 r) := by
  refine shapeCast_apply _ _ _ _ ?_
  rw [pos2, Shape.rowMajor_val_one]
  show r.val = z.val * 16 + r.val; omega

/-- The stacked rounds are the table of the picks. -/
theorem stacked_at (s : FVec Ideal S16x16 .f32) (f : Fin 16 → Fin 16 → EReal) (hf : ∀ i k, f i k ≠ ⊥) (hs : ∀ i k, s (ix2 i k) = f i k)
    (t : Fin 8) (r : Fin 16) :
    stacked s (ix3 0 t r) = if t.val < 4 then BitVec.ofNat 32 (pick (f r) ⟨t.val, by omega⟩).val else 0#32 := by
  have h0 : ∀ i k, s (ix2 i k) = work (f i) (0 : Fin 16).val k := fun i k => (hs i k).trans (congrFun (work_zero (f i)).symm k)
  have h1 : ∀ i k, masked s (ix2 i k) = work (f i) (1 : Fin 16).val k := masked_at s f hf 0 h0
  have h2 : ∀ i k, masked (masked s) (ix2 i k) = work (f i) (2 : Fin 16).val k := masked_at _ f hf 1 h1
  have h3 : ∀ i k, masked (masked (masked s)) (ix2 i k) = work (f i) (3 : Fin 16).val k := masked_at _ f hf 2 h2
  unfold stacked
  rw [shapeCast_apply _ _ (ix3 0 t r) (ix2 t r) (by rw [pos2, pos3]; show t.val * 16 + r.val = (0 * 8 + t.val) * 16 + r.val; omega)]
  rw [concatenate_apply]
  match t with
  | ⟨0, _⟩ => exact (line_at _ _ r).trans (chosen_at s f hf 0 h0 r)
  | ⟨1, _⟩ => exact (line_at _ _ r).trans (chosen_at _ f hf 1 h1 r)
  | ⟨2, _⟩ => exact (line_at _ _ r).trans (chosen_at _ f hf 2 h2 r)
  | ⟨3, _⟩ => exact (line_at _ _ r).trans (chosen_at _ f hf 3 h3 r)
  | ⟨4, _⟩ => rfl
  | ⟨5, _⟩ => rfl
  | ⟨6, _⟩ => rfl
  | ⟨7, _⟩ => rfl

end Cert.RouteTopk

end
-- ==== Proof.RouteJoin.lean ====
/- The routing kernel's run ends with the specification's table in its array. -/
module

public import proofs.«01_k».proof.Proof.RouteTopk
public import proofs.«01_k».proof.Proof.Gen.RouteIdeal.Value
public import Idealize.ShloMosaic.Lib.StableHlo.RunRead
public import Idealize.ShloMosaic.Lib.VecWindow
public import Idealize.ShloMosaic.Lib.Pipeline.ValueKit.Basic
public import Idealize.ShloMosaic.Lib.Pipeline.ValueKit.Geometry

@[expose] public section

set_option maxRecDepth 8192

noncomputable section

open scoped BigOperators

namespace Cert.RouteJoin

open Idealize.ShloMosaic hiding ix1 ix2 ix3 ix4 ix5 ix6 eq_ix1 eq_ix2 eq_ix3 eq_ix4 eq_ix5 eq_ix6
open Idealize.ShloMosaic.ValueIdx Idealize.ShloMosaic.TcCoe
open Cert.RouteIdeal Cert.RouteIdeal.Gen Cert.Spec Cert.Pos Cert.RouteSpec Cert.RouteMean Cert.RouteTopk

variable (m : (ℓ : Loc nD τ sig) → Buf (Elt Ideal) ℓ) (c : Dev nD)

/-- The call's second operand: the queries' and keys' columns of the weights. -/
theorem V_v2 : V m c main_v2 = (extractStridedSlice S768x1536 ![0, 0] (m ((c : Thread nD τ).loc main_arg1)) slices_S768x2304_S768x1536_0_0
    : FVec Ideal S768x1536 .f32) := by
  unfold V; after_reads_simp; rfl

/-- The call's third operand: the queries' and keys' columns of the bias. -/
theorem V_v4 : V m c main_v4 = (shapeCast S1x1536 (extractStridedSlice S1536 ![0] (m ((c : Thread nD τ).loc main_arg2)) slices_S2304_S1536_0)
    shapeCasts_S1536_S1x1536 : FVec Ideal S1x1536 .f32) := by
  unfold V; after_reads_simp; rfl

variable (t : Fin cfg0.N)

/-- The grid's coordinate at a point is the point. -/
theorem coords_at (t : Fin grid0.N) : (grid0.coords t 0).val = t.val := by
  revert t; decide +kernel

/-- The image a point works on. -/
def img : Fin 16 := grid0.coords t 0

/-- The point's block of the images is its image. -/
theorem blk0 (n : Fin 1024) (k : Fin 768) : iblk m c 0 t (ix3 0 n k) = m ((c : Thread nD τ).loc main_arg0) (ix3 (img t) n k) := by
  refine Eq.trans ?_ (congrFun (V_main_arg0 m c) _)
  unfold iblk
  refine congrArg (V m c main_arg0) (at3 ?_ ?_ ?_)
  · show (BitVec.ofNat 32 (grid0.coords t 0).val).toNat * 1 + 1 * 0 = (grid0.coords t 0).val
    have : (grid0.coords t 0).val < 16 := (grid0.coords t 0).isLt
    rw [BitVec.toNat_ofNat]; omega
  · show 0 * 1024 + 1 * n.val = n.val; omega
  · show 0 * 768 + 1 * k.val = k.val; omega

/-- The block of the weights is the whole operand. -/
theorem blk1 (k : Fin 768) (o : Fin 1536) :
    iblk m c 1 t (ix2 k o) = m ((c : Thread nD τ).loc main_arg1) (ix2 k (⟨o.val, by omega⟩ : Fin 2304)) := by
  refine Eq.trans (b := V m c main_v2 (ix2 k o)) ?_ ?_
  · unfold iblk
    refine congrArg (V m c main_v2) (at2 ?_ ?_)
    · show 0 * 768 + 1 * k.val = k.val; omega
    · show 0 * 1536 + 1 * o.val = o.val; omega
  · rw [V_v2]
    refine extractStridedSlice_apply _ _ slices_S768x2304_S768x1536_0_0 _ _ fun b => ?_
    match b with
    | ⟨0, _⟩ => exact (Nat.zero_add _).symm
    | ⟨1, _⟩ => exact (Nat.zero_add _).symm

/-- The block of the bias is the whole operand. -/
theorem blk2 (o : Fin 1536) : iblk m c 2 t (ix2 0 o) = m ((c : Thread nD τ).loc main_arg2) (ix1 (⟨o.val, by omega⟩ : Fin 2304)) := by
  refine Eq.trans (b := V m c main_v4 (ix2 0 o)) ?_ ?_
  · unfold iblk
    refine congrArg (V m c main_v4) (at2 ?_ ?_)
    · show 0 * 1 + 1 * 0 = 0; omega
    · show 0 * 1536 + 1 * o.val = o.val; omega
  · rw [V_v4]
    refine (shapeCast_apply _ _ (ix2 0 o) (ix1 o) (by rw [pos2, Shape.rowMajor_val_one]; show o.val = 0 * 1536 + o.val; omega)).trans ?_
    refine extractStridedSlice_apply _ _ slices_S2304_S1536_0 _ _ fun b => ?_
    match b with
    | ⟨0, _⟩ => exact (Nat.zero_add _).symm

/-- A load of the whole block of images reads the block. -/
theorem ld0 (x : Vec Ideal S1x1024x768 .f32) : View.ld (Val := Elt Ideal) (e' := .f32) x r0_0 = x := View.ld_unit_lit _ x (by decide)

/-- A load of the whole block of weights reads the block. -/
theorem ld1 (x : Vec Ideal S768x1536 .f32) : View.ld (Val := Elt Ideal) (e' := .f32) x r0_1 = x := View.ld_unit_lit _ x (by decide)

/-- A load of the whole block of the bias reads the block. -/
theorem ld2 (x : Vec Ideal S1x1536 .f32) : View.ld (Val := Elt Ideal) (e' := .f32) x r0_2 = x := View.ld_unit_lit _ x (by decide)

/-- What the body leaves is the stacked rounds over its scores. -/
theorem out_eq (x0 : FVec Ideal S1x1024x768 .f32) (x1 : FVec Ideal S768x1536 .f32) (x2 : FVec Ideal S1x1536 .f32) :
    out0_3 (F := Ideal) x0 x1 x2 = stacked (k0_pay9 (F := Ideal) (means (k0_pay2 (F := Ideal) x0) x1 x2)
      (k0_pay8 (F := Ideal) (k0_pay2 (F := Ideal) x0) k0_pay3 width k0_pay4 k0_pay5 k0_pay6 x1 x2)) := by
  have e25 : k0_pay25 (F := Ideal) x0 x1 x2 = means (k0_pay2 (F := Ideal) x0) x1 x2 := by
    unfold k0_pay25 k0_pay24 k0_pay23 k0_pay22 k0_pay21 k0_pay20
    rw [ld0, ld1, ld2]; rfl
  have e26 : k0_pay26 (F := Ideal) x0 x1 x2 = k0_pay8 (F := Ideal) (k0_pay2 (F := Ideal) x0) k0_pay3 width k0_pay4 k0_pay5 k0_pay6 x1 x2 := by
    unfold k0_pay26 k0_pay24 k0_pay23 k0_pay22 k0_pay21 k0_pay20
    rw [ld0, ld1, ld2]; rfl
  unfold out0_3
  rw [pay1_eq, e25, e26]
  exact View.canon_cons_unit_lit _ _ _ (by decide)

variable {A : Reals} (hA : A.Reads (m ((c : Thread nD τ).loc main_arg0)) (m ((c : Thread nD τ).loc main_arg1)) (m ((c : Thread nD τ).loc main_arg2)))

include hA

/-- The point's projected means are the specification's. -/
theorem means_spec (i : Fin 16) (o : Fin 1536) :
    means (k0_pay2 (F := Ideal) (iblk m c 0 t)) (iblk m c 1 t) (iblk m c 2 t) (ix2 i o) = ((A.mean (img t) i ⟨o.val, by omega⟩ : ℝ) : EReal) := by
  rw [means_at _ _ _ i o (A.x (img t)) (fun n k => (pay2_at _ n k).trans ((blk0 m c t n k).trans (hA.x _ _ _)))
    (fun k => A.W k ⟨o.val, by omega⟩) (fun k => (blk1 m c t k o).trans (hA.W _ _)) (A.bias ⟨o.val, by omega⟩) ((blk2 m c t o).trans (hA.bias _))]
  rw [Reals.mean_eq]

/-- What the body leaves is the specification's table of its image. -/
theorem out_spec (p : Fin 8) (r : Fin 16) : out0_3 (F := Ideal) (iblk m c 0 t) (iblk m c 1 t) (iblk m c 2 t) (ix3 0 p r) = A.table (img t) p r := by
  rw [out_eq]
  refine stacked_at _ (A.scores (img t)) (fun i k => A.scores_ne_bot _ _ _) (fun i j => ?_) p r
  refine scores_at _ _ (fun i ch => A.mean (img t) i (col 0 ch)) (fun j ch => A.mean (img t) j (col 1 ch)) (fun i ch => ?_) (fun j ch => ?_) i j
  · rw [queries_at, means_spec m c t hA]
    exact congrArg (fun o => ((A.mean (img t) i o : ℝ) : EReal)) (Fin.ext (by show ch.val = 0 * 768 + ch.val; omega))
  · rw [means_spec m c t hA]
    exact congrArg (fun o => ((A.mean (img t) j o : ℝ) : EReal)) (Fin.ext (by show 768 + ch.val = 1 * 768 + ch.val; omega))

omit hA

/-- The table of the specification. -/
def outArr (A : Reals) : S16x8x16.Idx → BitVec 32 :=
  fun i => A.table (show Fin 16 from i 0) (show Fin 8 from i 1) (show Fin 16 from i 2)

/-- The block of the table a point writes back is its image's. -/
theorem index_at (t : Fin grid0.N) (a : Fin 3) : cc0_transform_3 (grid0.coords t) a = ![t.val, 0, 0] a := by
  revert t a; decide +kernel

/-- The blocks written back cover the table. -/
theorem covers : (cfg0.win 3).Covers := by
  decide +kernel

/-- Where a point's block lies in the table. -/
theorem emb_at (p : Fin 8) (r : Fin 16) :
    ((cfg0.win 3).blk t).view.emb (ix3 (0 : Fin 1) p r : S1x8x16.Idx) = (ix3 (img t) p r : S16x8x16.Idx) := by
  refine at3 ?_ ?_ ?_
  · show cc0_transform_3 (grid0.coords t) 0 * 1 + 1 * 0 = (grid0.coords t 0).val
    rw [index_at, coords_at]; exact (fun k : ℕ => (by omega : k * 1 + 1 * 0 = k)) _
  · show cc0_transform_3 (grid0.coords t) 1 * 8 + 1 * p.val = p.val
    rw [index_at]; exact (fun k : ℕ => (by omega : 0 * k + 1 * p.val = p.val)) _
  · show cc0_transform_3 (grid0.coords t) 2 * 16 + 1 * r.val = r.val
    rw [index_at]; exact (fun k : ℕ => (by omega : 0 * k + 1 * r.val = r.val)) _

/-- An index of a block is its row and region. -/
theorem idx_block (y : S1x8x16.Idx) : ∃ (p : Fin 8) (r : Fin 16), y = ix3 (0 : Fin 1) p r := by
  have h0 : (y 0).val < 1 := (y 0).isLt
  exact ⟨y 1, y 2, at3 (by show (y 0).val = 0; omega) rfl rfl⟩

include hA

/-- What a point writes back is the specification's table at the block's place. -/
theorem block_eq (y : S1x8x16.Idx) :
    out0_3 (F := Ideal) (iblk m c 0 t) (iblk m c 1 t) (iblk m c 2 t) y = outArr A (((cfg0.win 3).blk t).view.emb y) := by
  obtain ⟨p, r, rfl⟩ := idx_block y
  exact (out_spec m c t hA p r).trans (congrArg (outArr A) (emb_at t p r)).symm

/-- After the run the array holds the specification's table. -/
theorem arr_eq : (dats m 0 c).arrAt 3 cfg0.N = outArr A := by
  have G : ∀ (t : Fin cfg0.N) (y : ((cfg0.win 3).xblock (cfg0.grid.coords t)).Idx),
      (dats m 0 c).after 3 t ((cfg0.win 3).xinj (cfg0.grid.coords t) y) = outArr A (((cfg0.win 3).blk t).view.emb y) := fun t y => by
    rw [after0_3]
    exact block_eq m c t hA y
  exact (dats m 0 c).arrAt_eq_of_covers 3 (outArr A) covers (fun t _ y => G t y) (Memref.isWhole_whole _)

end Cert.RouteJoin

end
-- ==== Proof.RouteRef.lean ====
/- The routing reference read element by element: its result is the specification's table. -/
module

public import proofs.«01_k».proof.Proof.Gen.RouteReferenceIdeal.Read
public import proofs.«01_k».proof.Proof.RouteSpec
public import proofs.«01_k».proof.Proof.Idx
public import Idealize.ShloMosaic.Lib.Pointwise.ShapeOpsCore
public import Idealize.ShloMosaic.Lib.KernelVsHost

@[expose] public section

noncomputable section

open scoped BigOperators

namespace Cert.RouteRef

open Idealize.ShloMosaic hiding ix1 ix2 ix3 ix4 ix5 ix6 eq_ix1 eq_ix2 eq_ix3 eq_ix4 eq_ix5 eq_ix6
open Idealize.ShloMosaic.ValueIdx Cert.RouteReferenceIdeal Cert.RouteReferenceIdeal.Gen Cert.Spec Cert.Pos Cert.RouteSpec
open Cert.RouteReferenceIdeal.Read

variable {A : Reals} {x0 : (⟨S16x1024x768, .f32⟩ : BufTy).Contents (Elt Ideal)}
  {x1 : (⟨S768x2304, .f32⟩ : BufTy).Contents (Elt Ideal)} {x2 : (⟨S2304, .f32⟩ : BufTy).Contents (Elt Ideal)}
  (hA : A.Reads x0 x1 x2)

/-- The divisor of the means is 64. -/
theorem ofBits_64 : Ideal.ofBits .f32 0x42800000#32 = ((64 : ℝ) : EReal) := by
  simp [Ideal.ofBits, Ideal.ieee, -EReal.coe_mul]; norm_num

/-- The zero pattern is zero. -/
theorem ofBits_zero : Ideal.ofBits .f32 0x00000000#32 = 0 := by
  simp [Ideal.ofBits, Ideal.ieee]

/-- The tokens cut into regions. -/
theorem v2_at (b r : Fin 16) (p : Fin 64) (c : Fin 768) : val_main_v2 x0 (ix4 b r p c) = x0 (ix3 b (tok r p) c) := by
  unfold val_main_v2
  refine (shapeCast_apply _ _ _ (ix6 b (⟨r.val / 4, by omega⟩ : Fin 4) (⟨r.val % 4, by omega⟩ : Fin 4)
    (⟨p.val / 8, by omega⟩ : Fin 8) (⟨p.val % 8, by omega⟩ : Fin 8) c) ?_).trans ?_
  · rw [pos6, pos4]; dsimp only; omega
  rw [val_main_v1_apply, show idx_main_v1 (ix6 b (⟨r.val / 4, by omega⟩ : Fin 4) (⟨r.val % 4, by omega⟩ : Fin 4)
    (⟨p.val / 8, by omega⟩ : Fin 8) (⟨p.val % 8, by omega⟩ : Fin 8) c) = ix6 b (⟨r.val / 4, by omega⟩ : Fin 4)
    (⟨p.val / 8, by omega⟩ : Fin 8) (⟨r.val % 4, by omega⟩ : Fin 4) (⟨p.val % 8, by omega⟩ : Fin 8) c from
      at6 rfl rfl rfl rfl rfl rfl]
  unfold val_main_v0
  refine shapeCast_apply _ _ _ _ ?_
  rw [pos3, pos6]; dsimp only [tok]; omega

/-- A stable sort of pairs by their first parts, read at an index along the last axis. -/
theorem sort2_at (x : S16x16x16.Idx → EReal) (y : S16x16x16.Idx → BitVec 32) (b i k : Fin 16) (f : Fin 16 → EReal)
    (hf : ∀ j, x (ix3 b i j) = f j) :
    (Host.sort2 S16x16x16 2 (fun l r : EReal × BitVec 32 => Ideal.cmpTotal .gt l.1 r.1) x y).2 (ix3 b i k) = y (ix3 b i (Pick.pick f k)) := by
  have al : ∀ j : Fin 16, Shape.Idx.along (s := S16x16x16) (ix3 b i k) 2 j = ix3 b i j := fun j => at3 rfl rfl rfl
  unfold Host.sort2
  rw [dif_pos (show 2 < S16x16x16.rank by decide)]
  refine Eq.trans ?_ (congrArg y (al (Pick.pick f k)))
  refine congrArg (fun g => y (Shape.Idx.along (s := S16x16x16) (ix3 b i k) 2 (sortedFrom g k))) (funext fun j => funext fun j' => ?_)
  have e : ∀ j : Fin 16, x (Shape.Idx.along (s := S16x16x16) (ix3 b i k) 2 j) = f j := fun j => (congrArg x (al j)).trans (hf j)
  exact congrArg₂ (fun u v : EReal => Ideal.cmpTotal .gt u v == 1#1) (e j) (e j')

include hA

/-- The joint projection. -/
theorem v6_at (b r : Fin 16) (p : Fin 64) (o : Fin 2304) : val_main_v6 x0 x1 x2 (ix4 b r p o) = ((A.proj b (tok r p) o : ℝ) : EReal) := by
  rw [val_main_v6_apply, val_main_v3_apply, val_main_v5_apply, val_main_v4_apply]
  rw [show idx_main_v4 (idx_main_v5 (ix4 b r p o)) = ix1 o from eq_ix1 _, hA.bias]
  unfold Reals.proj
  rw [EReal.coe_add, ← coe_sum]
  refine congrArg (· + _) (Finset.sum_congr rfl fun k _ => ?_)
  rw [show lidx_main_v3 (ix4 b r p o) k = ix4 b r p k from at4 rfl rfl rfl rfl,
    show ridx_main_v3 (ix4 b r p o) k = ix2 k o from at2 rfl rfl, v2_at, hA.x, hA.W, EReal.coe_mul]

/-- The mean queries. -/
theorem v12_at (b r : Fin 16) (ch : Fin 768) : val_main_v12 x0 x1 x2 (ix3 b r ch) = ((A.mean b r (col 0 ch) : ℝ) : EReal) := by
  rw [val_main_v12_apply, val_main_v10_apply, val_main_v11_apply, val_main_cst_0_apply, val_main_cst_apply]
  show Ideal.div (Ideal.ofBits .f32 0x00000000#32 + _) (Ideal.ofBits .f32 0x42800000#32) = _
  rw [ofBits_zero, ofBits_64, zero_add, Ideal.div_coe (by norm_num)]
  unfold Reals.mean
  refine Eq.trans ?_ (congrArg Real.toEReal (div_eq_mul_one_div _ _).symm)
  rw [EReal.coe_mul, ← coe_sum]
  refine congrArg (· * _) (Finset.sum_congr rfl fun k _ => ?_)
  rw [val_main_v7_apply, ← v6_at hA]
  exact congrArg _ (at4 rfl rfl rfl (by show ch.val = 0 * 768 + ch.val; omega))

/-- The mean keys. -/
theorem v15_at (b r : Fin 16) (ch : Fin 768) : val_main_v15 x0 x1 x2 (ix3 b r ch) = ((A.mean b r (col 1 ch) : ℝ) : EReal) := by
  rw [val_main_v15_apply, val_main_v13_apply, val_main_v14_apply, val_main_cst_2_apply, val_main_cst_1_apply]
  show Ideal.div (Ideal.ofBits .f32 0x00000000#32 + _) (Ideal.ofBits .f32 0x42800000#32) = _
  rw [ofBits_zero, ofBits_64, zero_add, Ideal.div_coe (by norm_num)]
  unfold Reals.mean
  refine Eq.trans ?_ (congrArg Real.toEReal (div_eq_mul_one_div _ _).symm)
  rw [EReal.coe_mul, ← coe_sum]
  refine congrArg (· * _) (Finset.sum_congr rfl fun k _ => ?_)
  rw [val_main_v8_apply, ← v6_at hA]
  exact congrArg _ (at4 rfl rfl rfl (by show 768 + ch.val = 1 * 768 + ch.val; omega))

/-- The scores. -/
theorem v16_at (b i j : Fin 16) : val_main_v16 x0 x1 x2 (ix3 b i j) = A.scores b i j := by
  rw [val_main_v16_apply]
  unfold Reals.scores Reals.score
  rw [← coe_sum]
  refine Finset.sum_congr rfl fun k _ => ?_
  rw [show lidx_main_v16 (ix3 b i j) k = ix3 b i k from at3 rfl rfl rfl,
    show ridx_main_v16 (ix3 b i j) k = ix3 b j k from at3 rfl rfl rfl, v12_at hA, v15_at hA, EReal.coe_mul]

/-- The best regions' indices: the places of the four first ranks. -/
theorem indices_at (b i : Fin 16) (t : Fin 4) : val_main_indices x0 x1 x2 (ix3 b i t)
    = BitVec.ofNat 32 (Pick.pick (A.scores b i) ⟨t.val, by omega⟩).val := by
  refine (extractStridedSlice_apply (t := S16x16x4) (fun _ => 0) (Host.sort2 S16x16x16 2
    (fun l r : Ideal .f32 × BitVec 32 => FloatOps.cmpfTotal .gt l.1 r.1) (val_main_v16 x0 x1 x2)
    (fun i => if hd : 2 < S16x16x16.rank then iotaInDim S16x16x16 32 ⟨2, hd⟩ i else 0#32)).2
    sliceFits_S16x16x16_S16x16x4 (ix3 b i t) (ix3 b i (⟨t.val, by omega⟩ : Fin 16)) fun a => ?_).trans ?_
  · match a with
    | ⟨0, _⟩ => show b.val = 0 + b.val; omega
    | ⟨1, _⟩ => show i.val = 0 + i.val; omega
    | ⟨2, _⟩ => show t.val = 0 + t.val; omega
  exact sort2_at _ _ b i _ (A.scores b i) (v16_at hA b i)

/-- The result is the specification's table. -/
theorem v18_at (b : Fin 16) (t : Fin 8) (r : Fin 16) : val_main_v18 x0 x1 x2 (ix3 b t r) = A.table b t r := by
  unfold val_main_v18 Reals.table
  split_ifs with ht
  · refine (pad_apply_of_inside _ _ _ _ _ _ _ _ (ix3 b (⟨t.val, ht⟩ : Fin 4) r) fun a => ?_).trans ?_
    · match a with
      | ⟨0, _⟩ => show b.val = 0 + b.val * 1; omega
      | ⟨1, _⟩ => show t.val = 0 + t.val * 1; omega
      | ⟨2, _⟩ => show r.val = 0 + r.val * 1; omega
    rw [val_main_v17_apply, ← indices_at hA b r ⟨t.val, ht⟩]
    exact congrArg _ (at3 rfl rfl rfl)
  · refine (pad_apply_of_not_inside _ _ _ _ _ _ _ _ 1 ?_).trans rfl
    show ¬(0 ≤ t.val ∧ (t.val - 0) % 1 = 0 ∧ (t.val - 0) / 1 < 4)
    omega

end Cert.RouteRef

end
-- ==== Proof.RouteFinite.lean ====
/- The precondition of the routing call read at the arguments' elements: each is a real number. -/
module

public import proofs.«01_k».proof.Proof.Gen.Pre_finite
public import Idealize.ShloMosaic.Lib.ReduceAll
public import Idealize.ShloMosaic.Lib.Affine
public import Idealize.ShloMosaic.PureOps.Ideal

@[expose] public section

noncomputable section

namespace Cert.RouteFinite

open Idealize.ShloMosaic Cert.Pre_finite

/-- The pattern of positive infinity is the greatest extended real. -/
theorem ofBits_top : Ideal.ofBits .f32 0x7F800000#32 = ⊤ := by
  simp [Ideal.ofBits, Ideal.ieee]

/-- An extended real whose size is below infinity is a real number. -/
theorem real_of_lt (v : EReal) (h : Ideal.cmp .olt (max v (-v)) (Ideal.ofBits .f32 0x7F800000#32) = 1#1) : ∃ r : ℝ, v = r := by
  rw [ofBits_top] at h
  induction v with
  | bot => simp [Ideal.cmp] at h
  | coe r => exact ⟨r, rfl⟩
  | top => simp [Ideal.cmp] at h

/-- There is one index of a shape of no axes. -/
instance : Subsingleton S_.Idx := ⟨fun _ _ => funext fun a => a.elim0⟩

/-- Under the precondition every element of the three arguments is a real number. -/
theorem reals_of_fn [Facts] (x0 : FVec Ideal S16x1024x768 .f32) (x1 : FVec Ideal S768x2304 .f32) (x2 : FVec Ideal S2304 .f32)
    (h : Pre_finite.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have e := congrFun h (fun a => a.elim0)
  obtain ⟨e01, e2⟩ := IntOp.andi_eq_one.1 e
  obtain ⟨e0, e1⟩ := IntOp.andi_eq_one.1 e01
  exact ⟨fun i => real_of_lt _ (Host.reduce_andi_all _ _ _ _ _ e0 i), fun i => real_of_lt _ (Host.reduce_andi_all _ _ _ _ _ e1 i),
    fun i => real_of_lt _ (Host.reduce_andi_all _ _ _ _ _ e2 i)⟩

end Cert.RouteFinite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_routes_in_range
public import proofs.«01_k».proof.Proof.Gen.Route
public import proofs.«01_k».proof.Proof.Gen.Route.Skeleton
public import proofs.«01_k».proof.Proof.Gen.Route.Launch
public import proofs.«01_k».proof.Proof.Gen.Route.Points
public import proofs.«01_k».proof.Proof.Gen.Route.Frame
public import proofs.«01_k».proof.Proof.Gen.RouteIdeal
public import proofs.«01_k».proof.Proof.Gen.RouteIdeal.Skeleton
public import proofs.«01_k».proof.Proof.Gen.RouteIdeal.Launch
public import proofs.«01_k».proof.Proof.Gen.RouteIdeal.Points
public import proofs.«01_k».proof.Proof.Gen.RouteIdeal.Frame
public import proofs.«01_k».proof.Proof.Gen.RouteIdeal.Value
public import proofs.«01_k».proof.Proof.Gen.RouteReferenceIdeal
public import proofs.«01_k».proof.Proof.Gen.RouteReferenceIdeal.Run
public import proofs.«01_k».proof.Proof.Gen.RouteReferenceIdeal.Read
public import proofs.«01_k».proof.Proof.Gen.Pre_finite
public import proofs.«01_k».proof.Proof.KernelRange
public import proofs.«01_k».proof.Proof.IdealRange
public import proofs.«01_k».proof.Proof.Join
public import proofs.«01_k».proof.Proof.RouteJoin
public import proofs.«01_k».proof.Proof.RouteRef
public import proofs.«01_k».proof.Proof.RouteFinite
public import Idealize.ShloMosaic.Lib.Quiescent
public import Idealize.ShloMosaic.Adequacy
public import Idealize.ShloMosaic.Init

@[expose] public section

noncomputable section

namespace Cert.Proof

open Idealize.ShloMosaic Idealize.SL.Sem

/-- The kernel as printed runs to the end, leaves its arguments as they were and every counter at zero. -/
theorem kernel_frame [Cert.Pre_routes_in_range.Facts] : Cert.quiescent_Kernel := fun m g h =>
  Cert.Kernel.Gen.frame m g (Cert.Kernel.Range.ok_of_pre m) (Cert.Kernel.Range.hyps_of_pre m h _)

/-- The idealized kernel runs to the end, leaves its arguments as they were and every counter at zero. -/
theorem ideal_frame [Cert.Pre_routes_in_range.Facts] : Cert.quiescent_KernelIdeal := fun m g h =>
  Cert.KernelIdeal.Gen.frame m g (Cert.KernelIdeal.Range.ok_of_pre m) (Cert.KernelIdeal.Range.hyps_of_pre m h _)

/-- The idealized reference runs to the end and leaves its arguments as they were; it has no counter. -/
theorem reference_frame [Cert.Pre_routes_in_range.Facts] : Cert.quiescent_ReferenceIdeal := fun m g _ =>
  (θ_run _ _ _).mono (fun r h => ⟨fun c => (h c).2, sem_eq_zero_of_no_sems rfl r.2⟩) (Cert.ReferenceIdeal.Value.run (F := Ideal) m g)

/-- The one rewrite of the idealized kernel names the rounded scale: it stands for the inverse root of 96. -/
theorem preserved : Cert.preserves_Kernel_KernelIdeal :=
  IdealRules.named_const.statement Cert.KernelIdeal.κ "scale" .f32 0x3DD105EC#32 (((Real.sqrt 96)⁻¹ : ℝ) : EReal) rfl

/-- From equal arguments whose routes name regions, the idealized kernel and the idealized reference end with the same result:
    the specification's, of the arguments read at their coordinates. -/
theorem algebraic [Cert.Pre_routes_in_range.Facts] : Cert.algebraic_KernelIdeal_ReferenceIdeal := by
  intro m g m' g' hpre hargs
  have hO := Cert.KernelIdeal.Range.ok_of_pre m
  have hH := Cert.KernelIdeal.Range.hyps_of_pre m hpre hO
  have hw : ∀ t r k, Cert.KernelIdeal.k0_chk1 (Cert.KBody.tw m (Cert.KernelIdeal.grid0.coords t) r k) := fun t r k =>
    Cert.KernelIdeal.Range.chk_of_lt _ (Cert.KernelIdeal.Range.read_lt m hpre _ _ _ k rfl)
  have hA : ∀ c : Dev Cert.KernelIdeal.nD, ∃ A, Cert.KLoads.Holds m c A := fun c => by
    obtain rfl : c = 0 := Subsingleton.elim _ _
    exact Cert.Spec.exists_reads _ _ _ _ _ _ _ _ (Cert.KernelIdeal.Range.word_lt_of_pre m hpre 0)
  choose A hA using hA
  refine ⟨fun c => Cert.Join.outArr (A c), ?_, ?_⟩
  · refine (θ_run _ _ _).mono (fun r h c => ⟨?_, h.2 c⟩)
      (θ_run_and (Cert.KernelIdeal.Gen.run_main m g hO hH) (Cert.KernelIdeal.Gen.unchanged m g hO hH))
    exact ((h.1 c).1 7).trans (Cert.Join.arr_eq m hO hH c (hA c) hw)
  · refine (θ_run _ _ _).mono (fun r h c => ⟨(h c).1.trans ?_, (h c).2⟩) (Cert.ReferenceIdeal.Value.run (F := Ideal) m' g')
    refine (Cert.ReferenceIdeal.Read.val_main_v245_eq (F := Ideal) _).trans ?_
    have hR : (A c).Reads (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7)) := by
      obtain ⟨e0, e1, e2, e3, e4, e5, e6, e7⟩ := hargs c
      rw [e0, e1, e2, e3, e4, e5, e6, e7]
      have h := hA c
      obtain rfl : c = 0 := Subsingleton.elim _ _
      exact h
    funext i
    obtain ⟨b, n, o, rfl⟩ : ∃ (b : Fin 16) (n : Fin 1024) (o : Fin 768), i = Idealize.ShloMosaic.ValueIdx.ix3 b n o :=
      ⟨i 0, i 1, i 2, Cert.Pos.at3 rfl rfl rfl⟩
    exact Cert.RefRead.v245_at hR b n o

/-- The routing call's reference runs to the end and leaves its arguments as they were; it has no counter. -/
theorem route_reference_frame (m : (ℓ : Loc Cert.RouteReferenceIdeal.nD Cert.RouteReferenceIdeal.τ Cert.RouteReferenceIdeal.sig) → Buf (Elt Ideal) ℓ)
    (g : Dev Cert.RouteReferenceIdeal.nD → PrngReg) :
    θ_run (Cert.RouteReferenceIdeal.defs (F := Ideal)) (onTc (τ := Cert.RouteReferenceIdeal.τ) (Cert.RouteReferenceIdeal.main (F := Ideal))) ⟨m, fun _ => 0, g⟩ (fun r => (∀ c : Dev Cert.RouteReferenceIdeal.nD,
      r.2.mem ((c.tc : Thread Cert.RouteReferenceIdeal.nD Cert.RouteReferenceIdeal.τ).loc Cert.RouteReferenceIdeal.main_arg0) = m ((c.tc : Thread Cert.RouteReferenceIdeal.nD Cert.RouteReferenceIdeal.τ).loc Cert.RouteReferenceIdeal.main_arg0)
      ∧ r.2.mem ((c.tc : Thread Cert.RouteReferenceIdeal.nD Cert.RouteReferenceIdeal.τ).loc Cert.RouteReferenceIdeal.main_arg1) = m ((c.tc : Thread Cert.RouteReferenceIdeal.nD Cert.RouteReferenceIdeal.τ).loc Cert.RouteReferenceIdeal.main_arg1)
      ∧ r.2.mem ((c.tc : Thread Cert.RouteReferenceIdeal.nD Cert.RouteReferenceIdeal.τ).loc Cert.RouteReferenceIdeal.main_arg2) = m ((c.tc : Thread Cert.RouteReferenceIdeal.nD Cert.RouteReferenceIdeal.τ).loc Cert.RouteReferenceIdeal.main_arg2))
      ∧ r.2.sem = fun _ => 0) :=
  (θ_run _ _ _).mono (fun r h => ⟨fun c => (h c).2, sem_eq_zero_of_no_sems rfl r.2⟩) (Cert.RouteReferenceIdeal.Value.run (F := Ideal) m g)

/-- The one rewrite of the idealized routing call names the mask: it stands for negative infinity. -/
theorem route_preserved : Cert.preserves_Route_RouteIdeal :=
  IdealRules.named_const.statement Cert.RouteIdeal.κ "mask" .f32 0xF149F2CA#32 ⊥ rfl

/-- From equal finite arguments, the idealized routing call and its reference end with the same table: the specification's. -/
theorem route_algebraic [Cert.Pre_finite.Facts] : Cert.algebraic_RouteIdeal_RouteReferenceIdeal_pre_finite := by
  intro m g m' g' hpre hargs
  have hA : ∀ c : Dev Cert.RouteIdeal.nD, ∃ A : Cert.RouteSpec.Reals,
      A.Reads (m ((c.tc : Thread Cert.RouteIdeal.nD Cert.RouteIdeal.τ).loc Cert.RouteIdeal.main_arg0))
        (m ((c.tc : Thread Cert.RouteIdeal.nD Cert.RouteIdeal.τ).loc Cert.RouteIdeal.main_arg1))
        (m ((c.tc : Thread Cert.RouteIdeal.nD Cert.RouteIdeal.τ).loc Cert.RouteIdeal.main_arg2)) := fun c =>
    have h := Cert.RouteFinite.reals_of_fn _ _ _ (hpre c)
    Cert.RouteSpec.exists_reads _ _ _ h.1 h.2.1 h.2.2
  choose A hA using hA
  refine ⟨fun c => Cert.RouteJoin.outArr (A c), ?_, ?_⟩
  · exact (θ_run _ _ _).mono (fun r h c => ⟨(h c).1.trans (Cert.RouteJoin.arr_eq m c (hA c)), (h c).2⟩)
      (Cert.RouteIdeal.Value.run_blocks m g)
  · refine (θ_run _ _ _).mono (fun r h c => ⟨(h c).1.trans ?_, (h c).2⟩) (Cert.RouteReferenceIdeal.Value.run (F := Ideal) m' g')
    refine (Cert.RouteReferenceIdeal.Read.val_main_v18_eq (F := Ideal) _ _ _).trans ?_
    have hR : (A c).Reads (m' ((c.tc : Thread Cert.RouteReferenceIdeal.nD Cert.RouteReferenceIdeal.τ).loc Cert.RouteReferenceIdeal.main_arg0))
        (m' ((c.tc : Thread Cert.RouteReferenceIdeal.nD Cert.RouteReferenceIdeal.τ).loc Cert.RouteReferenceIdeal.main_arg1))
        (m' ((c.tc : Thread Cert.RouteReferenceIdeal.nD Cert.RouteReferenceIdeal.τ).loc Cert.RouteReferenceIdeal.main_arg2)) := by
      obtain ⟨e0, e1, e2⟩ := hargs c
      rw [e0, e1, e2]
      exact hA c
    funext i
    obtain ⟨b, t, r, rfl⟩ : ∃ (b : Fin 16) (t : Fin 8) (r : Fin 16), i = Idealize.ShloMosaic.ValueIdx.ix3 b t r :=
      ⟨i 0, i 1, i 2, Cert.Pos.at3 rfl rfl rfl⟩
    exact Cert.RouteRef.v18_at hR b t r

/-- All the claims of the certificate. -/
theorem claim : Cert.Claim := ⟨Cert.Kernel.Gen.facts, Cert.KernelIdeal.Gen.facts, Cert.ReferenceIdeal.Gen.facts,
  Cert.Route.Gen.facts, Cert.RouteIdeal.Gen.facts, Cert.RouteReferenceIdeal.Gen.facts, Cert.Pre_routes_in_range.Gen.facts, Cert.Pre_finite.Gen.facts,
  kernel_frame, ideal_frame, reference_frame, fun m g _ => Cert.Route.Gen.frame m g, fun m g _ => Cert.RouteIdeal.Gen.frame m g,
  fun m g _ => Cert.RouteIdeal.Gen.frame m g, fun m g _ => route_reference_frame m g, fun m g _ => route_reference_frame m g,
  preserved, algebraic, route_preserved, route_algebraic⟩

end Cert.Proof

end
